-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_finite_gate [hPre_finite_gate : Cert.Pre_finite_gate.Facts] (m : (ℓ : Loc Cert.GlaIdeal.nD Cert.GlaIdeal.τ Cert.GlaIdeal.sig) → Buf (Elt Ideal) ℓ) : Prop :=
  ∀ c : Dev Cert.GlaIdeal.nD,
    (Cert.Pre_finite_gate.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_finite_gate [hPre_finite_gate : Cert.Pre_finite_gate.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_finite_gate.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5)) (m ((c.tc : Thread Cert.GlaRefIdeal.nD Cert.GlaRefIdeal.τ).loc Cert.GlaRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_ProjAttn (m : (ℓ : Loc Cert.ProjAttn.nD Cert.ProjAttn.τ Cert.ProjAttn.sig) → Buf (Elt Bits) ℓ) : Prop :=
  True

def Pre_ProjAttnIdeal (m : (ℓ : Loc Cert.ProjAttnIdeal.nD Cert.ProjAttnIdeal.τ Cert.ProjAttnIdeal.sig) → Buf (Elt Ideal) ℓ) : Prop :=
  True

def Pre_ProjAttnRefIdeal (m : (ℓ : Loc Cert.ProjAttnRefIdeal.nD Cert.ProjAttnRefIdeal.τ Cert.ProjAttnRefIdeal.sig) → Buf (Elt Ideal) ℓ) : Prop :=
  True

def Pre_ProjGla (m : (ℓ : Loc Cert.ProjGla.nD Cert.ProjGla.τ Cert.ProjGla.sig) → Buf (Elt Bits) ℓ) : Prop :=
  True

def Pre_ProjGlaIdeal (m : (ℓ : Loc Cert.ProjGlaIdeal.nD Cert.ProjGlaIdeal.τ Cert.ProjGlaIdeal.sig) → Buf (Elt Ideal) ℓ) : Prop :=
  True

def Pre_ProjGlaRefIdeal (m : (ℓ : Loc Cert.ProjGlaRefIdeal.nD Cert.ProjGlaRefIdeal.τ Cert.ProjGlaRefIdeal.sig) → Buf (Elt Ideal) ℓ) : Prop :=
  True

def Pre_MixMem (m : (ℓ : Loc Cert.MixMem.nD Cert.MixMem.τ Cert.MixMem.sig) → Buf (Elt Bits) ℓ) : Prop :=
  True

def Pre_MixMemIdeal (m : (ℓ : Loc Cert.MixMemIdeal.nD Cert.MixMemIdeal.τ Cert.MixMemIdeal.sig) → Buf (Elt Ideal) ℓ) : Prop :=
  True

def Pre_MixMemRefIdeal (m : (ℓ : Loc Cert.MixMemRefIdeal.nD Cert.MixMemRefIdeal.τ Cert.MixMemRefIdeal.sig) → Buf (Elt Ideal) ℓ) : Prop :=
  True

def Pre_ProjAttnSample (m : (ℓ : Loc Cert.ProjAttnSample.nD Cert.ProjAttnSample.τ Cert.ProjAttnSample.sig) → Buf (Elt Bits) ℓ) : Prop :=
  True

def Pre_ProjAttnSampleIdeal (m : (ℓ : Loc Cert.ProjAttnSampleIdeal.nD Cert.ProjAttnSampleIdeal.τ Cert.ProjAttnSampleIdeal.sig) → Buf (Elt Ideal) ℓ) : Prop :=
  True

def Pre_ProjAttnSampleRefIdeal (m : (ℓ : Loc Cert.ProjAttnSampleRefIdeal.nD Cert.ProjAttnSampleRefIdeal.τ Cert.ProjAttnSampleRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_GlaPrompt (m : (ℓ : Loc Cert.GlaPrompt.nD Cert.GlaPrompt.τ Cert.GlaPrompt.sig) → Buf (Elt Bits) ℓ) : Prop :=
  True

def Pre_GlaPromptIdeal (m : (ℓ : Loc Cert.GlaPromptIdeal.nD Cert.GlaPromptIdeal.τ Cert.GlaPromptIdeal.sig) → Buf (Elt Ideal) ℓ) : Prop :=
  True

def Pre_GlaPromptIdeal_finite_gate_prompt [hPre_finite_gate_prompt : Cert.Pre_finite_gate_prompt.Facts] (m : (ℓ : Loc Cert.GlaPromptIdeal.nD Cert.GlaPromptIdeal.τ Cert.GlaPromptIdeal.sig) → Buf (Elt Ideal) ℓ) : Prop :=
  ∀ c : Dev Cert.GlaPromptIdeal.nD,
    (Cert.Pre_finite_gate_prompt.fn (F := Ideal) (m ((c.tc : Thread Cert.GlaPromptIdeal.nD Cert.GlaPromptIdeal.τ).loc Cert.GlaPromptIdeal.main_arg0)) (m ((c.tc : Thread Cert.GlaPromptIdeal.nD Cert.GlaPromptIdeal.τ).loc Cert.GlaPromptIdeal.main_arg1)) (m ((c.tc : Thread Cert.GlaPromptIdeal.nD Cert.GlaPromptIdeal.τ).loc Cert.GlaPromptIdeal.main_arg2)) (m ((c.tc : Thread Cert.GlaPromptIdeal.nD Cert.GlaPromptIdeal.τ).loc Cert.GlaPromptIdeal.main_arg3)) (m ((c.tc : Thread Cert.GlaPromptIdeal.nD Cert.GlaPromptIdeal.τ).loc Cert.GlaPromptIdeal.main_arg4)) (m ((c.tc : Thread Cert.GlaPromptIdeal.nD Cert.GlaPromptIdeal.τ).loc Cert.GlaPromptIdeal.main_arg5)) (m ((c.tc : Thread Cert.GlaPromptIdeal.nD Cert.GlaPromptIdeal.τ).loc Cert.GlaPromptIdeal.main_arg6))) = (fun _ => 1#1)

def Pre_GlaPromptRefIdeal (m : (ℓ : Loc Cert.GlaPromptRefIdeal.nD Cert.GlaPromptRefIdeal.τ Cert.GlaPromptRefIdeal.sig) → Buf (Elt Ideal) ℓ) : Prop :=
  True

def Pre_GlaPromptRefIdeal_finite_gate_prompt [hPre_finite_gate_prompt : Cert.Pre_finite_gate_prompt.Facts] (m : (ℓ : Loc Cert.GlaPromptRefIdeal.nD Cert.GlaPromptRefIdeal.τ Cert.GlaPromptRefIdeal.sig) → Buf (Elt Ideal) ℓ) : Prop :=
  ∀ c : Dev Cert.GlaPromptRefIdeal.nD,
    (Cert.Pre_finite_gate_prompt.fn (F := Ideal) (m ((c.tc : Thread Cert.GlaPromptRefIdeal.nD Cert.GlaPromptRefIdeal.τ).loc Cert.GlaPromptRefIdeal.main_arg0)) (m ((c.tc : Thread Cert.GlaPromptRefIdeal.nD Cert.GlaPromptRefIdeal.τ).loc Cert.GlaPromptRefIdeal.main_arg1)) (m ((c.tc : Thread Cert.GlaPromptRefIdeal.nD Cert.GlaPromptRefIdeal.τ).loc Cert.GlaPromptRefIdeal.main_arg2)) (m ((c.tc : Thread Cert.GlaPromptRefIdeal.nD Cert.GlaPromptRefIdeal.τ).loc Cert.GlaPromptRefIdeal.main_arg3)) (m ((c.tc : Thread Cert.GlaPromptRefIdeal.nD Cert.GlaPromptRefIdeal.τ).loc Cert.GlaPromptRefIdeal.main_arg4)) (m ((c.tc : Thread Cert.GlaPromptRefIdeal.nD Cert.GlaPromptRefIdeal.τ).loc Cert.GlaPromptRefIdeal.main_arg5)) (m ((c.tc : Thread Cert.GlaPromptRefIdeal.nD Cert.GlaPromptRefIdeal.τ).loc Cert.GlaPromptRefIdeal.main_arg6))) = (fun _ => 1#1)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ r.2.sem = fun _ => 0)

def quiescent_GlaIdeal_pre_finite_gate [hGlaIdeal : Cert.GlaIdeal.Facts] [hPre_finite_gate : Cert.Pre_finite_gate.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_finite_gate m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6))
      ∧ r.2.sem = fun _ => 0)

def quiescent_GlaRefIdeal_pre_finite_gate [hGlaRefIdeal : Cert.GlaRefIdeal.Facts] [hPre_finite_gate : Cert.Pre_finite_gate.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_finite_gate m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_ProjAttn [hProjAttn : Cert.ProjAttn.Facts] : Prop :=
  ∀ (m : (ℓ : Loc Cert.ProjAttn.nD Cert.ProjAttn.τ Cert.ProjAttn.sig) → Buf (Elt Bits) ℓ) (g : Dev Cert.ProjAttn.nD → PrngReg), Pre_ProjAttn m →
    θ_run (Cert.ProjAttn.defs (F := Bits)) (onTc (τ := Cert.ProjAttn.τ) (Cert.ProjAttn.main (F := Bits))) ⟨m, fun _ => 0, g⟩ (fun r => (∀ c : Dev Cert.ProjAttn.nD,
      r.2.mem ((c.tc : Thread Cert.ProjAttn.nD Cert.ProjAttn.τ).loc Cert.ProjAttn.main_arg0) = m ((c.tc : Thread Cert.ProjAttn.nD Cert.ProjAttn.τ).loc Cert.ProjAttn.main_arg0)
      ∧ r.2.mem ((c.tc : Thread Cert.ProjAttn.nD Cert.ProjAttn.τ).loc Cert.ProjAttn.main_arg1) = m ((c.tc : Thread Cert.ProjAttn.nD Cert.ProjAttn.τ).loc Cert.ProjAttn.main_arg1)
      ∧ r.2.mem ((c.tc : Thread Cert.ProjAttn.nD Cert.ProjAttn.τ).loc Cert.ProjAttn.main_arg2) = m ((c.tc : Thread Cert.ProjAttn.nD Cert.ProjAttn.τ).loc Cert.ProjAttn.main_arg2)
      ∧ r.2.mem ((c.tc : Thread Cert.ProjAttn.nD Cert.ProjAttn.τ).loc Cert.ProjAttn.main_arg3) = m ((c.tc : Thread Cert.ProjAttn.nD Cert.ProjAttn.τ).loc Cert.ProjAttn.main_arg3))
      ∧ r.2.sem = fun _ => 0)

def quiescent_ProjAttnIdeal [hProjAttnIdeal : Cert.ProjAttnIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg), Pre_ProjAttnIdeal m →
    θ_run (Cert.ProjAttnIdeal.defs (F := Ideal)) (onTc (τ := Cert.ProjAttnIdeal.τ) (Cert.ProjAttnIdeal.main (F := Ideal))) ⟨m, fun _ => 0, g⟩ (fun r => (∀ c : Dev Cert.ProjAttnIdeal.nD,
      r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
      ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1)
      ∧ r.2.mem ((c.tc : Thread Cert.ProjAttnIdeal.nD Cert.ProjAttnIdeal.τ).loc Cert.ProjAttnIdeal.main_arg2) = m ((c.tc : Thread Cert.ProjAttnIdeal.nD Cert.ProjAttnIdeal.τ).loc Cert.ProjAttnIdeal.main_arg2)
      ∧ r.2.mem ((c.tc : Thread Cert.ProjAttnIdeal.nD Cert.ProjAttnIdeal.τ).loc Cert.ProjAttnIdeal.main_arg3) = m ((c.tc : Thread Cert.ProjAttnIdeal.nD Cert.ProjAttnIdeal.τ).loc Cert.ProjAttnIdeal.main_arg3))
      ∧ r.2.sem = fun _ => 0)

def quiescent_ProjAttnRefIdeal [hProjAttnRefIdeal : Cert.ProjAttnRefIdeal.Facts] : Prop :=
  ∀ (m : (ℓ : Loc Cert.ProjAttnRefIdeal.nD Cert.ProjAttnRefIdeal.τ Cert.ProjAttnRefIdeal.sig) → Buf (Elt Ideal) ℓ) (g : Dev Cert.ProjAttnRefIdeal.nD → PrngReg), Pre_ProjAttnRefIdeal m →
    θ_run (Cert.ProjAttnRefIdeal.defs (F := Ideal)) (onTc (τ := Cert.ProjAttnRefIdeal.τ) (Cert.ProjAttnRefIdeal.main (F := Ideal))) ⟨m, fun _ => 0, g⟩ (fun r => (∀ c : Dev Cert.ProjAttnRefIdeal.nD,
      r.2.mem ((c.tc : Thread Cert.ProjAttnRefIdeal.nD Cert.ProjAttnRefIdeal.τ).loc Cert.ProjAttnRefIdeal.main_arg0) = m ((c.tc : Thread Cert.ProjAttnRefIdeal.nD Cert.ProjAttnRefIdeal.τ).loc Cert.ProjAttnRefIdeal.main_arg0)
      ∧ r.2.mem ((c.tc : Thread Cert.ProjAttnRefIdeal.nD Cert.ProjAttnRefIdeal.τ).loc Cert.ProjAttnRefIdeal.main_arg1) = m ((c.tc : Thread Cert.ProjAttnRefIdeal.nD Cert.ProjAttnRefIdeal.τ).loc Cert.ProjAttnRefIdeal.main_arg1)
      ∧ r.2.mem ((c.tc : Thread Cert.ProjAttnRefIdeal.nD Cert.ProjAttnRefIdeal.τ).loc Cert.ProjAttnRefIdeal.main_arg2) = m ((c.tc : Thread Cert.ProjAttnRefIdeal.nD Cert.ProjAttnRefIdeal.τ).loc Cert.ProjAttnRefIdeal.main_arg2)
      ∧ r.2.mem ((c.tc : Thread Cert.ProjAttnRefIdeal.nD Cert.ProjAttnRefIdeal.τ).loc Cert.ProjAttnRefIdeal.main_arg3) = m ((c.tc : Thread Cert.ProjAttnRefIdeal.nD Cert.ProjAttnRefIdeal.τ).loc Cert.ProjAttnRefIdeal.main_arg3))
      ∧ r.2.sem = fun _ => 0)

def quiescent_ProjGla [hProjGla : Cert.ProjGla.Facts] : Prop :=
  ∀ (m : (ℓ : Loc Cert.ProjGla.nD Cert.ProjGla.τ Cert.ProjGla.sig) → Buf (Elt Bits) ℓ) (g : Dev Cert.ProjGla.nD → PrngReg), Pre_ProjGla m →
    θ_run (Cert.ProjGla.defs (F := Bits)) (onTc (τ := Cert.ProjGla.τ) (Cert.ProjGla.main (F := Bits))) ⟨m, fun _ => 0, g⟩ (fun r => (∀ c : Dev Cert.ProjGla.nD,
      r.2.mem ((c.tc : Thread Cert.ProjGla.nD Cert.ProjGla.τ).loc Cert.ProjGla.main_arg0) = m ((c.tc : Thread Cert.ProjGla.nD Cert.ProjGla.τ).loc Cert.ProjGla.main_arg0)
      ∧ r.2.mem ((c.tc : Thread Cert.ProjGla.nD Cert.ProjGla.τ).loc Cert.ProjGla.main_arg1) = m ((c.tc : Thread Cert.ProjGla.nD Cert.ProjGla.τ).loc Cert.ProjGla.main_arg1)
      ∧ r.2.mem ((c.tc : Thread Cert.ProjGla.nD Cert.ProjGla.τ).loc Cert.ProjGla.main_arg2) = m ((c.tc : Thread Cert.ProjGla.nD Cert.ProjGla.τ).loc Cert.ProjGla.main_arg2))
      ∧ r.2.sem = fun _ => 0)

def quiescent_ProjGlaIdeal [hProjGlaIdeal : Cert.ProjGlaIdeal.Facts] : Prop :=
  ∀ (m : (ℓ : Loc Cert.ProjGlaIdeal.nD Cert.ProjGlaIdeal.τ Cert.ProjGlaIdeal.sig) → Buf (Elt Ideal) ℓ) (g : Dev Cert.ProjGlaIdeal.nD → PrngReg), Pre_ProjGlaIdeal m →
    θ_run (Cert.ProjGlaIdeal.defs (F := Ideal)) (onTc (τ := Cert.ProjGlaIdeal.τ) (Cert.ProjGlaIdeal.main (F := Ideal))) ⟨m, fun _ => 0, g⟩ (fun r => (∀ c : Dev Cert.ProjGlaIdeal.nD,
      r.2.mem ((c.tc : Thread Cert.ProjGlaIdeal.nD Cert.ProjGlaIdeal.τ).loc Cert.ProjGlaIdeal.main_arg0) = m ((c.tc : Thread Cert.ProjGlaIdeal.nD Cert.ProjGlaIdeal.τ).loc Cert.ProjGlaIdeal.main_arg0)
      ∧ r.2.mem ((c.tc : Thread Cert.ProjGlaIdeal.nD Cert.ProjGlaIdeal.τ).loc Cert.ProjGlaIdeal.main_arg1) = m ((c.tc : Thread Cert.ProjGlaIdeal.nD Cert.ProjGlaIdeal.τ).loc Cert.ProjGlaIdeal.main_arg1)
      ∧ r.2.mem ((c.tc : Thread Cert.ProjGlaIdeal.nD Cert.ProjGlaIdeal.τ).loc Cert.ProjGlaIdeal.main_arg2) = m ((c.tc : Thread Cert.ProjGlaIdeal.nD Cert.ProjGlaIdeal.τ).loc Cert.ProjGlaIdeal.main_arg2))
      ∧ r.2.sem = fun _ => 0)

def quiescent_ProjGlaRefIdeal [hProjGlaRefIdeal : Cert.ProjGlaRefIdeal.Facts] : Prop :=
  ∀ (m : (ℓ : Loc Cert.ProjGlaRefIdeal.nD Cert.ProjGlaRefIdeal.τ Cert.ProjGlaRefIdeal.sig) → Buf (Elt Ideal) ℓ) (g : Dev Cert.ProjGlaRefIdeal.nD → PrngReg), Pre_ProjGlaRefIdeal m →
    θ_run (Cert.ProjGlaRefIdeal.defs (F := Ideal)) (onTc (τ := Cert.ProjGlaRefIdeal.τ) (Cert.ProjGlaRefIdeal.main (F := Ideal))) ⟨m, fun _ => 0, g⟩ (fun r => (∀ c : Dev Cert.ProjGlaRefIdeal.nD,
      r.2.mem ((c.tc : Thread Cert.ProjGlaRefIdeal.nD Cert.ProjGlaRefIdeal.τ).loc Cert.ProjGlaRefIdeal.main_arg0) = m ((c.tc : Thread Cert.ProjGlaRefIdeal.nD Cert.ProjGlaRefIdeal.τ).loc Cert.ProjGlaRefIdeal.main_arg0)
      ∧ r.2.mem ((c.tc : Thread Cert.ProjGlaRefIdeal.nD Cert.ProjGlaRefIdeal.τ).loc Cert.ProjGlaRefIdeal.main_arg1) = m ((c.tc : Thread Cert.ProjGlaRefIdeal.nD Cert.ProjGlaRefIdeal.τ).loc Cert.ProjGlaRefIdeal.main_arg1)
      ∧ r.2.mem ((c.tc : Thread Cert.ProjGlaRefIdeal.nD Cert.ProjGlaRefIdeal.τ).loc Cert.ProjGlaRefIdeal.main_arg2) = m ((c.tc : Thread Cert.ProjGlaRefIdeal.nD Cert.ProjGlaRefIdeal.τ).loc Cert.ProjGlaRefIdeal.main_arg2))
      ∧ r.2.sem = fun _ => 0)

def quiescent_MixMem [hMixMem : Cert.MixMem.Facts] : Prop :=
  ∀ (m : (ℓ : Loc Cert.MixMem.nD Cert.MixMem.τ Cert.MixMem.sig) → Buf (Elt Bits) ℓ) (g : Dev Cert.MixMem.nD → PrngReg), Pre_MixMem m →
    θ_run (Cert.MixMem.defs (F := Bits)) (onTc (τ := Cert.MixMem.τ) (Cert.MixMem.main (F := Bits))) ⟨m, fun _ => 0, g⟩ (fun r => (∀ c : Dev Cert.MixMem.nD,
      r.2.mem ((c.tc : Thread Cert.MixMem.nD Cert.MixMem.τ).loc Cert.MixMem.main_arg0) = m ((c.tc : Thread Cert.MixMem.nD Cert.MixMem.τ).loc Cert.MixMem.main_arg0)
      ∧ r.2.mem ((c.tc : Thread Cert.MixMem.nD Cert.MixMem.τ).loc Cert.MixMem.main_arg1) = m ((c.tc : Thread Cert.MixMem.nD Cert.MixMem.τ).loc Cert.MixMem.main_arg1)
      ∧ r.2.mem ((c.tc : Thread Cert.MixMem.nD Cert.MixMem.τ).loc Cert.MixMem.main_arg2) = m ((c.tc : Thread Cert.MixMem.nD Cert.MixMem.τ).loc Cert.MixMem.main_arg2)
      ∧ r.2.mem ((c.tc : Thread Cert.MixMem.nD Cert.MixMem.τ).loc Cert.MixMem.main_arg3) = m ((c.tc : Thread Cert.MixMem.nD Cert.MixMem.τ).loc Cert.MixMem.main_arg3)
      ∧ r.2.mem ((c.tc : Thread Cert.MixMem.nD Cert.MixMem.τ).loc Cert.MixMem.main_arg4) = m ((c.tc : Thread Cert.MixMem.nD Cert.MixMem.τ).loc Cert.MixMem.main_arg4)
      ∧ r.2.mem ((c.tc : Thread Cert.MixMem.nD Cert.MixMem.τ).loc Cert.MixMem.main_arg5) = m ((c.tc : Thread Cert.MixMem.nD Cert.MixMem.τ).loc Cert.MixMem.main_arg5)
      ∧ r.2.mem ((c.tc : Thread Cert.MixMem.nD Cert.MixMem.τ).loc Cert.MixMem.main_arg6) = m ((c.tc : Thread Cert.MixMem.nD Cert.MixMem.τ).loc Cert.MixMem.main_arg6)
      ∧ r.2.mem ((c.tc : Thread Cert.MixMem.nD Cert.MixMem.τ).loc Cert.MixMem.main_arg7) = m ((c.tc : Thread Cert.MixMem.nD Cert.MixMem.τ).loc Cert.MixMem.main_arg7)
      ∧ r.2.mem ((c.tc : Thread Cert.MixMem.nD Cert.MixMem.τ).loc Cert.MixMem.main_arg8) = m ((c.tc : Thread Cert.MixMem.nD Cert.MixMem.τ).loc Cert.MixMem.main_arg8)
      ∧ r.2.mem ((c.tc : Thread Cert.MixMem.nD Cert.MixMem.τ).loc Cert.MixMem.main_arg9) = m ((c.tc : Thread Cert.MixMem.nD Cert.MixMem.τ).loc Cert.MixMem.main_arg9)
      ∧ r.2.mem ((c.tc : Thread Cert.MixMem.nD Cert.MixMem.τ).loc Cert.MixMem.main_arg10) = m ((c.tc : Thread Cert.MixMem.nD Cert.MixMem.τ).loc Cert.MixMem.main_arg10)
      ∧ r.2.mem ((c.tc : Thread Cert.MixMem.nD Cert.MixMem.τ).loc Cert.MixMem.main_arg11) = m ((c.tc : Thread Cert.MixMem.nD Cert.MixMem.τ).loc Cert.MixMem.main_arg11))
      ∧ r.2.sem = fun _ => 0)

def quiescent_MixMemIdeal [hMixMemIdeal : Cert.MixMemIdeal.Facts] : Prop :=
  ∀ (m : (ℓ : Loc Cert.MixMemIdeal.nD Cert.MixMemIdeal.τ Cert.MixMemIdeal.sig) → Buf (Elt Ideal) ℓ) (g : Dev Cert.MixMemIdeal.nD → PrngReg), Pre_MixMemIdeal m →
    θ_run (Cert.MixMemIdeal.defs (F := Ideal)) (onTc (τ := Cert.MixMemIdeal.τ) (Cert.MixMemIdeal.main (F := Ideal))) ⟨m, fun _ => 0, g⟩ (fun r => (∀ c : Dev Cert.MixMemIdeal.nD,
      r.2.mem ((c.tc : Thread Cert.MixMemIdeal.nD Cert.MixMemIdeal.τ).loc Cert.MixMemIdeal.main_arg0) = m ((c.tc : Thread Cert.MixMemIdeal.nD Cert.MixMemIdeal.τ).loc Cert.MixMemIdeal.main_arg0)
      ∧ r.2.mem ((c.tc : Thread Cert.MixMemIdeal.nD Cert.MixMemIdeal.τ).loc Cert.MixMemIdeal.main_arg1) = m ((c.tc : Thread Cert.MixMemIdeal.nD Cert.MixMemIdeal.τ).loc Cert.MixMemIdeal.main_arg1)
      ∧ r.2.mem ((c.tc : Thread Cert.MixMemIdeal.nD Cert.MixMemIdeal.τ).loc Cert.MixMemIdeal.main_arg2) = m ((c.tc : Thread Cert.MixMemIdeal.nD Cert.MixMemIdeal.τ).loc Cert.MixMemIdeal.main_arg2)
      ∧ r.2.mem ((c.tc : Thread Cert.MixMemIdeal.nD Cert.MixMemIdeal.τ).loc Cert.MixMemIdeal.main_arg3) = m ((c.tc : Thread Cert.MixMemIdeal.nD Cert.MixMemIdeal.τ).loc Cert.MixMemIdeal.main_arg3)
      ∧ r.2.mem ((c.tc : Thread Cert.MixMemIdeal.nD Cert.MixMemIdeal.τ).loc Cert.MixMemIdeal.main_arg4) = m ((c.tc : Thread Cert.MixMemIdeal.nD Cert.MixMemIdeal.τ).loc Cert.MixMemIdeal.main_arg4)
      ∧ r.2.mem ((c.tc : Thread Cert.MixMemIdeal.nD Cert.MixMemIdeal.τ).loc Cert.MixMemIdeal.main_arg5) = m ((c.tc : Thread Cert.MixMemIdeal.nD Cert.MixMemIdeal.τ).loc Cert.MixMemIdeal.main_arg5)
      ∧ r.2.mem ((c.tc : Thread Cert.MixMemIdeal.nD Cert.MixMemIdeal.τ).loc Cert.MixMemIdeal.main_arg6) = m ((c.tc : Thread Cert.MixMemIdeal.nD Cert.MixMemIdeal.τ).loc Cert.MixMemIdeal.main_arg6)
      ∧ r.2.mem ((c.tc : Thread Cert.MixMemIdeal.nD Cert.MixMemIdeal.τ).loc Cert.MixMemIdeal.main_arg7) = m ((c.tc : Thread Cert.MixMemIdeal.nD Cert.MixMemIdeal.τ).loc Cert.MixMemIdeal.main_arg7)
      ∧ r.2.mem ((c.tc : Thread Cert.MixMemIdeal.nD Cert.MixMemIdeal.τ).loc Cert.MixMemIdeal.main_arg8) = m ((c.tc : Thread Cert.MixMemIdeal.nD Cert.MixMemIdeal.τ).loc Cert.MixMemIdeal.main_arg8)
      ∧ r.2.mem ((c.tc : Thread Cert.MixMemIdeal.nD Cert.MixMemIdeal.τ).loc Cert.MixMemIdeal.main_arg9) = m ((c.tc : Thread Cert.MixMemIdeal.nD Cert.MixMemIdeal.τ).loc Cert.MixMemIdeal.main_arg9)
      ∧ r.2.mem ((c.tc : Thread Cert.MixMemIdeal.nD Cert.MixMemIdeal.τ).loc Cert.MixMemIdeal.main_arg10) = m ((c.tc : Thread Cert.MixMemIdeal.nD Cert.MixMemIdeal.τ).loc Cert.MixMemIdeal.main_arg10)
      ∧ r.2.mem ((c.tc : Thread Cert.MixMemIdeal.nD Cert.MixMemIdeal.τ).loc Cert.MixMemIdeal.main_arg11) = m ((c.tc : Thread Cert.MixMemIdeal.nD Cert.MixMemIdeal.τ).loc Cert.MixMemIdeal.main_arg11))
      ∧ r.2.sem = fun _ => 0)

def quiescent_MixMemRefIdeal [hMixMemRefIdeal : Cert.MixMemRefIdeal.Facts] : Prop :=
  ∀ (m : (ℓ : Loc Cert.MixMemRefIdeal.nD Cert.MixMemRefIdeal.τ Cert.MixMemRefIdeal.sig) → Buf (Elt Ideal) ℓ) (g : Dev Cert.MixMemRefIdeal.nD → PrngReg), Pre_MixMemRefIdeal m →
    θ_run (Cert.MixMemRefIdeal.defs (F := Ideal)) (onTc (τ := Cert.MixMemRefIdeal.τ) (Cert.MixMemRefIdeal.main (F := Ideal))) ⟨m, fun _ => 0, g⟩ (fun r => (∀ c : Dev Cert.MixMemRefIdeal.nD,
      r.2.mem ((c.tc : Thread Cert.MixMemRefIdeal.nD Cert.MixMemRefIdeal.τ).loc Cert.MixMemRefIdeal.main_arg0) = m ((c.tc : Thread Cert.MixMemRefIdeal.nD Cert.MixMemRefIdeal.τ).loc Cert.MixMemRefIdeal.main_arg0)
      ∧ r.2.mem ((c.tc : Thread Cert.MixMemRefIdeal.nD Cert.MixMemRefIdeal.τ).loc Cert.MixMemRefIdeal.main_arg1) = m ((c.tc : Thread Cert.MixMemRefIdeal.nD Cert.MixMemRefIdeal.τ).loc Cert.MixMemRefIdeal.main_arg1)
      ∧ r.2.mem ((c.tc : Thread Cert.MixMemRefIdeal.nD Cert.MixMemRefIdeal.τ).loc Cert.MixMemRefIdeal.main_arg2) = m ((c.tc : Thread Cert.MixMemRefIdeal.nD Cert.MixMemRefIdeal.τ).loc Cert.MixMemRefIdeal.main_arg2)
      ∧ r.2.mem ((c.tc : Thread Cert.MixMemRefIdeal.nD Cert.MixMemRefIdeal.τ).loc Cert.MixMemRefIdeal.main_arg3) = m ((c.tc : Thread Cert.MixMemRefIdeal.nD Cert.MixMemRefIdeal.τ).loc Cert.MixMemRefIdeal.main_arg3)
      ∧ r.2.mem ((c.tc : Thread Cert.MixMemRefIdeal.nD Cert.MixMemRefIdeal.τ).loc Cert.MixMemRefIdeal.main_arg4) = m ((c.tc : Thread Cert.MixMemRefIdeal.nD Cert.MixMemRefIdeal.τ).loc Cert.MixMemRefIdeal.main_arg4)
      ∧ r.2.mem ((c.tc : Thread Cert.MixMemRefIdeal.nD Cert.MixMemRefIdeal.τ).loc Cert.MixMemRefIdeal.main_arg5) = m ((c.tc : Thread Cert.MixMemRefIdeal.nD Cert.MixMemRefIdeal.τ).loc Cert.MixMemRefIdeal.main_arg5)
      ∧ r.2.mem ((c.tc : Thread Cert.MixMemRefIdeal.nD Cert.MixMemRefIdeal.τ).loc Cert.MixMemRefIdeal.main_arg6) = m ((c.tc : Thread Cert.MixMemRefIdeal.nD Cert.MixMemRefIdeal.τ).loc Cert.MixMemRefIdeal.main_arg6)
      ∧ r.2.mem ((c.tc : Thread Cert.MixMemRefIdeal.nD Cert.MixMemRefIdeal.τ).loc Cert.MixMemRefIdeal.main_arg7) = m ((c.tc : Thread Cert.MixMemRefIdeal.nD Cert.MixMemRefIdeal.τ).loc Cert.MixMemRefIdeal.main_arg7)
      ∧ r.2.mem ((c.tc : Thread Cert.MixMemRefIdeal.nD Cert.MixMemRefIdeal.τ).loc Cert.MixMemRefIdeal.main_arg8) = m ((c.tc : Thread Cert.MixMemRefIdeal.nD Cert.MixMemRefIdeal.τ).loc Cert.MixMemRefIdeal.main_arg8)
      ∧ r.2.mem ((c.tc : Thread Cert.MixMemRefIdeal.nD Cert.MixMemRefIdeal.τ).loc Cert.MixMemRefIdeal.main_arg9) = m ((c.tc : Thread Cert.MixMemRefIdeal.nD Cert.MixMemRefIdeal.τ).loc Cert.MixMemRefIdeal.main_arg9)
      ∧ r.2.mem ((c.tc : Thread Cert.MixMemRefIdeal.nD Cert.MixMemRefIdeal.τ).loc Cert.MixMemRefIdeal.main_arg10) = m ((c.tc : Thread Cert.MixMemRefIdeal.nD Cert.MixMemRefIdeal.τ).loc Cert.MixMemRefIdeal.main_arg10)
      ∧ r.2.mem ((c.tc : Thread Cert.MixMemRefIdeal.nD Cert.MixMemRefIdeal.τ).loc Cert.MixMemRefIdeal.main_arg11) = m ((c.tc : Thread Cert.MixMemRefIdeal.nD Cert.MixMemRefIdeal.τ).loc Cert.MixMemRefIdeal.main_arg11))
      ∧ r.2.sem = fun _ => 0)

def quiescent_ProjAttnSample [hProjAttnSample : Cert.ProjAttnSample.Facts] : Prop :=
  ∀ (m : (ℓ : Loc Cert.ProjAttnSample.nD Cert.ProjAttnSample.τ Cert.ProjAttnSample.sig) → Buf (Elt Bits) ℓ) (g : Dev Cert.ProjAttnSample.nD → PrngReg), Pre_ProjAttnSample m →
    θ_run (Cert.ProjAttnSample.defs (F := Bits)) (onTc (τ := Cert.ProjAttnSample.τ) (Cert.ProjAttnSample.main (F := Bits))) ⟨m, fun _ => 0, g⟩ (fun r => (∀ c : Dev Cert.ProjAttnSample.nD,
      r.2.mem ((c.tc : Thread Cert.ProjAttnSample.nD Cert.ProjAttnSample.τ).loc Cert.ProjAttnSample.main_arg0) = m ((c.tc : Thread Cert.ProjAttnSample.nD Cert.ProjAttnSample.τ).loc Cert.ProjAttnSample.main_arg0)
      ∧ r.2.mem ((c.tc : Thread Cert.ProjAttnSample.nD Cert.ProjAttnSample.τ).loc Cert.ProjAttnSample.main_arg1) = m ((c.tc : Thread Cert.ProjAttnSample.nD Cert.ProjAttnSample.τ).loc Cert.ProjAttnSample.main_arg1)
      ∧ r.2.mem ((c.tc : Thread Cert.ProjAttnSample.nD Cert.ProjAttnSample.τ).loc Cert.ProjAttnSample.main_arg2) = m ((c.tc : Thread Cert.ProjAttnSample.nD Cert.ProjAttnSample.τ).loc Cert.ProjAttnSample.main_arg2)
      ∧ r.2.mem ((c.tc : Thread Cert.ProjAttnSample.nD Cert.ProjAttnSample.τ).loc Cert.ProjAttnSample.main_arg3) = m ((c.tc : Thread Cert.ProjAttnSample.nD Cert.ProjAttnSample.τ).loc Cert.ProjAttnSample.main_arg3))
      ∧ r.2.sem = fun _ => 0)

def quiescent_ProjAttnSampleIdeal [hProjAttnSampleIdeal : Cert.ProjAttnSampleIdeal.Facts] : Prop :=
  ∀ (m : (ℓ : Loc Cert.ProjAttnSampleIdeal.nD Cert.ProjAttnSampleIdeal.τ Cert.ProjAttnSampleIdeal.sig) → Buf (Elt Ideal) ℓ) (g : Dev Cert.ProjAttnSampleIdeal.nD → PrngReg), Pre_ProjAttnSampleIdeal m →
    θ_run (Cert.ProjAttnSampleIdeal.defs (F := Ideal)) (onTc (τ := Cert.ProjAttnSampleIdeal.τ) (Cert.ProjAttnSampleIdeal.main (F := Ideal))) ⟨m, fun _ => 0, g⟩ (fun r => (∀ c : Dev Cert.ProjAttnSampleIdeal.nD,
      r.2.mem ((c.tc : Thread Cert.ProjAttnSampleIdeal.nD Cert.ProjAttnSampleIdeal.τ).loc Cert.ProjAttnSampleIdeal.main_arg0) = m ((c.tc : Thread Cert.ProjAttnSampleIdeal.nD Cert.ProjAttnSampleIdeal.τ).loc Cert.ProjAttnSampleIdeal.main_arg0)
      ∧ r.2.mem ((c.tc : Thread Cert.ProjAttnSampleIdeal.nD Cert.ProjAttnSampleIdeal.τ).loc Cert.ProjAttnSampleIdeal.main_arg1) = m ((c.tc : Thread Cert.ProjAttnSampleIdeal.nD Cert.ProjAttnSampleIdeal.τ).loc Cert.ProjAttnSampleIdeal.main_arg1)
      ∧ r.2.mem ((c.tc : Thread Cert.ProjAttnSampleIdeal.nD Cert.ProjAttnSampleIdeal.τ).loc Cert.ProjAttnSampleIdeal.main_arg2) = m ((c.tc : Thread Cert.ProjAttnSampleIdeal.nD Cert.ProjAttnSampleIdeal.τ).loc Cert.ProjAttnSampleIdeal.main_arg2)
      ∧ r.2.mem ((c.tc : Thread Cert.ProjAttnSampleIdeal.nD Cert.ProjAttnSampleIdeal.τ).loc Cert.ProjAttnSampleIdeal.main_arg3) = m ((c.tc : Thread Cert.ProjAttnSampleIdeal.nD Cert.ProjAttnSampleIdeal.τ).loc Cert.ProjAttnSampleIdeal.main_arg3))
      ∧ r.2.sem = fun _ => 0)

def quiescent_ProjAttnSampleRefIdeal [hProjAttnSampleRefIdeal : Cert.ProjAttnSampleRefIdeal.Facts] : Prop :=
  ∀ (m : (ℓ : Loc Cert.ProjAttnSampleRefIdeal.nD Cert.ProjAttnSampleRefIdeal.τ Cert.ProjAttnSampleRefIdeal.sig) → Buf (Elt Ideal) ℓ) (g : Dev Cert.ProjAttnSampleRefIdeal.nD → PrngReg), Pre_ProjAttnSampleRefIdeal m →
    θ_run (Cert.ProjAttnSampleRefIdeal.defs (F := Ideal)) (onTc (τ := Cert.ProjAttnSampleRefIdeal.τ) (Cert.ProjAttnSampleRefIdeal.main (F := Ideal))) ⟨m, fun _ => 0, g⟩ (fun r => (∀ c : Dev Cert.ProjAttnSampleRefIdeal.nD,
      r.2.mem ((c.tc : Thread Cert.ProjAttnSampleRefIdeal.nD Cert.ProjAttnSampleRefIdeal.τ).loc Cert.ProjAttnSampleRefIdeal.main_arg0) = m ((c.tc : Thread Cert.ProjAttnSampleRefIdeal.nD Cert.ProjAttnSampleRefIdeal.τ).loc Cert.ProjAttnSampleRefIdeal.main_arg0)
      ∧ r.2.mem ((c.tc : Thread Cert.ProjAttnSampleRefIdeal.nD Cert.ProjAttnSampleRefIdeal.τ).loc Cert.ProjAttnSampleRefIdeal.main_arg1) = m ((c.tc : Thread Cert.ProjAttnSampleRefIdeal.nD Cert.ProjAttnSampleRefIdeal.τ).loc Cert.ProjAttnSampleRefIdeal.main_arg1)
      ∧ r.2.mem ((c.tc : Thread Cert.ProjAttnSampleRefIdeal.nD Cert.ProjAttnSampleRefIdeal.τ).loc Cert.ProjAttnSampleRefIdeal.main_arg2) = m ((c.tc : Thread Cert.ProjAttnSampleRefIdeal.nD Cert.ProjAttnSampleRefIdeal.τ).loc Cert.ProjAttnSampleRefIdeal.main_arg2)
      ∧ r.2.mem ((c.tc : Thread Cert.ProjAttnSampleRefIdeal.nD Cert.ProjAttnSampleRefIdeal.τ).loc Cert.ProjAttnSampleRefIdeal.main_arg3) = m ((c.tc : Thread Cert.ProjAttnSampleRefIdeal.nD Cert.ProjAttnSampleRefIdeal.τ).loc Cert.ProjAttnSampleRefIdeal.main_arg3))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5))
      ∧ r.2.sem = fun _ => 0)

def quiescent_GlaPrompt [hGlaPrompt : Cert.GlaPrompt.Facts] : Prop :=
  ∀ (m : (ℓ : Loc Cert.GlaPrompt.nD Cert.GlaPrompt.τ Cert.GlaPrompt.sig) → Buf (Elt Bits) ℓ) (g : Dev Cert.GlaPrompt.nD → PrngReg), Pre_GlaPrompt m →
    θ_run (Cert.GlaPrompt.defs (F := Bits)) (onTc (τ := Cert.GlaPrompt.τ) (Cert.GlaPrompt.main (F := Bits))) ⟨m, fun _ => 0, g⟩ (fun r => (∀ c : Dev Cert.GlaPrompt.nD,
      r.2.mem ((c.tc : Thread Cert.GlaPrompt.nD Cert.GlaPrompt.τ).loc Cert.GlaPrompt.main_arg0) = m ((c.tc : Thread Cert.GlaPrompt.nD Cert.GlaPrompt.τ).loc Cert.GlaPrompt.main_arg0)
      ∧ r.2.mem ((c.tc : Thread Cert.GlaPrompt.nD Cert.GlaPrompt.τ).loc Cert.GlaPrompt.main_arg1) = m ((c.tc : Thread Cert.GlaPrompt.nD Cert.GlaPrompt.τ).loc Cert.GlaPrompt.main_arg1)
      ∧ r.2.mem ((c.tc : Thread Cert.GlaPrompt.nD Cert.GlaPrompt.τ).loc Cert.GlaPrompt.main_arg2) = m ((c.tc : Thread Cert.GlaPrompt.nD Cert.GlaPrompt.τ).loc Cert.GlaPrompt.main_arg2)
      ∧ r.2.mem ((c.tc : Thread Cert.GlaPrompt.nD Cert.GlaPrompt.τ).loc Cert.GlaPrompt.main_arg3) = m ((c.tc : Thread Cert.GlaPrompt.nD Cert.GlaPrompt.τ).loc Cert.GlaPrompt.main_arg3)
      ∧ r.2.mem ((c.tc : Thread Cert.GlaPrompt.nD Cert.GlaPrompt.τ).loc Cert.GlaPrompt.main_arg4) = m ((c.tc : Thread Cert.GlaPrompt.nD Cert.GlaPrompt.τ).loc Cert.GlaPrompt.main_arg4)
      ∧ r.2.mem ((c.tc : Thread Cert.GlaPrompt.nD Cert.GlaPrompt.τ).loc Cert.GlaPrompt.main_arg5) = m ((c.tc : Thread Cert.GlaPrompt.nD Cert.GlaPrompt.τ).loc Cert.GlaPrompt.main_arg5)
      ∧ r.2.mem ((c.tc : Thread Cert.GlaPrompt.nD Cert.GlaPrompt.τ).loc Cert.GlaPrompt.main_arg6) = m ((c.tc : Thread Cert.GlaPrompt.nD Cert.GlaPrompt.τ).loc Cert.GlaPrompt.main_arg6))
      ∧ r.2.sem = fun _ => 0)

def quiescent_GlaPromptIdeal [hGlaPromptIdeal : Cert.GlaPromptIdeal.Facts] : Prop :=
  ∀ (m : (ℓ : Loc Cert.GlaPromptIdeal.nD Cert.GlaPromptIdeal.τ Cert.GlaPromptIdeal.sig) → Buf (Elt Ideal) ℓ) (g : Dev Cert.GlaPromptIdeal.nD → PrngReg), Pre_GlaPromptIdeal m →
    θ_run (Cert.GlaPromptIdeal.defs (F := Ideal)) (onTc (τ := Cert.GlaPromptIdeal.τ) (Cert.GlaPromptIdeal.main (F := Ideal))) ⟨m, fun _ => 0, g⟩ (fun r => (∀ c : Dev Cert.GlaPromptIdeal.nD,
      r.2.mem ((c.tc : Thread Cert.GlaPromptIdeal.nD Cert.GlaPromptIdeal.τ).loc Cert.GlaPromptIdeal.main_arg0) = m ((c.tc : Thread Cert.GlaPromptIdeal.nD Cert.GlaPromptIdeal.τ).loc Cert.GlaPromptIdeal.main_arg0)
      ∧ r.2.mem ((c.tc : Thread Cert.GlaPromptIdeal.nD Cert.GlaPromptIdeal.τ).loc Cert.GlaPromptIdeal.main_arg1) = m ((c.tc : Thread Cert.GlaPromptIdeal.nD Cert.GlaPromptIdeal.τ).loc Cert.GlaPromptIdeal.main_arg1)
      ∧ r.2.mem ((c.tc : Thread Cert.GlaPromptIdeal.nD Cert.GlaPromptIdeal.τ).loc Cert.GlaPromptIdeal.main_arg2) = m ((c.tc : Thread Cert.GlaPromptIdeal.nD Cert.GlaPromptIdeal.τ).loc Cert.GlaPromptIdeal.main_arg2)
      ∧ r.2.mem ((c.tc : Thread Cert.GlaPromptIdeal.nD Cert.GlaPromptIdeal.τ).loc Cert.GlaPromptIdeal.main_arg3) = m ((c.tc : Thread Cert.GlaPromptIdeal.nD Cert.GlaPromptIdeal.τ).loc Cert.GlaPromptIdeal.main_arg3)
      ∧ r.2.mem ((c.tc : Thread Cert.GlaPromptIdeal.nD Cert.GlaPromptIdeal.τ).loc Cert.GlaPromptIdeal.main_arg4) = m ((c.tc : Thread Cert.GlaPromptIdeal.nD Cert.GlaPromptIdeal.τ).loc Cert.GlaPromptIdeal.main_arg4)
      ∧ r.2.mem ((c.tc : Thread Cert.GlaPromptIdeal.nD Cert.GlaPromptIdeal.τ).loc Cert.GlaPromptIdeal.main_arg5) = m ((c.tc : Thread Cert.GlaPromptIdeal.nD Cert.GlaPromptIdeal.τ).loc Cert.GlaPromptIdeal.main_arg5)
      ∧ r.2.mem ((c.tc : Thread Cert.GlaPromptIdeal.nD Cert.GlaPromptIdeal.τ).loc Cert.GlaPromptIdeal.main_arg6) = m ((c.tc : Thread Cert.GlaPromptIdeal.nD Cert.GlaPromptIdeal.τ).loc Cert.GlaPromptIdeal.main_arg6))
      ∧ r.2.sem = fun _ => 0)

def quiescent_GlaPromptIdeal_pre_finite_gate_prompt [hGlaPromptIdeal : Cert.GlaPromptIdeal.Facts] [hPre_finite_gate_prompt : Cert.Pre_finite_gate_prompt.Facts] : Prop :=
  ∀ (m : (ℓ : Loc Cert.GlaPromptIdeal.nD Cert.GlaPromptIdeal.τ Cert.GlaPromptIdeal.sig) → Buf (Elt Ideal) ℓ) (g : Dev Cert.GlaPromptIdeal.nD → PrngReg), Pre_GlaPromptIdeal_finite_gate_prompt m →
    θ_run (Cert.GlaPromptIdeal.defs (F := Ideal)) (onTc (τ := Cert.GlaPromptIdeal.τ) (Cert.GlaPromptIdeal.main (F := Ideal))) ⟨m, fun _ => 0, g⟩ (fun r => (∀ c : Dev Cert.GlaPromptIdeal.nD,
      r.2.mem ((c.tc : Thread Cert.GlaPromptIdeal.nD Cert.GlaPromptIdeal.τ).loc Cert.GlaPromptIdeal.main_arg0) = m ((c.tc : Thread Cert.GlaPromptIdeal.nD Cert.GlaPromptIdeal.τ).loc Cert.GlaPromptIdeal.main_arg0)
      ∧ r.2.mem ((c.tc : Thread Cert.GlaPromptIdeal.nD Cert.GlaPromptIdeal.τ).loc Cert.GlaPromptIdeal.main_arg1) = m ((c.tc : Thread Cert.GlaPromptIdeal.nD Cert.GlaPromptIdeal.τ).loc Cert.GlaPromptIdeal.main_arg1)
      ∧ r.2.mem ((c.tc : Thread Cert.GlaPromptIdeal.nD Cert.GlaPromptIdeal.τ).loc Cert.GlaPromptIdeal.main_arg2) = m ((c.tc : Thread Cert.GlaPromptIdeal.nD Cert.GlaPromptIdeal.τ).loc Cert.GlaPromptIdeal.main_arg2)
      ∧ r.2.mem ((c.tc : Thread Cert.GlaPromptIdeal.nD Cert.GlaPromptIdeal.τ).loc Cert.GlaPromptIdeal.main_arg3) = m ((c.tc : Thread Cert.GlaPromptIdeal.nD Cert.GlaPromptIdeal.τ).loc Cert.GlaPromptIdeal.main_arg3)
      ∧ r.2.mem ((c.tc : Thread Cert.GlaPromptIdeal.nD Cert.GlaPromptIdeal.τ).loc Cert.GlaPromptIdeal.main_arg4) = m ((c.tc : Thread Cert.GlaPromptIdeal.nD Cert.GlaPromptIdeal.τ).loc Cert.GlaPromptIdeal.main_arg4)
      ∧ r.2.mem ((c.tc : Thread Cert.GlaPromptIdeal.nD Cert.GlaPromptIdeal.τ).loc Cert.GlaPromptIdeal.main_arg5) = m ((c.tc : Thread Cert.GlaPromptIdeal.nD Cert.GlaPromptIdeal.τ).loc Cert.GlaPromptIdeal.main_arg5)
      ∧ r.2.mem ((c.tc : Thread Cert.GlaPromptIdeal.nD Cert.GlaPromptIdeal.τ).loc Cert.GlaPromptIdeal.main_arg6) = m ((c.tc : Thread Cert.GlaPromptIdeal.nD Cert.GlaPromptIdeal.τ).loc Cert.GlaPromptIdeal.main_arg6))
      ∧ r.2.sem = fun _ => 0)

def quiescent_GlaPromptRefIdeal [hGlaPromptRefIdeal : Cert.GlaPromptRefIdeal.Facts] : Prop :=
  ∀ (m : (ℓ : Loc Cert.GlaPromptRefIdeal.nD Cert.GlaPromptRefIdeal.τ Cert.GlaPromptRefIdeal.sig) → Buf (Elt Ideal) ℓ) (g : Dev Cert.GlaPromptRefIdeal.nD → PrngReg), Pre_GlaPromptRefIdeal m →
    θ_run (Cert.GlaPromptRefIdeal.defs (F := Ideal)) (onTc (τ := Cert.GlaPromptRefIdeal.τ) (Cert.GlaPromptRefIdeal.main (F := Ideal))) ⟨m, fun _ => 0, g⟩ (fun r => (∀ c : Dev Cert.GlaPromptRefIdeal.nD,
      r.2.mem ((c.tc : Thread Cert.GlaPromptRefIdeal.nD Cert.GlaPromptRefIdeal.τ).loc Cert.GlaPromptRefIdeal.main_arg0) = m ((c.tc : Thread Cert.GlaPromptRefIdeal.nD Cert.GlaPromptRefIdeal.τ).loc Cert.GlaPromptRefIdeal.main_arg0)
      ∧ r.2.mem ((c.tc : Thread Cert.GlaPromptRefIdeal.nD Cert.GlaPromptRefIdeal.τ).loc Cert.GlaPromptRefIdeal.main_arg1) = m ((c.tc : Thread Cert.GlaPromptRefIdeal.nD Cert.GlaPromptRefIdeal.τ).loc Cert.GlaPromptRefIdeal.main_arg1)
      ∧ r.2.mem ((c.tc : Thread Cert.GlaPromptRefIdeal.nD Cert.GlaPromptRefIdeal.τ).loc Cert.GlaPromptRefIdeal.main_arg2) = m ((c.tc : Thread Cert.GlaPromptRefIdeal.nD Cert.GlaPromptRefIdeal.τ).loc Cert.GlaPromptRefIdeal.main_arg2)
      ∧ r.2.mem ((c.tc : Thread Cert.GlaPromptRefIdeal.nD Cert.GlaPromptRefIdeal.τ).loc Cert.GlaPromptRefIdeal.main_arg3) = m ((c.tc : Thread Cert.GlaPromptRefIdeal.nD Cert.GlaPromptRefIdeal.τ).loc Cert.GlaPromptRefIdeal.main_arg3)
      ∧ r.2.mem ((c.tc : Thread Cert.GlaPromptRefIdeal.nD Cert.GlaPromptRefIdeal.τ).loc Cert.GlaPromptRefIdeal.main_arg4) = m ((c.tc : Thread Cert.GlaPromptRefIdeal.nD Cert.GlaPromptRefIdeal.τ).loc Cert.GlaPromptRefIdeal.main_arg4)
      ∧ r.2.mem ((c.tc : Thread Cert.GlaPromptRefIdeal.nD Cert.GlaPromptRefIdeal.τ).loc Cert.GlaPromptRefIdeal.main_arg5) = m ((c.tc : Thread Cert.GlaPromptRefIdeal.nD Cert.GlaPromptRefIdeal.τ).loc Cert.GlaPromptRefIdeal.main_arg5)
      ∧ r.2.mem ((c.tc : Thread Cert.GlaPromptRefIdeal.nD Cert.GlaPromptRefIdeal.τ).loc Cert.GlaPromptRefIdeal.main_arg6) = m ((c.tc : Thread Cert.GlaPromptRefIdeal.nD Cert.GlaPromptRefIdeal.τ).loc Cert.GlaPromptRefIdeal.main_arg6))
      ∧ r.2.sem = fun _ => 0)

def quiescent_GlaPromptRefIdeal_pre_finite_gate_prompt [hGlaPromptRefIdeal : Cert.GlaPromptRefIdeal.Facts] [hPre_finite_gate_prompt : Cert.Pre_finite_gate_prompt.Facts] : Prop :=
  ∀ (m : (ℓ : Loc Cert.GlaPromptRefIdeal.nD Cert.GlaPromptRefIdeal.τ Cert.GlaPromptRefIdeal.sig) → Buf (Elt Ideal) ℓ) (g : Dev Cert.GlaPromptRefIdeal.nD → PrngReg), Pre_GlaPromptRefIdeal_finite_gate_prompt m →
    θ_run (Cert.GlaPromptRefIdeal.defs (F := Ideal)) (onTc (τ := Cert.GlaPromptRefIdeal.τ) (Cert.GlaPromptRefIdeal.main (F := Ideal))) ⟨m, fun _ => 0, g⟩ (fun r => (∀ c : Dev Cert.GlaPromptRefIdeal.nD,
      r.2.mem ((c.tc : Thread Cert.GlaPromptRefIdeal.nD Cert.GlaPromptRefIdeal.τ).loc Cert.GlaPromptRefIdeal.main_arg0) = m ((c.tc : Thread Cert.GlaPromptRefIdeal.nD Cert.GlaPromptRefIdeal.τ).loc Cert.GlaPromptRefIdeal.main_arg0)
      ∧ r.2.mem ((c.tc : Thread Cert.GlaPromptRefIdeal.nD Cert.GlaPromptRefIdeal.τ).loc Cert.GlaPromptRefIdeal.main_arg1) = m ((c.tc : Thread Cert.GlaPromptRefIdeal.nD Cert.GlaPromptRefIdeal.τ).loc Cert.GlaPromptRefIdeal.main_arg1)
      ∧ r.2.mem ((c.tc : Thread Cert.GlaPromptRefIdeal.nD Cert.GlaPromptRefIdeal.τ).loc Cert.GlaPromptRefIdeal.main_arg2) = m ((c.tc : Thread Cert.GlaPromptRefIdeal.nD Cert.GlaPromptRefIdeal.τ).loc Cert.GlaPromptRefIdeal.main_arg2)
      ∧ r.2.mem ((c.tc : Thread Cert.GlaPromptRefIdeal.nD Cert.GlaPromptRefIdeal.τ).loc Cert.GlaPromptRefIdeal.main_arg3) = m ((c.tc : Thread Cert.GlaPromptRefIdeal.nD Cert.GlaPromptRefIdeal.τ).loc Cert.GlaPromptRefIdeal.main_arg3)
      ∧ r.2.mem ((c.tc : Thread Cert.GlaPromptRefIdeal.nD Cert.GlaPromptRefIdeal.τ).loc Cert.GlaPromptRefIdeal.main_arg4) = m ((c.tc : Thread Cert.GlaPromptRefIdeal.nD Cert.GlaPromptRefIdeal.τ).loc Cert.GlaPromptRefIdeal.main_arg4)
      ∧ r.2.mem ((c.tc : Thread Cert.GlaPromptRefIdeal.nD Cert.GlaPromptRefIdeal.τ).loc Cert.GlaPromptRefIdeal.main_arg5) = m ((c.tc : Thread Cert.GlaPromptRefIdeal.nD Cert.GlaPromptRefIdeal.τ).loc Cert.GlaPromptRefIdeal.main_arg5)
      ∧ r.2.mem ((c.tc : Thread Cert.GlaPromptRefIdeal.nD Cert.GlaPromptRefIdeal.τ).loc Cert.GlaPromptRefIdeal.main_arg6) = m ((c.tc : Thread Cert.GlaPromptRefIdeal.nD Cert.GlaPromptRefIdeal.τ).loc Cert.GlaPromptRefIdeal.main_arg6))
      ∧ r.2.sem = fun _ => 0)

def preserves_Gla_GlaIdeal : Prop :=
  True

def algebraic_GlaIdeal_GlaRefIdeal_pre_finite_gate [hGlaIdeal : Cert.GlaIdeal.Facts] [hGlaRefIdeal : Cert.GlaRefIdeal.Facts] [hPre_finite_gate : Cert.Pre_finite_gate.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_finite_gate m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)) →
    ∃ (v0 : (c : Dev Cert.GlaIdeal.nD) → Buf (Elt Ideal) ((c.tc : Thread Cert.GlaIdeal.nD Cert.GlaIdeal.τ).loc Cert.GlaIdeal.main_v1_0)) (v1 : (c : Dev Cert.GlaIdeal.nD) → Buf (Elt Ideal) ((c.tc : Thread Cert.GlaIdeal.nD Cert.GlaIdeal.τ).loc Cert.GlaIdeal.main_v1_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v1_0) = v0 c
          ∧ r.2.mem ((c.tc : Thread Cert.GlaIdeal.nD Cert.GlaIdeal.τ).loc Cert.GlaIdeal.main_v1_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v67) = v0 c
          ∧ r.2.mem ((c.tc : Thread Cert.GlaRefIdeal.nD Cert.GlaRefIdeal.τ).loc Cert.GlaRefIdeal.main_v40) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5)
          ∧ r.2.mem ((c.tc : Thread Cert.GlaRefIdeal.nD Cert.GlaRefIdeal.τ).loc Cert.GlaRefIdeal.main_arg6) = m' ((c.tc : Thread Cert.GlaRefIdeal.nD Cert.GlaRefIdeal.τ).loc Cert.GlaRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v3) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_ProjAttn_ProjAttnIdeal : Prop :=
  True

def algebraic_ProjAttnIdeal_ProjAttnRefIdeal [hProjAttnIdeal : Cert.ProjAttnIdeal.Facts] [hProjAttnRefIdeal : Cert.ProjAttnRefIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg)
    (m' : (ℓ : Loc Cert.ProjAttnRefIdeal.nD Cert.ProjAttnRefIdeal.τ Cert.ProjAttnRefIdeal.sig) → Buf (Elt Ideal) ℓ) (g' : Dev Cert.ProjAttnRefIdeal.nD → PrngReg), Pre_ProjAttnIdeal m →
    (∀ c : Dev Cert.ProjAttnIdeal.nD,
      m' ((c.tc : Thread Cert.ProjAttnRefIdeal.nD Cert.ProjAttnRefIdeal.τ).loc Cert.ProjAttnRefIdeal.main_arg0) = m ((c.tc : Thread Cert.ProjAttnIdeal.nD Cert.ProjAttnIdeal.τ).loc Cert.ProjAttnIdeal.main_arg0)
      ∧ m' ((c.tc : Thread Cert.ProjAttnRefIdeal.nD Cert.ProjAttnRefIdeal.τ).loc Cert.ProjAttnRefIdeal.main_arg1) = m ((c.tc : Thread Cert.ProjAttnIdeal.nD Cert.ProjAttnIdeal.τ).loc Cert.ProjAttnIdeal.main_arg1)
      ∧ m' ((c.tc : Thread Cert.ProjAttnRefIdeal.nD Cert.ProjAttnRefIdeal.τ).loc Cert.ProjAttnRefIdeal.main_arg2) = m ((c.tc : Thread Cert.ProjAttnIdeal.nD Cert.ProjAttnIdeal.τ).loc Cert.ProjAttnIdeal.main_arg2)
      ∧ m' ((c.tc : Thread Cert.ProjAttnRefIdeal.nD Cert.ProjAttnRefIdeal.τ).loc Cert.ProjAttnRefIdeal.main_arg3) = m ((c.tc : Thread Cert.ProjAttnIdeal.nD Cert.ProjAttnIdeal.τ).loc Cert.ProjAttnIdeal.main_arg3)) →
    ∃ (v0 : (c : Dev Cert.ProjAttnIdeal.nD) → Buf (Elt Ideal) ((c.tc : Thread Cert.ProjAttnIdeal.nD Cert.ProjAttnIdeal.τ).loc Cert.ProjAttnIdeal.main_v29_0)) (v1 : (c : Dev Cert.ProjAttnIdeal.nD) → Buf (Elt Ideal) ((c.tc : Thread Cert.ProjAttnIdeal.nD Cert.ProjAttnIdeal.τ).loc Cert.ProjAttnIdeal.main_v29_1)) (v2 : (c : Dev Cert.ProjAttnIdeal.nD) → Buf (Elt Ideal) ((c.tc : Thread Cert.ProjAttnIdeal.nD Cert.ProjAttnIdeal.τ).loc Cert.ProjAttnIdeal.main_v29_2)) (v3 : (c : Dev Cert.ProjAttnIdeal.nD) → Buf (Elt Ideal) ((c.tc : Thread Cert.ProjAttnIdeal.nD Cert.ProjAttnIdeal.τ).loc Cert.ProjAttnIdeal.main_v29_3)) (v4 : (c : Dev Cert.ProjAttnIdeal.nD) → Buf (Elt Ideal) ((c.tc : Thread Cert.ProjAttnIdeal.nD Cert.ProjAttnIdeal.τ).loc Cert.ProjAttnIdeal.main_v29_4)) (v5 : (c : Dev Cert.ProjAttnIdeal.nD) → Buf (Elt Ideal) ((c.tc : Thread Cert.ProjAttnIdeal.nD Cert.ProjAttnIdeal.τ).loc Cert.ProjAttnIdeal.main_v29_5)),
      θ_run (Cert.ProjAttnIdeal.defs (F := Ideal)) (onTc (τ := Cert.ProjAttnIdeal.τ) (Cert.ProjAttnIdeal.main (F := Ideal))) ⟨m, fun _ => 0, g⟩ (fun r => ∀ c : Dev Cert.ProjAttnIdeal.nD,
          r.2.mem ((c.tc : Thread Cert.ProjAttnIdeal.nD Cert.ProjAttnIdeal.τ).loc Cert.ProjAttnIdeal.main_v29_0) = v0 c
          ∧ r.2.mem ((c.tc : Thread Cert.ProjAttnIdeal.nD Cert.ProjAttnIdeal.τ).loc Cert.ProjAttnIdeal.main_v29_1) = v1 c
          ∧ r.2.mem ((c.tc : Thread Cert.ProjAttnIdeal.nD Cert.ProjAttnIdeal.τ).loc Cert.ProjAttnIdeal.main_v29_2) = v2 c
          ∧ r.2.mem ((c.tc : Thread Cert.ProjAttnIdeal.nD Cert.ProjAttnIdeal.τ).loc Cert.ProjAttnIdeal.main_v29_3) = v3 c
          ∧ r.2.mem ((c.tc : Thread Cert.ProjAttnIdeal.nD Cert.ProjAttnIdeal.τ).loc Cert.ProjAttnIdeal.main_v29_4) = v4 c
          ∧ r.2.mem ((c.tc : Thread Cert.ProjAttnIdeal.nD Cert.ProjAttnIdeal.τ).loc Cert.ProjAttnIdeal.main_v29_5) = v5 c
          ∧ r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
          ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1)
          ∧ r.2.mem ((c.tc : Thread Cert.ProjAttnIdeal.nD Cert.ProjAttnIdeal.τ).loc Cert.ProjAttnIdeal.main_arg2) = m ((c.tc : Thread Cert.ProjAttnIdeal.nD Cert.ProjAttnIdeal.τ).loc Cert.ProjAttnIdeal.main_arg2)
          ∧ r.2.mem ((c.tc : Thread Cert.ProjAttnIdeal.nD Cert.ProjAttnIdeal.τ).loc Cert.ProjAttnIdeal.main_arg3) = m ((c.tc : Thread Cert.ProjAttnIdeal.nD Cert.ProjAttnIdeal.τ).loc Cert.ProjAttnIdeal.main_arg3))
      ∧ θ_run (Cert.ProjAttnRefIdeal.defs (F := Ideal)) (onTc (τ := Cert.ProjAttnRefIdeal.τ) (Cert.ProjAttnRefIdeal.main (F := Ideal))) ⟨m', fun _ => 0, g'⟩ (fun r => ∀ c : Dev Cert.ProjAttnRefIdeal.nD,
          r.2.mem ((c.tc : Thread Cert.ProjAttnRefIdeal.nD Cert.ProjAttnRefIdeal.τ).loc Cert.ProjAttnRefIdeal.main_v23) = v0 c
          ∧ r.2.mem ((c.tc : Thread Cert.ProjAttnRefIdeal.nD Cert.ProjAttnRefIdeal.τ).loc Cert.ProjAttnRefIdeal.main_v2) = v1 c
          ∧ r.2.mem ((c.tc : Thread Cert.ProjAttnRefIdeal.nD Cert.ProjAttnRefIdeal.τ).loc Cert.ProjAttnRefIdeal.main_v3) = v2 c
          ∧ r.2.mem ((c.tc : Thread Cert.ProjAttnRefIdeal.nD Cert.ProjAttnRefIdeal.τ).loc Cert.ProjAttnRefIdeal.main_v24) = v3 c
          ∧ r.2.mem ((c.tc : Thread Cert.ProjAttnRefIdeal.nD Cert.ProjAttnRefIdeal.τ).loc Cert.ProjAttnRefIdeal.main_v20) = v4 c
          ∧ r.2.mem ((c.tc : Thread Cert.ProjAttnRefIdeal.nD Cert.ProjAttnRefIdeal.τ).loc Cert.ProjAttnRefIdeal.main_v18) = v5 c
          ∧ r.2.mem ((c.tc : Thread Cert.ProjAttnRefIdeal.nD Cert.ProjAttnRefIdeal.τ).loc Cert.ProjAttnRefIdeal.main_arg0) = m' ((c.tc : Thread Cert.ProjAttnRefIdeal.nD Cert.ProjAttnRefIdeal.τ).loc Cert.ProjAttnRefIdeal.main_arg0)
          ∧ r.2.mem ((c.tc : Thread Cert.ProjAttnRefIdeal.nD Cert.ProjAttnRefIdeal.τ).loc Cert.ProjAttnRefIdeal.main_arg1) = m' ((c.tc : Thread Cert.ProjAttnRefIdeal.nD Cert.ProjAttnRefIdeal.τ).loc Cert.ProjAttnRefIdeal.main_arg1)
          ∧ r.2.mem ((c.tc : Thread Cert.ProjAttnRefIdeal.nD Cert.ProjAttnRefIdeal.τ).loc Cert.ProjAttnRefIdeal.main_arg2) = m' ((c.tc : Thread Cert.ProjAttnRefIdeal.nD Cert.ProjAttnRefIdeal.τ).loc Cert.ProjAttnRefIdeal.main_arg2)
          ∧ r.2.mem ((c.tc : Thread Cert.ProjAttnRefIdeal.nD Cert.ProjAttnRefIdeal.τ).loc Cert.ProjAttnRefIdeal.main_arg3) = m' ((c.tc : Thread Cert.ProjAttnRefIdeal.nD Cert.ProjAttnRefIdeal.τ).loc Cert.ProjAttnRefIdeal.main_arg3))

def preserves_ProjGla_ProjGlaIdeal : Prop :=
  True

def algebraic_ProjGlaIdeal_ProjGlaRefIdeal [hProjGlaIdeal : Cert.ProjGlaIdeal.Facts] [hProjGlaRefIdeal : Cert.ProjGlaRefIdeal.Facts] : Prop :=
  ∀ (m : (ℓ : Loc Cert.ProjGlaIdeal.nD Cert.ProjGlaIdeal.τ Cert.ProjGlaIdeal.sig) → Buf (Elt Ideal) ℓ) (g : Dev Cert.ProjGlaIdeal.nD → PrngReg)
    (m' : (ℓ : Loc Cert.ProjGlaRefIdeal.nD Cert.ProjGlaRefIdeal.τ Cert.ProjGlaRefIdeal.sig) → Buf (Elt Ideal) ℓ) (g' : Dev Cert.ProjGlaRefIdeal.nD → PrngReg), Pre_ProjGlaIdeal m →
    (∀ c : Dev Cert.ProjGlaIdeal.nD,
      m' ((c.tc : Thread Cert.ProjGlaRefIdeal.nD Cert.ProjGlaRefIdeal.τ).loc Cert.ProjGlaRefIdeal.main_arg0) = m ((c.tc : Thread Cert.ProjGlaIdeal.nD Cert.ProjGlaIdeal.τ).loc Cert.ProjGlaIdeal.main_arg0)
      ∧ m' ((c.tc : Thread Cert.ProjGlaRefIdeal.nD Cert.ProjGlaRefIdeal.τ).loc Cert.ProjGlaRefIdeal.main_arg1) = m ((c.tc : Thread Cert.ProjGlaIdeal.nD Cert.ProjGlaIdeal.τ).loc Cert.ProjGlaIdeal.main_arg1)
      ∧ m' ((c.tc : Thread Cert.ProjGlaRefIdeal.nD Cert.ProjGlaRefIdeal.τ).loc Cert.ProjGlaRefIdeal.main_arg2) = m ((c.tc : Thread Cert.ProjGlaIdeal.nD Cert.ProjGlaIdeal.τ).loc Cert.ProjGlaIdeal.main_arg2)) →
    ∃ (v0 : (c : Dev Cert.ProjGlaIdeal.nD) → Buf (Elt Ideal) ((c.tc : Thread Cert.ProjGlaIdeal.nD Cert.ProjGlaIdeal.τ).loc Cert.ProjGlaIdeal.main_v28_0)) (v1 : (c : Dev Cert.ProjGlaIdeal.nD) → Buf (Elt Ideal) ((c.tc : Thread Cert.ProjGlaIdeal.nD Cert.ProjGlaIdeal.τ).loc Cert.ProjGlaIdeal.main_v28_1)) (v2 : (c : Dev Cert.ProjGlaIdeal.nD) → Buf (Elt Ideal) ((c.tc : Thread Cert.ProjGlaIdeal.nD Cert.ProjGlaIdeal.τ).loc Cert.ProjGlaIdeal.main_v28_2)) (v3 : (c : Dev Cert.ProjGlaIdeal.nD) → Buf (Elt Ideal) ((c.tc : Thread Cert.ProjGlaIdeal.nD Cert.ProjGlaIdeal.τ).loc Cert.ProjGlaIdeal.main_v28_3)),
      θ_run (Cert.ProjGlaIdeal.defs (F := Ideal)) (onTc (τ := Cert.ProjGlaIdeal.τ) (Cert.ProjGlaIdeal.main (F := Ideal))) ⟨m, fun _ => 0, g⟩ (fun r => ∀ c : Dev Cert.ProjGlaIdeal.nD,
          r.2.mem ((c.tc : Thread Cert.ProjGlaIdeal.nD Cert.ProjGlaIdeal.τ).loc Cert.ProjGlaIdeal.main_v28_0) = v0 c
          ∧ r.2.mem ((c.tc : Thread Cert.ProjGlaIdeal.nD Cert.ProjGlaIdeal.τ).loc Cert.ProjGlaIdeal.main_v28_1) = v1 c
          ∧ r.2.mem ((c.tc : Thread Cert.ProjGlaIdeal.nD Cert.ProjGlaIdeal.τ).loc Cert.ProjGlaIdeal.main_v28_2) = v2 c
          ∧ r.2.mem ((c.tc : Thread Cert.ProjGlaIdeal.nD Cert.ProjGlaIdeal.τ).loc Cert.ProjGlaIdeal.main_v28_3) = v3 c
          ∧ r.2.mem ((c.tc : Thread Cert.ProjGlaIdeal.nD Cert.ProjGlaIdeal.τ).loc Cert.ProjGlaIdeal.main_arg0) = m ((c.tc : Thread Cert.ProjGlaIdeal.nD Cert.ProjGlaIdeal.τ).loc Cert.ProjGlaIdeal.main_arg0)
          ∧ r.2.mem ((c.tc : Thread Cert.ProjGlaIdeal.nD Cert.ProjGlaIdeal.τ).loc Cert.ProjGlaIdeal.main_arg1) = m ((c.tc : Thread Cert.ProjGlaIdeal.nD Cert.ProjGlaIdeal.τ).loc Cert.ProjGlaIdeal.main_arg1)
          ∧ r.2.mem ((c.tc : Thread Cert.ProjGlaIdeal.nD Cert.ProjGlaIdeal.τ).loc Cert.ProjGlaIdeal.main_arg2) = m ((c.tc : Thread Cert.ProjGlaIdeal.nD Cert.ProjGlaIdeal.τ).loc Cert.ProjGlaIdeal.main_arg2))
      ∧ θ_run (Cert.ProjGlaRefIdeal.defs (F := Ideal)) (onTc (τ := Cert.ProjGlaRefIdeal.τ) (Cert.ProjGlaRefIdeal.main (F := Ideal))) ⟨m', fun _ => 0, g'⟩ (fun r => ∀ c : Dev Cert.ProjGlaRefIdeal.nD,
          r.2.mem ((c.tc : Thread Cert.ProjGlaRefIdeal.nD Cert.ProjGlaRefIdeal.τ).loc Cert.ProjGlaRefIdeal.main_v13) = v0 c
          ∧ r.2.mem ((c.tc : Thread Cert.ProjGlaRefIdeal.nD Cert.ProjGlaRefIdeal.τ).loc Cert.ProjGlaRefIdeal.main_v8) = v1 c
          ∧ r.2.mem ((c.tc : Thread Cert.ProjGlaRefIdeal.nD Cert.ProjGlaRefIdeal.τ).loc Cert.ProjGlaRefIdeal.main_v9) = v2 c
          ∧ r.2.mem ((c.tc : Thread Cert.ProjGlaRefIdeal.nD Cert.ProjGlaRefIdeal.τ).loc Cert.ProjGlaRefIdeal.main_v11) = v3 c
          ∧ r.2.mem ((c.tc : Thread Cert.ProjGlaRefIdeal.nD Cert.ProjGlaRefIdeal.τ).loc Cert.ProjGlaRefIdeal.main_arg0) = m' ((c.tc : Thread Cert.ProjGlaRefIdeal.nD Cert.ProjGlaRefIdeal.τ).loc Cert.ProjGlaRefIdeal.main_arg0)
          ∧ r.2.mem ((c.tc : Thread Cert.ProjGlaRefIdeal.nD Cert.ProjGlaRefIdeal.τ).loc Cert.ProjGlaRefIdeal.main_arg1) = m' ((c.tc : Thread Cert.ProjGlaRefIdeal.nD Cert.ProjGlaRefIdeal.τ).loc Cert.ProjGlaRefIdeal.main_arg1)
          ∧ r.2.mem ((c.tc : Thread Cert.ProjGlaRefIdeal.nD Cert.ProjGlaRefIdeal.τ).loc Cert.ProjGlaRefIdeal.main_arg2) = m' ((c.tc : Thread Cert.ProjGlaRefIdeal.nD Cert.ProjGlaRefIdeal.τ).loc Cert.ProjGlaRefIdeal.main_arg2))

def preserves_MixMem_MixMemIdeal : Prop :=
  True

def algebraic_MixMemIdeal_MixMemRefIdeal [hMixMemIdeal : Cert.MixMemIdeal.Facts] [hMixMemRefIdeal : Cert.MixMemRefIdeal.Facts] : Prop :=
  ∀ (m : (ℓ : Loc Cert.MixMemIdeal.nD Cert.MixMemIdeal.τ Cert.MixMemIdeal.sig) → Buf (Elt Ideal) ℓ) (g : Dev Cert.MixMemIdeal.nD → PrngReg)
    (m' : (ℓ : Loc Cert.MixMemRefIdeal.nD Cert.MixMemRefIdeal.τ Cert.MixMemRefIdeal.sig) → Buf (Elt Ideal) ℓ) (g' : Dev Cert.MixMemRefIdeal.nD → PrngReg), Pre_MixMemIdeal m →
    (∀ c : Dev Cert.MixMemIdeal.nD,
      m' ((c.tc : Thread Cert.MixMemRefIdeal.nD Cert.MixMemRefIdeal.τ).loc Cert.MixMemRefIdeal.main_arg0) = m ((c.tc : Thread Cert.MixMemIdeal.nD Cert.MixMemIdeal.τ).loc Cert.MixMemIdeal.main_arg0)
      ∧ m' ((c.tc : Thread Cert.MixMemRefIdeal.nD Cert.MixMemRefIdeal.τ).loc Cert.MixMemRefIdeal.main_arg1) = m ((c.tc : Thread Cert.MixMemIdeal.nD Cert.MixMemIdeal.τ).loc Cert.MixMemIdeal.main_arg1)
      ∧ m' ((c.tc : Thread Cert.MixMemRefIdeal.nD Cert.MixMemRefIdeal.τ).loc Cert.MixMemRefIdeal.main_arg2) = m ((c.tc : Thread Cert.MixMemIdeal.nD Cert.MixMemIdeal.τ).loc Cert.MixMemIdeal.main_arg2)
      ∧ m' ((c.tc : Thread Cert.MixMemRefIdeal.nD Cert.MixMemRefIdeal.τ).loc Cert.MixMemRefIdeal.main_arg3) = m ((c.tc : Thread Cert.MixMemIdeal.nD Cert.MixMemIdeal.τ).loc Cert.MixMemIdeal.main_arg3)
      ∧ m' ((c.tc : Thread Cert.MixMemRefIdeal.nD Cert.MixMemRefIdeal.τ).loc Cert.MixMemRefIdeal.main_arg4) = m ((c.tc : Thread Cert.MixMemIdeal.nD Cert.MixMemIdeal.τ).loc Cert.MixMemIdeal.main_arg4)
      ∧ m' ((c.tc : Thread Cert.MixMemRefIdeal.nD Cert.MixMemRefIdeal.τ).loc Cert.MixMemRefIdeal.main_arg5) = m ((c.tc : Thread Cert.MixMemIdeal.nD Cert.MixMemIdeal.τ).loc Cert.MixMemIdeal.main_arg5)
      ∧ m' ((c.tc : Thread Cert.MixMemRefIdeal.nD Cert.MixMemRefIdeal.τ).loc Cert.MixMemRefIdeal.main_arg6) = m ((c.tc : Thread Cert.MixMemIdeal.nD Cert.MixMemIdeal.τ).loc Cert.MixMemIdeal.main_arg6)
      ∧ m' ((c.tc : Thread Cert.MixMemRefIdeal.nD Cert.MixMemRefIdeal.τ).loc Cert.MixMemRefIdeal.main_arg7) = m ((c.tc : Thread Cert.MixMemIdeal.nD Cert.MixMemIdeal.τ).loc Cert.MixMemIdeal.main_arg7)
      ∧ m' ((c.tc : Thread Cert.MixMemRefIdeal.nD Cert.MixMemRefIdeal.τ).loc Cert.MixMemRefIdeal.main_arg8) = m ((c.tc : Thread Cert.MixMemIdeal.nD Cert.MixMemIdeal.τ).loc Cert.MixMemIdeal.main_arg8)
      ∧ m' ((c.tc : Thread Cert.MixMemRefIdeal.nD Cert.MixMemRefIdeal.τ).loc Cert.MixMemRefIdeal.main_arg9) = m ((c.tc : Thread Cert.MixMemIdeal.nD Cert.MixMemIdeal.τ).loc Cert.MixMemIdeal.main_arg9)
      ∧ m' ((c.tc : Thread Cert.MixMemRefIdeal.nD Cert.MixMemRefIdeal.τ).loc Cert.MixMemRefIdeal.main_arg10) = m ((c.tc : Thread Cert.MixMemIdeal.nD Cert.MixMemIdeal.τ).loc Cert.MixMemIdeal.main_arg10)
      ∧ m' ((c.tc : Thread Cert.MixMemRefIdeal.nD Cert.MixMemRefIdeal.τ).loc Cert.MixMemRefIdeal.main_arg11) = m ((c.tc : Thread Cert.MixMemIdeal.nD Cert.MixMemIdeal.τ).loc Cert.MixMemIdeal.main_arg11)) →
    ∃ (v0 : (c : Dev Cert.MixMemIdeal.nD) → Buf (Elt Ideal) ((c.tc : Thread Cert.MixMemIdeal.nD Cert.MixMemIdeal.τ).loc Cert.MixMemIdeal.main_v13)),
      θ_run (Cert.MixMemIdeal.defs (F := Ideal)) (onTc (τ := Cert.MixMemIdeal.τ) (Cert.MixMemIdeal.main (F := Ideal))) ⟨m, fun _ => 0, g⟩ (fun r => ∀ c : Dev Cert.MixMemIdeal.nD,
          r.2.mem ((c.tc : Thread Cert.MixMemIdeal.nD Cert.MixMemIdeal.τ).loc Cert.MixMemIdeal.main_v13) = v0 c
          ∧ r.2.mem ((c.tc : Thread Cert.MixMemIdeal.nD Cert.MixMemIdeal.τ).loc Cert.MixMemIdeal.main_arg0) = m ((c.tc : Thread Cert.MixMemIdeal.nD Cert.MixMemIdeal.τ).loc Cert.MixMemIdeal.main_arg0)
          ∧ r.2.mem ((c.tc : Thread Cert.MixMemIdeal.nD Cert.MixMemIdeal.τ).loc Cert.MixMemIdeal.main_arg1) = m ((c.tc : Thread Cert.MixMemIdeal.nD Cert.MixMemIdeal.τ).loc Cert.MixMemIdeal.main_arg1)
          ∧ r.2.mem ((c.tc : Thread Cert.MixMemIdeal.nD Cert.MixMemIdeal.τ).loc Cert.MixMemIdeal.main_arg2) = m ((c.tc : Thread Cert.MixMemIdeal.nD Cert.MixMemIdeal.τ).loc Cert.MixMemIdeal.main_arg2)
          ∧ r.2.mem ((c.tc : Thread Cert.MixMemIdeal.nD Cert.MixMemIdeal.τ).loc Cert.MixMemIdeal.main_arg3) = m ((c.tc : Thread Cert.MixMemIdeal.nD Cert.MixMemIdeal.τ).loc Cert.MixMemIdeal.main_arg3)
          ∧ r.2.mem ((c.tc : Thread Cert.MixMemIdeal.nD Cert.MixMemIdeal.τ).loc Cert.MixMemIdeal.main_arg4) = m ((c.tc : Thread Cert.MixMemIdeal.nD Cert.MixMemIdeal.τ).loc Cert.MixMemIdeal.main_arg4)
          ∧ r.2.mem ((c.tc : Thread Cert.MixMemIdeal.nD Cert.MixMemIdeal.τ).loc Cert.MixMemIdeal.main_arg5) = m ((c.tc : Thread Cert.MixMemIdeal.nD Cert.MixMemIdeal.τ).loc Cert.MixMemIdeal.main_arg5)
          ∧ r.2.mem ((c.tc : Thread Cert.MixMemIdeal.nD Cert.MixMemIdeal.τ).loc Cert.MixMemIdeal.main_arg6) = m ((c.tc : Thread Cert.MixMemIdeal.nD Cert.MixMemIdeal.τ).loc Cert.MixMemIdeal.main_arg6)
          ∧ r.2.mem ((c.tc : Thread Cert.MixMemIdeal.nD Cert.MixMemIdeal.τ).loc Cert.MixMemIdeal.main_arg7) = m ((c.tc : Thread Cert.MixMemIdeal.nD Cert.MixMemIdeal.τ).loc Cert.MixMemIdeal.main_arg7)
          ∧ r.2.mem ((c.tc : Thread Cert.MixMemIdeal.nD Cert.MixMemIdeal.τ).loc Cert.MixMemIdeal.main_arg8) = m ((c.tc : Thread Cert.MixMemIdeal.nD Cert.MixMemIdeal.τ).loc Cert.MixMemIdeal.main_arg8)
          ∧ r.2.mem ((c.tc : Thread Cert.MixMemIdeal.nD Cert.MixMemIdeal.τ).loc Cert.MixMemIdeal.main_arg9) = m ((c.tc : Thread Cert.MixMemIdeal.nD Cert.MixMemIdeal.τ).loc Cert.MixMemIdeal.main_arg9)
          ∧ r.2.mem ((c.tc : Thread Cert.MixMemIdeal.nD Cert.MixMemIdeal.τ).loc Cert.MixMemIdeal.main_arg10) = m ((c.tc : Thread Cert.MixMemIdeal.nD Cert.MixMemIdeal.τ).loc Cert.MixMemIdeal.main_arg10)
          ∧ r.2.mem ((c.tc : Thread Cert.MixMemIdeal.nD Cert.MixMemIdeal.τ).loc Cert.MixMemIdeal.main_arg11) = m ((c.tc : Thread Cert.MixMemIdeal.nD Cert.MixMemIdeal.τ).loc Cert.MixMemIdeal.main_arg11))
      ∧ θ_run (Cert.MixMemRefIdeal.defs (F := Ideal)) (onTc (τ := Cert.MixMemRefIdeal.τ) (Cert.MixMemRefIdeal.main (F := Ideal))) ⟨m', fun _ => 0, g'⟩ (fun r => ∀ c : Dev Cert.MixMemRefIdeal.nD,
          r.2.mem ((c.tc : Thread Cert.MixMemRefIdeal.nD Cert.MixMemRefIdeal.τ).loc Cert.MixMemRefIdeal.main_v77) = v0 c
          ∧ r.2.mem ((c.tc : Thread Cert.MixMemRefIdeal.nD Cert.MixMemRefIdeal.τ).loc Cert.MixMemRefIdeal.main_arg0) = m' ((c.tc : Thread Cert.MixMemRefIdeal.nD Cert.MixMemRefIdeal.τ).loc Cert.MixMemRefIdeal.main_arg0)
          ∧ r.2.mem ((c.tc : Thread Cert.MixMemRefIdeal.nD Cert.MixMemRefIdeal.τ).loc Cert.MixMemRefIdeal.main_arg1) = m' ((c.tc : Thread Cert.MixMemRefIdeal.nD Cert.MixMemRefIdeal.τ).loc Cert.MixMemRefIdeal.main_arg1)
          ∧ r.2.mem ((c.tc : Thread Cert.MixMemRefIdeal.nD Cert.MixMemRefIdeal.τ).loc Cert.MixMemRefIdeal.main_arg2) = m' ((c.tc : Thread Cert.MixMemRefIdeal.nD Cert.MixMemRefIdeal.τ).loc Cert.MixMemRefIdeal.main_arg2)
          ∧ r.2.mem ((c.tc : Thread Cert.MixMemRefIdeal.nD Cert.MixMemRefIdeal.τ).loc Cert.MixMemRefIdeal.main_arg3) = m' ((c.tc : Thread Cert.MixMemRefIdeal.nD Cert.MixMemRefIdeal.τ).loc Cert.MixMemRefIdeal.main_arg3)
          ∧ r.2.mem ((c.tc : Thread Cert.MixMemRefIdeal.nD Cert.MixMemRefIdeal.τ).loc Cert.MixMemRefIdeal.main_arg4) = m' ((c.tc : Thread Cert.MixMemRefIdeal.nD Cert.MixMemRefIdeal.τ).loc Cert.MixMemRefIdeal.main_arg4)
          ∧ r.2.mem ((c.tc : Thread Cert.MixMemRefIdeal.nD Cert.MixMemRefIdeal.τ).loc Cert.MixMemRefIdeal.main_arg5) = m' ((c.tc : Thread Cert.MixMemRefIdeal.nD Cert.MixMemRefIdeal.τ).loc Cert.MixMemRefIdeal.main_arg5)
          ∧ r.2.mem ((c.tc : Thread Cert.MixMemRefIdeal.nD Cert.MixMemRefIdeal.τ).loc Cert.MixMemRefIdeal.main_arg6) = m' ((c.tc : Thread Cert.MixMemRefIdeal.nD Cert.MixMemRefIdeal.τ).loc Cert.MixMemRefIdeal.main_arg6)
          ∧ r.2.mem ((c.tc : Thread Cert.MixMemRefIdeal.nD Cert.MixMemRefIdeal.τ).loc Cert.MixMemRefIdeal.main_arg7) = m' ((c.tc : Thread Cert.MixMemRefIdeal.nD Cert.MixMemRefIdeal.τ).loc Cert.MixMemRefIdeal.main_arg7)
          ∧ r.2.mem ((c.tc : Thread Cert.MixMemRefIdeal.nD Cert.MixMemRefIdeal.τ).loc Cert.MixMemRefIdeal.main_arg8) = m' ((c.tc : Thread Cert.MixMemRefIdeal.nD Cert.MixMemRefIdeal.τ).loc Cert.MixMemRefIdeal.main_arg8)
          ∧ r.2.mem ((c.tc : Thread Cert.MixMemRefIdeal.nD Cert.MixMemRefIdeal.τ).loc Cert.MixMemRefIdeal.main_arg9) = m' ((c.tc : Thread Cert.MixMemRefIdeal.nD Cert.MixMemRefIdeal.τ).loc Cert.MixMemRefIdeal.main_arg9)
          ∧ r.2.mem ((c.tc : Thread Cert.MixMemRefIdeal.nD Cert.MixMemRefIdeal.τ).loc Cert.MixMemRefIdeal.main_arg10) = m' ((c.tc : Thread Cert.MixMemRefIdeal.nD Cert.MixMemRefIdeal.τ).loc Cert.MixMemRefIdeal.main_arg10)
          ∧ r.2.mem ((c.tc : Thread Cert.MixMemRefIdeal.nD Cert.MixMemRefIdeal.τ).loc Cert.MixMemRefIdeal.main_arg11) = m' ((c.tc : Thread Cert.MixMemRefIdeal.nD Cert.MixMemRefIdeal.τ).loc Cert.MixMemRefIdeal.main_arg11))

def preserves_ProjAttnSample_ProjAttnSampleIdeal : Prop :=
  True

def algebraic_ProjAttnSampleIdeal_ProjAttnSampleRefIdeal [hProjAttnSampleIdeal : Cert.ProjAttnSampleIdeal.Facts] [hProjAttnSampleRefIdeal : Cert.ProjAttnSampleRefIdeal.Facts] : Prop :=
  ∀ (m : (ℓ : Loc Cert.ProjAttnSampleIdeal.nD Cert.ProjAttnSampleIdeal.τ Cert.ProjAttnSampleIdeal.sig) → Buf (Elt Ideal) ℓ) (g : Dev Cert.ProjAttnSampleIdeal.nD → PrngReg)
    (m' : (ℓ : Loc Cert.ProjAttnSampleRefIdeal.nD Cert.ProjAttnSampleRefIdeal.τ Cert.ProjAttnSampleRefIdeal.sig) → Buf (Elt Ideal) ℓ) (g' : Dev Cert.ProjAttnSampleRefIdeal.nD → PrngReg), Pre_ProjAttnSampleIdeal m →
    (∀ c : Dev Cert.ProjAttnSampleIdeal.nD,
      m' ((c.tc : Thread Cert.ProjAttnSampleRefIdeal.nD Cert.ProjAttnSampleRefIdeal.τ).loc Cert.ProjAttnSampleRefIdeal.main_arg0) = m ((c.tc : Thread Cert.ProjAttnSampleIdeal.nD Cert.ProjAttnSampleIdeal.τ).loc Cert.ProjAttnSampleIdeal.main_arg0)
      ∧ m' ((c.tc : Thread Cert.ProjAttnSampleRefIdeal.nD Cert.ProjAttnSampleRefIdeal.τ).loc Cert.ProjAttnSampleRefIdeal.main_arg1) = m ((c.tc : Thread Cert.ProjAttnSampleIdeal.nD Cert.ProjAttnSampleIdeal.τ).loc Cert.ProjAttnSampleIdeal.main_arg1)
      ∧ m' ((c.tc : Thread Cert.ProjAttnSampleRefIdeal.nD Cert.ProjAttnSampleRefIdeal.τ).loc Cert.ProjAttnSampleRefIdeal.main_arg2) = m ((c.tc : Thread Cert.ProjAttnSampleIdeal.nD Cert.ProjAttnSampleIdeal.τ).loc Cert.ProjAttnSampleIdeal.main_arg2)
      ∧ m' ((c.tc : Thread Cert.ProjAttnSampleRefIdeal.nD Cert.ProjAttnSampleRefIdeal.τ).loc Cert.ProjAttnSampleRefIdeal.main_arg3) = m ((c.tc : Thread Cert.ProjAttnSampleIdeal.nD Cert.ProjAttnSampleIdeal.τ).loc Cert.ProjAttnSampleIdeal.main_arg3)) →
    ∃ (v0 : (c : Dev Cert.ProjAttnSampleIdeal.nD) → Buf (Elt Ideal) ((c.tc : Thread Cert.ProjAttnSampleIdeal.nD Cert.ProjAttnSampleIdeal.τ).loc Cert.ProjAttnSampleIdeal.main_v29_1)) (v1 : (c : Dev Cert.ProjAttnSampleIdeal.nD) → Buf (Elt Ideal) ((c.tc : Thread Cert.ProjAttnSampleIdeal.nD Cert.ProjAttnSampleIdeal.τ).loc Cert.ProjAttnSampleIdeal.main_v29_2)) (v2 : (c : Dev Cert.ProjAttnSampleIdeal.nD) → Buf (Elt Ideal) ((c.tc : Thread Cert.ProjAttnSampleIdeal.nD Cert.ProjAttnSampleIdeal.τ).loc Cert.ProjAttnSampleIdeal.main_v29_4)),
      θ_run (Cert.ProjAttnSampleIdeal.defs (F := Ideal)) (onTc (τ := Cert.ProjAttnSampleIdeal.τ) (Cert.ProjAttnSampleIdeal.main (F := Ideal))) ⟨m, fun _ => 0, g⟩ (fun r => ∀ c : Dev Cert.ProjAttnSampleIdeal.nD,
          r.2.mem ((c.tc : Thread Cert.ProjAttnSampleIdeal.nD Cert.ProjAttnSampleIdeal.τ).loc Cert.ProjAttnSampleIdeal.main_v29_1) = v0 c
          ∧ r.2.mem ((c.tc : Thread Cert.ProjAttnSampleIdeal.nD Cert.ProjAttnSampleIdeal.τ).loc Cert.ProjAttnSampleIdeal.main_v29_2) = v1 c
          ∧ r.2.mem ((c.tc : Thread Cert.ProjAttnSampleIdeal.nD Cert.ProjAttnSampleIdeal.τ).loc Cert.ProjAttnSampleIdeal.main_v29_4) = v2 c
          ∧ r.2.mem ((c.tc : Thread Cert.ProjAttnSampleIdeal.nD Cert.ProjAttnSampleIdeal.τ).loc Cert.ProjAttnSampleIdeal.main_arg0) = m ((c.tc : Thread Cert.ProjAttnSampleIdeal.nD Cert.ProjAttnSampleIdeal.τ).loc Cert.ProjAttnSampleIdeal.main_arg0)
          ∧ r.2.mem ((c.tc : Thread Cert.ProjAttnSampleIdeal.nD Cert.ProjAttnSampleIdeal.τ).loc Cert.ProjAttnSampleIdeal.main_arg1) = m ((c.tc : Thread Cert.ProjAttnSampleIdeal.nD Cert.ProjAttnSampleIdeal.τ).loc Cert.ProjAttnSampleIdeal.main_arg1)
          ∧ r.2.mem ((c.tc : Thread Cert.ProjAttnSampleIdeal.nD Cert.ProjAttnSampleIdeal.τ).loc Cert.ProjAttnSampleIdeal.main_arg2) = m ((c.tc : Thread Cert.ProjAttnSampleIdeal.nD Cert.ProjAttnSampleIdeal.τ).loc Cert.ProjAttnSampleIdeal.main_arg2)
          ∧ r.2.mem ((c.tc : Thread Cert.ProjAttnSampleIdeal.nD Cert.ProjAttnSampleIdeal.τ).loc Cert.ProjAttnSampleIdeal.main_arg3) = m ((c.tc : Thread Cert.ProjAttnSampleIdeal.nD Cert.ProjAttnSampleIdeal.τ).loc Cert.ProjAttnSampleIdeal.main_arg3))
      ∧ θ_run (Cert.ProjAttnSampleRefIdeal.defs (F := Ideal)) (onTc (τ := Cert.ProjAttnSampleRefIdeal.τ) (Cert.ProjAttnSampleRefIdeal.main (F := Ideal))) ⟨m', fun _ => 0, g'⟩ (fun r => ∀ c : Dev Cert.ProjAttnSampleRefIdeal.nD,
          r.2.mem ((c.tc : Thread Cert.ProjAttnSampleRefIdeal.nD Cert.ProjAttnSampleRefIdeal.τ).loc Cert.ProjAttnSampleRefIdeal.main_v2) = v0 c
          ∧ r.2.mem ((c.tc : Thread Cert.ProjAttnSampleRefIdeal.nD Cert.ProjAttnSampleRefIdeal.τ).loc Cert.ProjAttnSampleRefIdeal.main_v3) = v1 c
          ∧ r.2.mem ((c.tc : Thread Cert.ProjAttnSampleRefIdeal.nD Cert.ProjAttnSampleRefIdeal.τ).loc Cert.ProjAttnSampleRefIdeal.main_v13) = v2 c
          ∧ r.2.mem ((c.tc : Thread Cert.ProjAttnSampleRefIdeal.nD Cert.ProjAttnSampleRefIdeal.τ).loc Cert.ProjAttnSampleRefIdeal.main_arg0) = m' ((c.tc : Thread Cert.ProjAttnSampleRefIdeal.nD Cert.ProjAttnSampleRefIdeal.τ).loc Cert.ProjAttnSampleRefIdeal.main_arg0)
          ∧ r.2.mem ((c.tc : Thread Cert.ProjAttnSampleRefIdeal.nD Cert.ProjAttnSampleRefIdeal.τ).loc Cert.ProjAttnSampleRefIdeal.main_arg1) = m' ((c.tc : Thread Cert.ProjAttnSampleRefIdeal.nD Cert.ProjAttnSampleRefIdeal.τ).loc Cert.ProjAttnSampleRefIdeal.main_arg1)
          ∧ r.2.mem ((c.tc : Thread Cert.ProjAttnSampleRefIdeal.nD Cert.ProjAttnSampleRefIdeal.τ).loc Cert.ProjAttnSampleRefIdeal.main_arg2) = m' ((c.tc : Thread Cert.ProjAttnSampleRefIdeal.nD Cert.ProjAttnSampleRefIdeal.τ).loc Cert.ProjAttnSampleRefIdeal.main_arg2)
          ∧ r.2.mem ((c.tc : Thread Cert.ProjAttnSampleRefIdeal.nD Cert.ProjAttnSampleRefIdeal.τ).loc Cert.ProjAttnSampleRefIdeal.main_arg3) = m' ((c.tc : Thread Cert.ProjAttnSampleRefIdeal.nD Cert.ProjAttnSampleRefIdeal.τ).loc Cert.ProjAttnSampleRefIdeal.main_arg3))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v5)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v5) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v33) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5))

def preserves_GlaPrompt_GlaPromptIdeal : Prop :=
  True

def algebraic_GlaPromptIdeal_GlaPromptRefIdeal_pre_finite_gate_prompt [hGlaPromptIdeal : Cert.GlaPromptIdeal.Facts] [hGlaPromptRefIdeal : Cert.GlaPromptRefIdeal.Facts] [hPre_finite_gate_prompt : Cert.Pre_finite_gate_prompt.Facts] : Prop :=
  ∀ (m : (ℓ : Loc Cert.GlaPromptIdeal.nD Cert.GlaPromptIdeal.τ Cert.GlaPromptIdeal.sig) → Buf (Elt Ideal) ℓ) (g : Dev Cert.GlaPromptIdeal.nD → PrngReg)
    (m' : (ℓ : Loc Cert.GlaPromptRefIdeal.nD Cert.GlaPromptRefIdeal.τ Cert.GlaPromptRefIdeal.sig) → Buf (Elt Ideal) ℓ) (g' : Dev Cert.GlaPromptRefIdeal.nD → PrngReg), Pre_GlaPromptIdeal_finite_gate_prompt m →
    (∀ c : Dev Cert.GlaPromptIdeal.nD,
      m' ((c.tc : Thread Cert.GlaPromptRefIdeal.nD Cert.GlaPromptRefIdeal.τ).loc Cert.GlaPromptRefIdeal.main_arg0) = m ((c.tc : Thread Cert.GlaPromptIdeal.nD Cert.GlaPromptIdeal.τ).loc Cert.GlaPromptIdeal.main_arg0)
      ∧ m' ((c.tc : Thread Cert.GlaPromptRefIdeal.nD Cert.GlaPromptRefIdeal.τ).loc Cert.GlaPromptRefIdeal.main_arg1) = m ((c.tc : Thread Cert.GlaPromptIdeal.nD Cert.GlaPromptIdeal.τ).loc Cert.GlaPromptIdeal.main_arg1)
      ∧ m' ((c.tc : Thread Cert.GlaPromptRefIdeal.nD Cert.GlaPromptRefIdeal.τ).loc Cert.GlaPromptRefIdeal.main_arg2) = m ((c.tc : Thread Cert.GlaPromptIdeal.nD Cert.GlaPromptIdeal.τ).loc Cert.GlaPromptIdeal.main_arg2)
      ∧ m' ((c.tc : Thread Cert.GlaPromptRefIdeal.nD Cert.GlaPromptRefIdeal.τ).loc Cert.GlaPromptRefIdeal.main_arg3) = m ((c.tc : Thread Cert.GlaPromptIdeal.nD Cert.GlaPromptIdeal.τ).loc Cert.GlaPromptIdeal.main_arg3)
      ∧ m' ((c.tc : Thread Cert.GlaPromptRefIdeal.nD Cert.GlaPromptRefIdeal.τ).loc Cert.GlaPromptRefIdeal.main_arg4) = m ((c.tc : Thread Cert.GlaPromptIdeal.nD Cert.GlaPromptIdeal.τ).loc Cert.GlaPromptIdeal.main_arg4)
      ∧ m' ((c.tc : Thread Cert.GlaPromptRefIdeal.nD Cert.GlaPromptRefIdeal.τ).loc Cert.GlaPromptRefIdeal.main_arg5) = m ((c.tc : Thread Cert.GlaPromptIdeal.nD Cert.GlaPromptIdeal.τ).loc Cert.GlaPromptIdeal.main_arg5)
      ∧ m' ((c.tc : Thread Cert.GlaPromptRefIdeal.nD Cert.GlaPromptRefIdeal.τ).loc Cert.GlaPromptRefIdeal.main_arg6) = m ((c.tc : Thread Cert.GlaPromptIdeal.nD Cert.GlaPromptIdeal.τ).loc Cert.GlaPromptIdeal.main_arg6)) →
    ∃ (v0 : (c : Dev Cert.GlaPromptIdeal.nD) → Buf (Elt Ideal) ((c.tc : Thread Cert.GlaPromptIdeal.nD Cert.GlaPromptIdeal.τ).loc Cert.GlaPromptIdeal.main_v1_1)),
      θ_run (Cert.GlaPromptIdeal.defs (F := Ideal)) (onTc (τ := Cert.GlaPromptIdeal.τ) (Cert.GlaPromptIdeal.main (F := Ideal))) ⟨m, fun _ => 0, g⟩ (fun r => ∀ c : Dev Cert.GlaPromptIdeal.nD,
          r.2.mem ((c.tc : Thread Cert.GlaPromptIdeal.nD Cert.GlaPromptIdeal.τ).loc Cert.GlaPromptIdeal.main_v1_1) = v0 c
          ∧ r.2.mem ((c.tc : Thread Cert.GlaPromptIdeal.nD Cert.GlaPromptIdeal.τ).loc Cert.GlaPromptIdeal.main_arg0) = m ((c.tc : Thread Cert.GlaPromptIdeal.nD Cert.GlaPromptIdeal.τ).loc Cert.GlaPromptIdeal.main_arg0)
          ∧ r.2.mem ((c.tc : Thread Cert.GlaPromptIdeal.nD Cert.GlaPromptIdeal.τ).loc Cert.GlaPromptIdeal.main_arg1) = m ((c.tc : Thread Cert.GlaPromptIdeal.nD Cert.GlaPromptIdeal.τ).loc Cert.GlaPromptIdeal.main_arg1)
          ∧ r.2.mem ((c.tc : Thread Cert.GlaPromptIdeal.nD Cert.GlaPromptIdeal.τ).loc Cert.GlaPromptIdeal.main_arg2) = m ((c.tc : Thread Cert.GlaPromptIdeal.nD Cert.GlaPromptIdeal.τ).loc Cert.GlaPromptIdeal.main_arg2)
          ∧ r.2.mem ((c.tc : Thread Cert.GlaPromptIdeal.nD Cert.GlaPromptIdeal.τ).loc Cert.GlaPromptIdeal.main_arg3) = m ((c.tc : Thread Cert.GlaPromptIdeal.nD Cert.GlaPromptIdeal.τ).loc Cert.GlaPromptIdeal.main_arg3)
          ∧ r.2.mem ((c.tc : Thread Cert.GlaPromptIdeal.nD Cert.GlaPromptIdeal.τ).loc Cert.GlaPromptIdeal.main_arg4) = m ((c.tc : Thread Cert.GlaPromptIdeal.nD Cert.GlaPromptIdeal.τ).loc Cert.GlaPromptIdeal.main_arg4)
          ∧ r.2.mem ((c.tc : Thread Cert.GlaPromptIdeal.nD Cert.GlaPromptIdeal.τ).loc Cert.GlaPromptIdeal.main_arg5) = m ((c.tc : Thread Cert.GlaPromptIdeal.nD Cert.GlaPromptIdeal.τ).loc Cert.GlaPromptIdeal.main_arg5)
          ∧ r.2.mem ((c.tc : Thread Cert.GlaPromptIdeal.nD Cert.GlaPromptIdeal.τ).loc Cert.GlaPromptIdeal.main_arg6) = m ((c.tc : Thread Cert.GlaPromptIdeal.nD Cert.GlaPromptIdeal.τ).loc Cert.GlaPromptIdeal.main_arg6))
      ∧ θ_run (Cert.GlaPromptRefIdeal.defs (F := Ideal)) (onTc (τ := Cert.GlaPromptRefIdeal.τ) (Cert.GlaPromptRefIdeal.main (F := Ideal))) ⟨m', fun _ => 0, g'⟩ (fun r => ∀ c : Dev Cert.GlaPromptRefIdeal.nD,
          r.2.mem ((c.tc : Thread Cert.GlaPromptRefIdeal.nD Cert.GlaPromptRefIdeal.τ).loc Cert.GlaPromptRefIdeal.main_v16) = v0 c
          ∧ r.2.mem ((c.tc : Thread Cert.GlaPromptRefIdeal.nD Cert.GlaPromptRefIdeal.τ).loc Cert.GlaPromptRefIdeal.main_arg0) = m' ((c.tc : Thread Cert.GlaPromptRefIdeal.nD Cert.GlaPromptRefIdeal.τ).loc Cert.GlaPromptRefIdeal.main_arg0)
          ∧ r.2.mem ((c.tc : Thread Cert.GlaPromptRefIdeal.nD Cert.GlaPromptRefIdeal.τ).loc Cert.GlaPromptRefIdeal.main_arg1) = m' ((c.tc : Thread Cert.GlaPromptRefIdeal.nD Cert.GlaPromptRefIdeal.τ).loc Cert.GlaPromptRefIdeal.main_arg1)
          ∧ r.2.mem ((c.tc : Thread Cert.GlaPromptRefIdeal.nD Cert.GlaPromptRefIdeal.τ).loc Cert.GlaPromptRefIdeal.main_arg2) = m' ((c.tc : Thread Cert.GlaPromptRefIdeal.nD Cert.GlaPromptRefIdeal.τ).loc Cert.GlaPromptRefIdeal.main_arg2)
          ∧ r.2.mem ((c.tc : Thread Cert.GlaPromptRefIdeal.nD Cert.GlaPromptRefIdeal.τ).loc Cert.GlaPromptRefIdeal.main_arg3) = m' ((c.tc : Thread Cert.GlaPromptRefIdeal.nD Cert.GlaPromptRefIdeal.τ).loc Cert.GlaPromptRefIdeal.main_arg3)
          ∧ r.2.mem ((c.tc : Thread Cert.GlaPromptRefIdeal.nD Cert.GlaPromptRefIdeal.τ).loc Cert.GlaPromptRefIdeal.main_arg4) = m' ((c.tc : Thread Cert.GlaPromptRefIdeal.nD Cert.GlaPromptRefIdeal.τ).loc Cert.GlaPromptRefIdeal.main_arg4)
          ∧ r.2.mem ((c.tc : Thread Cert.GlaPromptRefIdeal.nD Cert.GlaPromptRefIdeal.τ).loc Cert.GlaPromptRefIdeal.main_arg5) = m' ((c.tc : Thread Cert.GlaPromptRefIdeal.nD Cert.GlaPromptRefIdeal.τ).loc Cert.GlaPromptRefIdeal.main_arg5)
          ∧ r.2.mem ((c.tc : Thread Cert.GlaPromptRefIdeal.nD Cert.GlaPromptRefIdeal.τ).loc Cert.GlaPromptRefIdeal.main_arg6) = m' ((c.tc : Thread Cert.GlaPromptRefIdeal.nD Cert.GlaPromptRefIdeal.τ).loc Cert.GlaPromptRefIdeal.main_arg6))

def Claim : Prop :=
  ∃ (hGla : Cert.Gla.Facts) (hGlaIdeal : Cert.GlaIdeal.Facts) (hGlaRefIdeal : Cert.GlaRefIdeal.Facts) (hFfn : Cert.Ffn.Facts) (hFfnIdeal : Cert.FfnIdeal.Facts) (hFfnRefIdeal : Cert.FfnRefIdeal.Facts) (hMemKv : Cert.MemKv.Facts) (hMemKvIdeal : Cert.MemKvIdeal.Facts) (hMemKvRefIdeal : Cert.MemKvRefIdeal.Facts) (hProjAttn : Cert.ProjAttn.Facts) (hProjAttnIdeal : Cert.ProjAttnIdeal.Facts) (hProjAttnRefIdeal : Cert.ProjAttnRefIdeal.Facts) (hProjGla : Cert.ProjGla.Facts) (hProjGlaIdeal : Cert.ProjGlaIdeal.Facts) (hProjGlaRefIdeal : Cert.ProjGlaRefIdeal.Facts) (hMixMem : Cert.MixMem.Facts) (hMixMemIdeal : Cert.MixMemIdeal.Facts) (hMixMemRefIdeal : Cert.MixMemRefIdeal.Facts) (hProjAttnSample : Cert.ProjAttnSample.Facts) (hProjAttnSampleIdeal : Cert.ProjAttnSampleIdeal.Facts) (hProjAttnSampleRefIdeal : Cert.ProjAttnSampleRefIdeal.Facts) (hFfnSample : Cert.FfnSample.Facts) (hFfnSampleIdeal : Cert.FfnSampleIdeal.Facts) (hFfnSampleRefIdeal : Cert.FfnSampleRefIdeal.Facts) (hGlaPrompt : Cert.GlaPrompt.Facts) (hGlaPromptIdeal : Cert.GlaPromptIdeal.Facts) (hGlaPromptRefIdeal : Cert.GlaPromptRefIdeal.Facts) (hPre_finite_gate : Cert.Pre_finite_gate.Facts) (hPre_finite_gate_prompt : Cert.Pre_finite_gate_prompt.Facts),
    quiescent_Gla (hGla := hGla)
    ∧ quiescent_GlaIdeal (hGlaIdeal := hGlaIdeal)
    ∧ quiescent_GlaIdeal_pre_finite_gate (hGlaIdeal := hGlaIdeal) (hPre_finite_gate := hPre_finite_gate)
    ∧ quiescent_GlaRefIdeal (hGlaRefIdeal := hGlaRefIdeal)
    ∧ quiescent_GlaRefIdeal_pre_finite_gate (hGlaRefIdeal := hGlaRefIdeal) (hPre_finite_gate := hPre_finite_gate)
    ∧ quiescent_Ffn (hFfn := hFfn)
    ∧ quiescent_FfnIdeal (hFfnIdeal := hFfnIdeal)
    ∧ quiescent_FfnRefIdeal (hFfnRefIdeal := hFfnRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_ProjAttn (hProjAttn := hProjAttn)
    ∧ quiescent_ProjAttnIdeal (hProjAttnIdeal := hProjAttnIdeal)
    ∧ quiescent_ProjAttnRefIdeal (hProjAttnRefIdeal := hProjAttnRefIdeal)
    ∧ quiescent_ProjGla (hProjGla := hProjGla)
    ∧ quiescent_ProjGlaIdeal (hProjGlaIdeal := hProjGlaIdeal)
    ∧ quiescent_ProjGlaRefIdeal (hProjGlaRefIdeal := hProjGlaRefIdeal)
    ∧ quiescent_MixMem (hMixMem := hMixMem)
    ∧ quiescent_MixMemIdeal (hMixMemIdeal := hMixMemIdeal)
    ∧ quiescent_MixMemRefIdeal (hMixMemRefIdeal := hMixMemRefIdeal)
    ∧ quiescent_ProjAttnSample (hProjAttnSample := hProjAttnSample)
    ∧ quiescent_ProjAttnSampleIdeal (hProjAttnSampleIdeal := hProjAttnSampleIdeal)
    ∧ quiescent_ProjAttnSampleRefIdeal (hProjAttnSampleRefIdeal := hProjAttnSampleRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_GlaPrompt (hGlaPrompt := hGlaPrompt)
    ∧ quiescent_GlaPromptIdeal (hGlaPromptIdeal := hGlaPromptIdeal)
    ∧ quiescent_GlaPromptIdeal_pre_finite_gate_prompt (hGlaPromptIdeal := hGlaPromptIdeal) (hPre_finite_gate_prompt := hPre_finite_gate_prompt)
    ∧ quiescent_GlaPromptRefIdeal (hGlaPromptRefIdeal := hGlaPromptRefIdeal)
    ∧ quiescent_GlaPromptRefIdeal_pre_finite_gate_prompt (hGlaPromptRefIdeal := hGlaPromptRefIdeal) (hPre_finite_gate_prompt := hPre_finite_gate_prompt)
    ∧ preserves_Gla_GlaIdeal
    ∧ algebraic_GlaIdeal_GlaRefIdeal_pre_finite_gate (hGlaIdeal := hGlaIdeal) (hGlaRefIdeal := hGlaRefIdeal) (hPre_finite_gate := hPre_finite_gate)
    ∧ preserves_Ffn_FfnIdeal
    ∧ algebraic_FfnIdeal_FfnRefIdeal (hFfnIdeal := hFfnIdeal) (hFfnRefIdeal := hFfnRefIdeal)
    ∧ preserves_MemKv_MemKvIdeal
    ∧ algebraic_MemKvIdeal_MemKvRefIdeal (hMemKvIdeal := hMemKvIdeal) (hMemKvRefIdeal := hMemKvRefIdeal)
    ∧ preserves_ProjAttn_ProjAttnIdeal
    ∧ algebraic_ProjAttnIdeal_ProjAttnRefIdeal (hProjAttnIdeal := hProjAttnIdeal) (hProjAttnRefIdeal := hProjAttnRefIdeal)
    ∧ preserves_ProjGla_ProjGlaIdeal
    ∧ algebraic_ProjGlaIdeal_ProjGlaRefIdeal (hProjGlaIdeal := hProjGlaIdeal) (hProjGlaRefIdeal := hProjGlaRefIdeal)
    ∧ preserves_MixMem_MixMemIdeal
    ∧ algebraic_MixMemIdeal_MixMemRefIdeal (hMixMemIdeal := hMixMemIdeal) (hMixMemRefIdeal := hMixMemRefIdeal)
    ∧ preserves_ProjAttnSample_ProjAttnSampleIdeal
    ∧ algebraic_ProjAttnSampleIdeal_ProjAttnSampleRefIdeal (hProjAttnSampleIdeal := hProjAttnSampleIdeal) (hProjAttnSampleRefIdeal := hProjAttnSampleRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_GlaPrompt_GlaPromptIdeal
    ∧ algebraic_GlaPromptIdeal_GlaPromptRefIdeal_pre_finite_gate_prompt (hGlaPromptIdeal := hGlaPromptIdeal) (hGlaPromptRefIdeal := hGlaPromptRefIdeal) (hPre_finite_gate_prompt := hPre_finite_gate_prompt)
-- ==== Pre_finite_gate.lean ====
abbrev S8x64x512 : Shape := ⟨3, ![8, 64, 512]⟩
abbrev S8x64x1024 : Shape := ⟨3, ![8, 64, 1024]⟩
abbrev S1024 : Shape := ⟨1, ![1024]⟩
abbrev S8x4x128x256 : Shape := ⟨4, ![8, 4, 128, 256]⟩
abbrev S_ : Shape := ⟨0, ![]⟩

class Facts : Prop where
  bcast_S_S8x64x512 : S_.BroadcastsInDim S8x64x512 (![] : Fin 0 → Fin S8x64x512.rank)
  reducesTo_S8x64x512_S_d0_1_2 : S8x64x512.ReducesTo [0, 1, 2] S_
  h_S_ : 0 < S_.numel

variable [Facts]

def fn {F : FTy → Type} [FloatOps F] (main_arg0 : FVec F S8x64x512 .f32) (main_arg1 : FVec F S8x64x512 .f32) (main_arg2 : FVec F S8x64x1024 .f32) (main_arg3 : FVec F S8x64x512 .f32) (main_arg4 : FVec F S8x64x1024 .f32) (main_arg5 : FVec F S1024 .f32) (main_arg6 : FVec F S8x4x128x256 .f32) : IVec S_ 1 :=
  let main_v0 : FVec F S8x64x512 .f32 := Host.absf main_arg3
  let main_cst : FVec F S_ .f32 := constant S_ .f32 0x7F800000#32
  let main_v1 : FVec F S8x64x512 .f32 := broadcastInDim S8x64x512 ![] bcast_S_S8x64x512 main_cst
  let main_v2 : IVec S8x64x512 1 := cmpf .olt main_v0 main_v1
  let main_c : IVec S_ 1 := constantI S_ 1 1#1
  let main_v3 : IVec S_ 1 := (fun x v => Host.reduce IntOp.andi x v reducesTo_S8x64x512_S_d0_1_2 h_S_) main_v2 main_c
  main_v3
-- ==== Pre_finite_gate_prompt.lean ====
abbrev S2x16384x512 : Shape := ⟨3, ![2, 16384, 512]⟩
abbrev S2x16384x1024 : Shape := ⟨3, ![2, 16384, 1024]⟩
abbrev S1024 : Shape := ⟨1, ![1024]⟩
abbrev S2x4x128x256 : Shape := ⟨4, ![2, 4, 128, 256]⟩
abbrev S_ : Shape := ⟨0, ![]⟩

class Facts : Prop where
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel

variable [Facts]

def fn {F : FTy → Type} [FloatOps F] (main_arg0 : FVec F S2x16384x512 .f32) (main_arg1 : FVec F S2x16384x512 .f32) (main_arg2 : FVec F S2x16384x1024 .f32) (main_arg3 : FVec F S2x16384x512 .f32) (main_arg4 : FVec F S2x16384x1024 .f32) (main_arg5 : FVec F S1024 .f32) (main_arg6 : FVec F S2x4x128x256 .f32) : IVec S_ 1 :=
  let main_v0 : FVec F S2x16384x512 .f32 := Host.absf main_arg3
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  let main_c : IVec S_ 1 := constantI S_ 1 1#1
  let main_v3 : IVec S_ 1 := (fun x v => Host.reduce IntOp.andi x v reducesTo_S2x16384x512_S_d0_1_2 h_S_) main_v2 main_c
  main_v3
-- ==== Gla.lean ====
abbrev S8x64x512 : Shape := ⟨3, ![8, 64, 512]⟩
abbrev S8x64x1024 : Shape := ⟨3, ![8, 64, 1024]⟩
abbrev S1024 : Shape := ⟨1, ![1024]⟩
abbrev S8x4x128x256 : Shape := ⟨4, ![8, 4, 128, 256]⟩
abbrev S1x1024 : Shape := ⟨2, ![1, 1024]⟩
abbrev S1x64x512 : Shape := ⟨3, ![1, 64, 512]⟩
abbrev S1x64x1024 : Shape := ⟨3, ![1, 64, 1024]⟩
abbrev S1x4x128x256 : Shape := ⟨4, ![1, 4, 128, 256]⟩
abbrev S4x128x256 : Shape := ⟨3, ![4, 128, 256]⟩
abbrev S64x64 : Shape := ⟨2, ![64, 64]⟩
abbrev S64x128 : Shape := ⟨2, ![64, 128]⟩
abbrev S128x128 : Shape := ⟨2, ![128, 128]⟩
abbrev S384x256 : Shape := ⟨2, ![384, 256]⟩
abbrev S1x64x128 : Shape := ⟨3, ![1, 64, 128]⟩
abbrev S64x384 : Shape := ⟨2, ![64, 384]⟩
abbrev S1x128 : Shape := ⟨2, ![1, 128]⟩
abbrev S128x384 : Shape := ⟨2, ![128, 384]⟩
abbrev S128x256 : Shape := ⟨2, ![128, 256]⟩
abbrev S16x128 : Shape := ⟨2, ![16, 128]⟩
abbrev S64x512 : Shape := ⟨2, ![64, 512]⟩
abbrev S128x64 : Shape := ⟨2, ![128, 64]⟩
abbrev S1x64x256 : Shape := ⟨3, ![1, 64, 256]⟩
abbrev S64x256 : Shape := ⟨2, ![64, 256]⟩
abbrev S1x128x256 : Shape := ⟨3, ![1, 128, 256]⟩
abbrev S64 : Shape := ⟨1, ![64]⟩
abbrev S64x1 : Shape := ⟨2, ![64, 1]⟩
abbrev S1x256 : Shape := ⟨2, ![1, 256]⟩

abbrev nBuf : Space → Nat
  | .hbm => 10
  | .vmem => 18
  | .smem => 0
  | _ => 0

abbrev bufTy : (tb : Table) → Fin (tcTables nBuf tb) → BufTy
  | .hbm, ⟨0, _⟩ => ⟨S8x64x512, .f32⟩
  | .hbm, ⟨1, _⟩ => ⟨S8x64x512, .f32⟩
  | .hbm, ⟨2, _⟩ => ⟨S8x64x1024, .f32⟩
  | .hbm, ⟨3, _⟩ => ⟨S8x64x512, .f32⟩
  | .hbm, ⟨4, _⟩ => ⟨S8x64x1024, .f32⟩
  | .hbm, ⟨5, _⟩ => ⟨S1024, .f32⟩
  | .hbm, ⟨6, _⟩ => ⟨S8x4x128x256, .f32⟩
  | .hbm, ⟨7, _⟩ => ⟨S1x1024, .f32⟩
  | .hbm, ⟨8, _⟩ => ⟨S8x64x1024, .bf16⟩
  | .hbm, ⟨9, _⟩ => ⟨S8x4x128x256, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x1024, .f32⟩
  | .local _ .vmem, ⟨5, _⟩ => ⟨S1x64x1024, .f32⟩
  | .local _ .vmem, ⟨6, _⟩ => ⟨S1x64x512, .f32⟩
  | .local _ .vmem, ⟨7, _⟩ => ⟨S1x64x512, .f32⟩
  | .local _ .vmem, ⟨8, _⟩ => ⟨S1x64x1024, .f32⟩
  | .local _ .vmem, ⟨9, _⟩ => ⟨S1x64x1024, .f32⟩
  | .local _ .vmem, ⟨10, _⟩ => ⟨S1x1024, .f32⟩
  | .local _ .vmem, ⟨11, _⟩ => ⟨S1x4x128x256, .f32⟩
  | .local _ .vmem, ⟨12, _⟩ => ⟨S1x4x128x256, .f32⟩
  | .local _ .vmem, ⟨13, _⟩ => ⟨S1x64x1024, .bf16⟩
  | .local _ .vmem, ⟨14, _⟩ => ⟨S1x64x1024, .bf16⟩
  | .local _ .vmem, ⟨15, _⟩ => ⟨S1x4x128x256, .f32⟩
  | .local _ .vmem, ⟨16, _⟩ => ⟨S1x4x128x256, .f32⟩
  | .local _ .vmem, ⟨17, _⟩ => ⟨S4x128x256, .f32⟩
  | _, _ => ⟨S8x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_317 : BitVec 32 := 0#32
  let v1042 : BitVec 1 := Scalar.cmpi .eq arg1 c0_i32_317
  let v1043 : BitVec 32 := Scalar.extui v1042
  let c0_i32_318 : BitVec 32 := 0#32
  let v1044 : BitVec 1 := Scalar.cmpi .ne v1043 c0_i32_318
  v1044

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GlaRefIdeal.lean ====
abbrev S8x64x512 : Shape := ⟨3, ![8, 64, 512]⟩
abbrev S8x64x1024 : Shape := ⟨3, ![8, 64, 1024]⟩
abbrev S1024 : Shape := ⟨1, ![1024]⟩
abbrev S8x4x128x256 : Shape := ⟨4, ![8, 4, 128, 256]⟩
abbrev S8x64x4x128 : Shape := ⟨4, ![8, 64, 4, 128]⟩
abbrev S8x64x4x256 : Shape := ⟨4, ![8, 64, 4, 256]⟩
abbrev S_ : Shape := ⟨0, ![]⟩
abbrev S64x64 : Shape := ⟨2, ![64, 64]⟩
abbrev S8x4x256x64 : Shape := ⟨4, ![8, 4, 256, 64]⟩
abbrev S8x64x1x4x128 : Shape := ⟨5, ![8, 64, 1, 4, 128]⟩
abbrev S8x1x64x4x128 : Shape := ⟨5, ![8, 1, 64, 4, 128]⟩
abbrev S8x64x64x4x128 : Shape := ⟨5, ![8, 64, 64, 4, 128]⟩
abbrev S1x64x64x1x1 : Shape := ⟨5, ![1, 64, 64, 1, 1]⟩
abbrev S8x64x64x4 : Shape := ⟨4, ![8, 64, 64, 4]⟩
abbrev S8x1x4x128 : Shape := ⟨4, ![8, 1, 4, 128]⟩
abbrev S8x4x128 : Shape := ⟨3, ![8, 4, 128]⟩
abbrev S8x4x128x1 : Shape := ⟨4, ![8, 4, 128, 1]⟩
abbrev S8x64x4 : Shape := ⟨3, ![8, 64, 4]⟩
abbrev S8x64x4x1 : Shape := ⟨4, ![8, 64, 4, 1]⟩
abbrev S4x256 : Shape := ⟨2, ![4, 256]⟩
abbrev S1x1x4x256 : Shape := ⟨4, ![1, 1, 4, 256]⟩

abbrev nBuf : Space → Nat
  | .hbm => 104
  | .vmem => 0
  | .smem => 0
  | _ => 0

abbrev bufTy : (tb : Table) → Fin (tcTables nBuf tb) → BufTy
  | .hbm, ⟨0, _⟩ => ⟨S8x64x512, .f32⟩
  | .hbm, ⟨1, _⟩ => ⟨S8x64x512, .f32⟩
  | .hbm, ⟨2, _⟩ => ⟨S8x64x1024, .f32⟩
  | .hbm, ⟨3, _⟩ => ⟨S8x64x512, .f32⟩
  | .hbm, ⟨4, _⟩ => ⟨S8x64x1024, .f32⟩
  | .hbm, ⟨5, _⟩ => ⟨S1024, .f32⟩
  | .hbm, ⟨6, _⟩ => ⟨S8x4x128x256, .f32⟩
  | .hbm, ⟨7, _⟩ => ⟨S8x64x4x128, .f32⟩
  | .hbm, ⟨8, _⟩ => ⟨S8x64x4x128, .f32⟩
  | .hbm, ⟨9, _⟩ => ⟨S8x64x4x256, .f32⟩
  | .hbm, ⟨10, _⟩ => ⟨S8x64x4x128, .f32⟩
  | .hbm, ⟨11, _⟩ => ⟨S_, .i1⟩
  | .hbm, ⟨12, _⟩ => ⟨S64x64, .i1⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S_, .i1⟩
  | .hbm, ⟨20, _⟩ => ⟨S64x64, .i1⟩
  | .hbm, ⟨21, _⟩ => ⟨S64x64, .i1⟩
  | .hbm, ⟨22, _⟩ => ⟨S_, .f32⟩
  | .hbm, ⟨23, _⟩ => ⟨S_, .f32⟩
  | .hbm, ⟨24, _⟩ => ⟨S8x64x4x128, .f32⟩
  | .hbm, ⟨25, _⟩ => ⟨S8x64x4x128, .f32⟩
  | .hbm, ⟨26, _⟩ => ⟨S8x64x4x128, .f32⟩
  | .hbm, ⟨27, _⟩ => ⟨S8x4x256x64, .f32⟩
  | .hbm, ⟨28, _⟩ => ⟨S8x64x4x256, .f32⟩
  | .hbm, ⟨29, _⟩ => ⟨S8x64x1x4x128, .f32⟩
  | .hbm, ⟨30, _⟩ => ⟨S8x1x64x4x128, .f32⟩
  | .hbm, ⟨31, _⟩ => ⟨S8x64x64x4x128, .f32⟩
  | .hbm, ⟨32, _⟩ => ⟨S8x64x64x4x128, .f32⟩
  | .hbm, ⟨33, _⟩ => ⟨S8x64x64x4x128, .f32⟩
  | .hbm, ⟨34, _⟩ => ⟨S1x64x64x1x1, .i1⟩
  | .hbm, ⟨35, _⟩ => ⟨S_, .f32⟩
  | .hbm, ⟨36, _⟩ => ⟨S_, .f32⟩
  | .hbm, ⟨37, _⟩ => ⟨S8x64x64x4x128, .i1⟩
  | .hbm, ⟨38, _⟩ => ⟨S8x64x64x4x128, .f32⟩
  | .hbm, ⟨39, _⟩ => ⟨S8x64x64x4x128, .f32⟩
  | .hbm, ⟨40, _⟩ => ⟨S8x64x64x4x128, .f32⟩
  | .hbm, ⟨41, _⟩ => ⟨S8x64x1x4x128, .f32⟩
  | .hbm, ⟨42, _⟩ => ⟨S8x1x64x4x128, .f32⟩
  | .hbm, ⟨43, _⟩ => ⟨S8x64x64x4x128, .f32⟩
  | .hbm, ⟨44, _⟩ => ⟨S8x64x64x4x128, .f32⟩
  | .hbm, ⟨45, _⟩ => ⟨S8x64x64x4x128, .f32⟩
  | .hbm, ⟨46, _⟩ => ⟨S8x64x64x4x128, .f32⟩
  | .hbm, ⟨47, _⟩ => ⟨S_, .f32⟩
  | .hbm, ⟨48, _⟩ => ⟨S8x64x64x4, .f32⟩
  | .hbm, ⟨49, _⟩ => ⟨S8x4x256x64, .f32⟩
  | .hbm, ⟨50, _⟩ => ⟨S8x64x4x256, .f32⟩
  | .hbm, ⟨51, _⟩ => ⟨S8x1x4x128, .f32⟩
  | .hbm, ⟨52, _⟩ => ⟨S8x4x128, .f32⟩
  | .hbm, ⟨53, _⟩ => ⟨S8x4x128, .f32⟩
  | .hbm, ⟨54, _⟩ => ⟨S8x4x128x1, .f32⟩
  | .hbm, ⟨55, _⟩ => ⟨S8x4x128x256, .f32⟩
  | .hbm, ⟨56, _⟩ => ⟨S8x4x128x256, .f32⟩
  | .hbm, ⟨57, _⟩ => ⟨S8x1x4x128, .f32⟩
  | .hbm, ⟨58, _⟩ => ⟨S8x64x4x128, .f32⟩
  | .hbm, ⟨59, _⟩ => ⟨S8x64x4x128, .f32⟩
  | .hbm, ⟨60, _⟩ => ⟨S8x64x4x128, .f32⟩
  | .hbm, ⟨61, _⟩ => ⟨S8x64x4x128, .f32⟩
  | .hbm, ⟨62, _⟩ => ⟨S8x4x128x256, .f32⟩
  | .hbm, ⟨63, _⟩ => ⟨S8x4x128x256, .f32⟩
  | .hbm, ⟨64, _⟩ => ⟨S8x64x4x256, .f32⟩
  | .hbm, ⟨65, _⟩ => ⟨S_, .f32⟩
  | .hbm, ⟨66, _⟩ => ⟨S8x64x4, .f32⟩
  | .hbm, ⟨67, _⟩ => ⟨S8x64x4x1, .f32⟩
  | .hbm, ⟨68, _⟩ => ⟨S_, .f32⟩
  | .hbm, ⟨69, _⟩ => ⟨S8x64x4x1, .f32⟩
  | .hbm, ⟨70, _⟩ => ⟨S8x64x4x1, .f32⟩
  | .hbm, ⟨71, _⟩ => ⟨S8x64x4x256, .f32⟩
  | .hbm, ⟨72, _⟩ => ⟨S8x64x4x256, .f32⟩
  | .hbm, ⟨73, _⟩ => ⟨S8x64x4x256, .f32⟩
  | .hbm, ⟨74, _⟩ => ⟨S_, .f32⟩
  | .hbm, ⟨75, _⟩ => ⟨S8x64x4, .f32⟩
  | .hbm, ⟨76, _⟩ => ⟨S8x64x4x1, .f32⟩
  | .hbm, ⟨77, _⟩ => ⟨S_, .f32⟩
  | .hbm, ⟨78, _⟩ => ⟨S8x64x4x1, .f32⟩
  | .hbm, ⟨79, _⟩ => ⟨S8x64x4x1, .f32⟩
  | .hbm, ⟨80, _⟩ => ⟨S8x64x4x256, .f32⟩
  | .hbm, ⟨81, _⟩ => ⟨S8x64x4x256, .f32⟩
  | .hbm, ⟨82, _⟩ => ⟨S_, .f32⟩
  | .hbm, ⟨83, _⟩ => ⟨S8x64x4x1, .f32⟩
  | .hbm, ⟨84, _⟩ => ⟨S8x64x4x1, .f32⟩
  | .hbm, ⟨85, _⟩ => ⟨S8x64x4x1, .f32⟩
  | .hbm, ⟨86, _⟩ => ⟨S8x64x4x256, .f32⟩
  | .hbm, ⟨87, _⟩ => ⟨S8x64x4x256, .f32⟩
  | .hbm, ⟨88, _⟩ => ⟨S4x256, .f32⟩
  | .hbm, ⟨89, _⟩ => ⟨S1x1x4x256, .f32⟩
  | .hbm, ⟨90, _⟩ => ⟨S8x64x4x256, .f32⟩
  | .hbm, ⟨91, _⟩ => ⟨S8x64x4x256, .f32⟩
  | .hbm, ⟨92, _⟩ => ⟨S8x64x1024, .f32⟩
  | .hbm, ⟨93, _⟩ => ⟨S8x64x1024, .f32⟩
  | .hbm, ⟨94, _⟩ => ⟨S8x64x1024, .f32⟩
  | .hbm, ⟨95, _⟩ => ⟨S_, .f32⟩
  | .hbm, ⟨96, _⟩ => ⟨S8x64x1024, .f32⟩
  | .hbm, ⟨97, _⟩ => ⟨S8x64x1024, .f32⟩
  | .hbm, ⟨98, _⟩ => ⟨S_, .f32⟩
  | .hbm, ⟨99, _⟩ => ⟨S8x64x1024, .f32⟩
  | .hbm, ⟨100, _⟩ => ⟨S8x64x1024, .f32⟩
  | .hbm, ⟨101, _⟩ => ⟨S8x64x1024, .f32⟩
  | .hbm, ⟨102, _⟩ => ⟨S8x64x1024, .f32⟩
  | .hbm, ⟨103, _⟩ => ⟨S8x64x1024, .bf16⟩
  | _, _ => ⟨S8x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v5 : Ref sig .tc := ⟨.hbm, 21, rfl⟩
abbrev main_call1_call0_cst : Ref sig .tc := ⟨.hbm, 22, rfl⟩
abbrev main_call1_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_1 : Ref sig .tc := ⟨.hbm, 65, rfl⟩
abbrev main_v42 : Ref sig .tc := ⟨.hbm, 66, rfl⟩
abbrev main_v43 : Ref sig .tc := ⟨.hbm, 67, rfl⟩
abbrev main_cst_2 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_3 : Ref sig .tc := ⟨.hbm, 74, rfl⟩
abbrev main_v49 : Ref sig .tc := ⟨.hbm, 75, rfl⟩
abbrev main_v50 : Ref sig .tc := ⟨.hbm, 76, rfl⟩
abbrev main_cst_4 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_5 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call3_v0 : Ref sig .tc := ⟨.hbm, 93, rfl⟩
abbrev main_call3_v1 : Ref sig .tc := ⟨.hbm, 94, rfl⟩
abbrev main_call3_cst : Ref sig .tc := ⟨.hbm, 95, rfl⟩
abbrev main_call3_v2 : Ref sig .tc := ⟨.hbm, 96, rfl⟩
abbrev main_call3_v3 : Ref sig .tc := ⟨.hbm, 97, rfl⟩
abbrev main_call3_cst_0 : Ref sig .tc := ⟨.hbm, 98, rfl⟩
abbrev main_call3_v4 : Ref sig .tc := ⟨.hbm, 99, rfl⟩
abbrev main_call3_v5 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩

abbrev nD : Nat := 1
abbrev τ : Topo := Topo.v7x

variable {F : FTy → Type} [FloatOps F]
-- ==== Ffn.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnIdeal.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S32768x5632 : Shape := ⟨2, ![32768, 5632]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S32768x5632, .f32⟩
  | .hbm, ⟨7, _⟩ => ⟨S32768x5632, .f32⟩
  | .hbm, ⟨8, _⟩ => ⟨S32768x5632, .f32⟩
  | .hbm, ⟨9, _⟩ => ⟨S_, .f32⟩
  | .hbm, ⟨10, _⟩ => ⟨S32768x5632, .f32⟩
  | .hbm, ⟨11, _⟩ => ⟨S32768x5632, .f32⟩
  | .hbm, ⟨12, _⟩ => ⟨S_, .f32⟩
  | .hbm, ⟨13, _⟩ => ⟨S32768x5632, .f32⟩
  | .hbm, ⟨14, _⟩ => ⟨S32768x5632, .f32⟩
  | .hbm, ⟨15, _⟩ => ⟨S32768x5632, .f32⟩
  | .hbm, ⟨16, _⟩ => ⟨S32768x5632, .f32⟩
  | .hbm, ⟨17, _⟩ => ⟨S32768x5632, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x2048, .f32⟩
  | .hbm, ⟨42, _⟩ => ⟨S32768x2048, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x2048, .f32⟩
  | .hbm, ⟨48, _⟩ => ⟨S32768x2048, .f32⟩
  | .hbm, ⟨49, _⟩ => ⟨S1x2048, .f32⟩
  | .hbm, ⟨50, _⟩ => ⟨S32768x2048, .f32⟩
  | .hbm, ⟨51, _⟩ => ⟨S32768x2048, .f32⟩
  | .hbm, ⟨52, _⟩ => ⟨S1x2048, .f32⟩
  | .hbm, ⟨53, _⟩ => ⟨S32768x2048, .f32⟩
  | .hbm, ⟨54, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== MemKv.lean ====
abbrev S2x256x2048 : Shape := ⟨3, ![2, 256, 2048]⟩
abbrev S2048x512 : Shape := ⟨2, ![2048, 512]⟩
abbrev S512x2048 : Shape := ⟨2, ![512, 2048]⟩
abbrev S2048x1024 : Shape := ⟨2, ![2048, 1024]⟩
abbrev S512x1024 : Shape := ⟨2, ![512, 1024]⟩
abbrev S256x2048 : Shape := ⟨2, ![256, 2048]⟩
abbrev S256x1024 : Shape := ⟨2, ![256, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x256x2048, .f32⟩
  | .hbm, ⟨1, _⟩ => ⟨S2048x512, .f32⟩
  | .hbm, ⟨2, _⟩ => ⟨S2048x512, .f32⟩
  | .hbm, ⟨3, _⟩ => ⟨S512x2048, .f32⟩
  | .hbm, ⟨4, _⟩ => ⟨S2048x1024, .f32⟩
  | .hbm, ⟨5, _⟩ => ⟨S2048x1024, .bf16⟩
  | .hbm, ⟨6, _⟩ => ⟨S512x1024, .f32⟩
  | .local _ .vmem, ⟨0, _⟩ => ⟨S256x2048, .f32⟩
  | .local _ .vmem, ⟨1, _⟩ => ⟨S256x2048, .f32⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemKvRefIdeal.lean ====
abbrev S2x256x2048 : Shape := ⟨3, ![2, 256, 2048]⟩
abbrev S2048x512 : Shape := ⟨2, ![2048, 512]⟩
abbrev S2x256x512 : Shape := ⟨3, ![2, 256, 512]⟩
abbrev S2x256x1024 : Shape := ⟨3, ![2, 256, 1024]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048x512, .f32⟩
  | .hbm, ⟨2, _⟩ => ⟨S2048x512, .f32⟩
  | .hbm, ⟨3, _⟩ => ⟨S2x256x512, .f32⟩
  | .hbm, ⟨4, _⟩ => ⟨S2x256x512, .f32⟩
  | .hbm, ⟨5, _⟩ => ⟨S2x256x1024, .f32⟩
  | .hbm, ⟨6, _⟩ => ⟨S512x1024, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjAttn.lean ====
abbrev S32768x2048 : Shape := ⟨2, ![32768, 2048]⟩
abbrev S2048x5728 : Shape := ⟨2, ![2048, 5728]⟩
abbrev S16x512 : Shape := ⟨2, ![16, 512]⟩
abbrev S512 : Shape := ⟨1, ![512]⟩
abbrev S2048x1024 : Shape := ⟨2, ![2048, 1024]⟩
abbrev S2048x256 : Shape := ⟨2, ![2048, 256]⟩
abbrev S2048x64 : Shape := ⟨2, ![2048, 64]⟩
abbrev S2048x16 : Shape := ⟨2, ![2048, 16]⟩
abbrev S2048x512 : Shape := ⟨2, ![2048, 512]⟩
abbrev S_ : Shape := ⟨0, ![]⟩
abbrev S2048x32 : Shape := ⟨2, ![2048, 32]⟩
abbrev S2048x128 : Shape := ⟨2, ![2048, 128]⟩
abbrev S128x512 : Shape := ⟨2, ![128, 512]⟩
abbrev S1 : Shape := ⟨1, ![1]⟩
abbrev S1x512 : Shape := ⟨2, ![1, 512]⟩
abbrev S32768x1024 : Shape := ⟨2, ![32768, 1024]⟩
abbrev S32768x256 : Shape := ⟨2, ![32768, 256]⟩
abbrev S32768x128 : Shape := ⟨2, ![32768, 128]⟩
abbrev S32768x512 : Shape := ⟨2, ![32768, 512]⟩
abbrev S512x2048 : Shape := ⟨2, ![512, 2048]⟩
abbrev S512x1024 : Shape := ⟨2, ![512, 1024]⟩
abbrev S512x256 : Shape := ⟨2, ![512, 256]⟩
abbrev S512x128 : Shape := ⟨2, ![512, 128]⟩
abbrev S512x512 : Shape := ⟨2, ![512, 512]⟩

abbrev nBuf : Space → Nat
  | .hbm => 42
  | .vmem => 21
  | .smem => 0
  | _ => 0

abbrev bufTy : (tb : Table) → Fin (tcTables nBuf tb) → BufTy
  | .hbm, ⟨0, _⟩ => ⟨S32768x2048, .f32⟩
  | .hbm, ⟨1, _⟩ => ⟨S2048x5728, .f32⟩
  | .hbm, ⟨2, _⟩ => ⟨S16x512, .f32⟩
  | .hbm, ⟨3, _⟩ => ⟨S512, .f32⟩
  | .hbm, ⟨4, _⟩ => ⟨S2048x1024, .f32⟩
  | .hbm, ⟨5, _⟩ => ⟨S2048x1024, .bf16⟩
  | .hbm, ⟨6, _⟩ => ⟨S2048x256, .f32⟩
  | .hbm, ⟨7, _⟩ => ⟨S2048x256, .bf16⟩
  | .hbm, ⟨8, _⟩ => ⟨S2048x256, .f32⟩
  | .hbm, ⟨9, _⟩ => ⟨S2048x256, .bf16⟩
  | .hbm, ⟨10, _⟩ => ⟨S2048x1024, .f32⟩
  | .hbm, ⟨11, _⟩ => ⟨S2048x1024, .bf16⟩
  | .hbm, ⟨12, _⟩ => ⟨S2048x64, .f32⟩
  | .hbm, ⟨13, _⟩ => ⟨S2048x64, .bf16⟩
  | .hbm, ⟨14, _⟩ => ⟨S2048x16, .f32⟩
  | .hbm, ⟨15, _⟩ => ⟨S2048x16, .bf16⟩
  | .hbm, ⟨16, _⟩ => ⟨S2048x512, .f32⟩
  | .hbm, ⟨17, _⟩ => ⟨S2048x512, .bf16⟩
  | .hbm, ⟨18, _⟩ => ⟨S2048x512, .f32⟩
  | .hbm, ⟨19, _⟩ => ⟨S2048x512, .bf16⟩
  | .hbm, ⟨20, _⟩ => ⟨S2048x1024, .f32⟩
  | .hbm, ⟨21, _⟩ => ⟨S2048x1024, .bf16⟩
  | .hbm, ⟨22, _⟩ => ⟨S2048x16, .f32⟩
  | .hbm, ⟨23, _⟩ => ⟨S2048x16, .bf16⟩
  | .hbm, ⟨24, _⟩ => ⟨S2048x1024, .f32⟩
  | .hbm, ⟨25, _⟩ => ⟨S2048x1024, .bf16⟩
  | .hbm, ⟨26, _⟩ => ⟨S_, .bf16⟩
  | .hbm, ⟨27, _⟩ => ⟨S2048x32, .bf16⟩
  | .hbm, ⟨28, _⟩ => ⟨S2048x128, .bf16⟩
  | .hbm, ⟨29, _⟩ => ⟨S_, .bf16⟩
  | .hbm, ⟨30, _⟩ => ⟨S128x512, .bf16⟩
  | .hbm, ⟨31, _⟩ => ⟨S16x512, .bf16⟩
  | .hbm, ⟨32, _⟩ => ⟨S_, .i32⟩
  | .hbm, ⟨33, _⟩ => ⟨S1, .i32⟩
  | .hbm, ⟨34, _⟩ => ⟨S128x512, .bf16⟩
  | .hbm, ⟨35, _⟩ => ⟨S1x512, .f32⟩
  | .hbm, ⟨36, _⟩ => ⟨S32768x1024, .bf16⟩
  | .hbm, ⟨37, _⟩ => ⟨S32768x256, .f32⟩
  | .hbm, ⟨38, _⟩ => ⟨S32768x256, .f32⟩
  | .hbm, ⟨39, _⟩ => ⟨S32768x1024, .bf16⟩
  | .hbm, ⟨40, _⟩ => ⟨S32768x128, .f32⟩
  | .hbm, ⟨41, _⟩ => ⟨S32768x512, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x256, .bf16⟩
  | .local _ .vmem, ⟨4, _⟩ => ⟨S2048x256, .bf16⟩
  | .local _ .vmem, ⟨5, _⟩ => ⟨S2048x1024, .bf16⟩
  | .local _ .vmem, ⟨6, _⟩ => ⟨S2048x128, .bf16⟩
  | .local _ .vmem, ⟨7, _⟩ => ⟨S128x512, .bf16⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x1024, .bf16⟩
  | .local _ .vmem, ⟨16, _⟩ => ⟨S512x1024, .bf16⟩
  | .local _ .vmem, ⟨17, _⟩ => ⟨S512x128, .f32⟩
  | .local _ .vmem, ⟨18, _⟩ => ⟨S512x128, .f32⟩
  | .local _ .vmem, ⟨19, _⟩ => ⟨S512x512, .f32⟩
  | .local _ .vmem, ⟨20, _⟩ => ⟨S512x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev main_v29_2 : Ref sig .tc := ⟨.hbm, 38, rfl⟩
abbrev main_v29_3 : Ref sig .tc := ⟨.hbm, 39, rfl⟩
abbrev main_v29_4 : Ref sig .tc := ⟨.hbm, 40, rfl⟩
abbrev main_v29_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjAttnRefIdeal.lean ====
abbrev S32768x2048 : Shape := ⟨2, ![32768, 2048]⟩
abbrev S2048x5728 : Shape := ⟨2, ![2048, 5728]⟩
abbrev S16x512 : Shape := ⟨2, ![16, 512]⟩
abbrev S512 : Shape := ⟨1, ![512]⟩
abbrev S32768x5728 : Shape := ⟨2, ![32768, 5728]⟩
abbrev S32768x1024 : Shape := ⟨2, ![32768, 1024]⟩
abbrev S32768x256 : Shape := ⟨2, ![32768, 256]⟩
abbrev S32768x64 : Shape := ⟨2, ![32768, 64]⟩
abbrev S32768x16 : Shape := ⟨2, ![32768, 16]⟩
abbrev S32768x512 : Shape := ⟨2, ![32768, 512]⟩
abbrev S1x512 : Shape := ⟨2, ![1, 512]⟩
abbrev S_ : Shape := ⟨0, ![]⟩
abbrev S32768x32 : Shape := ⟨2, ![32768, 32]⟩
abbrev S32768x128 : Shape := ⟨2, ![32768, 128]⟩

abbrev nBuf : Space → Nat
  | .hbm => 47
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x5728, .f32⟩
  | .hbm, ⟨2, _⟩ => ⟨S16x512, .f32⟩
  | .hbm, ⟨3, _⟩ => ⟨S512, .f32⟩
  | .hbm, ⟨4, _⟩ => ⟨S32768x5728, .f32⟩
  | .hbm, ⟨5, _⟩ => ⟨S32768x1024, .f32⟩
  | .hbm, ⟨6, _⟩ => ⟨S32768x256, .f32⟩
  | .hbm, ⟨7, _⟩ => ⟨S32768x256, .f32⟩
  | .hbm, ⟨8, _⟩ => ⟨S32768x1024, .f32⟩
  | .hbm, ⟨9, _⟩ => ⟨S32768x64, .f32⟩
  | .hbm, ⟨10, _⟩ => ⟨S32768x16, .f32⟩
  | .hbm, ⟨11, _⟩ => ⟨S32768x512, .f32⟩
  | .hbm, ⟨12, _⟩ => ⟨S32768x512, .f32⟩
  | .hbm, ⟨13, _⟩ => ⟨S32768x1024, .f32⟩
  | .hbm, ⟨14, _⟩ => ⟨S32768x16, .f32⟩
  | .hbm, ⟨15, _⟩ => ⟨S32768x1024, .f32⟩
  | .hbm, ⟨16, _⟩ => ⟨S32768x512, .f32⟩
  | .hbm, ⟨17, _⟩ => ⟨S1x512, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S_, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .i1⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S_, .f32⟩
  | .hbm, ⟨37, _⟩ => ⟨S32768x512, .f32⟩
  | .hbm, ⟨38, _⟩ => ⟨S32768x512, .f32⟩
  | .hbm, ⟨39, _⟩ => ⟨S_, .f32⟩
  | .hbm, ⟨40, _⟩ => ⟨S32768x32, .f32⟩
  | .hbm, ⟨41, _⟩ => ⟨S32768x128, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S32768x1024, .bf16⟩
  | .hbm, ⟨46, _⟩ => ⟨S32768x1024, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_cst_0 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]
-- ==== ProjGla.lean ====
abbrev S32768x2048 : Shape := ⟨2, ![32768, 2048]⟩
abbrev S2048x5728 : Shape := ⟨2, ![2048, 5728]⟩
abbrev S16x512 : Shape := ⟨2, ![16, 512]⟩
abbrev S2048x1024 : Shape := ⟨2, ![2048, 1024]⟩
abbrev S2048x256 : Shape := ⟨2, ![2048, 256]⟩
abbrev S2048x64 : Shape := ⟨2, ![2048, 64]⟩
abbrev S2048x16 : Shape := ⟨2, ![2048, 16]⟩
abbrev S2048x512 : Shape := ⟨2, ![2048, 512]⟩
abbrev S_ : Shape := ⟨0, ![]⟩
abbrev S2048x32 : Shape := ⟨2, ![2048, 32]⟩
abbrev S2048x128 : Shape := ⟨2, ![2048, 128]⟩
abbrev S128x512 : Shape := ⟨2, ![128, 512]⟩
abbrev S1 : Shape := ⟨1, ![1]⟩
abbrev S32768x512 : Shape := ⟨2, ![32768, 512]⟩
abbrev S32768x1024 : Shape := ⟨2, ![32768, 1024]⟩
abbrev S512x2048 : Shape := ⟨2, ![512, 2048]⟩
abbrev S512x512 : Shape := ⟨2, ![512, 512]⟩
abbrev S512x1024 : Shape := ⟨2, ![512, 1024]⟩

abbrev nBuf : Space → Nat
  | .hbm => 38
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S2048x5728, .f32⟩
  | .hbm, ⟨2, _⟩ => ⟨S16x512, .f32⟩
  | .hbm, ⟨3, _⟩ => ⟨S2048x1024, .f32⟩
  | .hbm, ⟨4, _⟩ => ⟨S2048x1024, .bf16⟩
  | .hbm, ⟨5, _⟩ => ⟨S2048x256, .f32⟩
  | .hbm, ⟨6, _⟩ => ⟨S2048x256, .bf16⟩
  | .hbm, ⟨7, _⟩ => ⟨S2048x256, .f32⟩
  | .hbm, ⟨8, _⟩ => ⟨S2048x256, .bf16⟩
  | .hbm, ⟨9, _⟩ => ⟨S2048x1024, .f32⟩
  | .hbm, ⟨10, _⟩ => ⟨S2048x1024, .bf16⟩
  | .hbm, ⟨11, _⟩ => ⟨S2048x64, .f32⟩
  | .hbm, ⟨12, _⟩ => ⟨S2048x64, .bf16⟩
  | .hbm, ⟨13, _⟩ => ⟨S2048x16, .f32⟩
  | .hbm, ⟨14, _⟩ => ⟨S2048x16, .bf16⟩
  | .hbm, ⟨15, _⟩ => ⟨S2048x512, .f32⟩
  | .hbm, ⟨16, _⟩ => ⟨S2048x512, .bf16⟩
  | .hbm, ⟨17, _⟩ => ⟨S2048x512, .f32⟩
  | .hbm, ⟨18, _⟩ => ⟨S2048x512, .bf16⟩
  | .hbm, ⟨19, _⟩ => ⟨S2048x1024, .f32⟩
  | .hbm, ⟨20, _⟩ => ⟨S2048x1024, .bf16⟩
  | .hbm, ⟨21, _⟩ => ⟨S2048x16, .f32⟩
  | .hbm, ⟨22, _⟩ => ⟨S2048x16, .bf16⟩
  | .hbm, ⟨23, _⟩ => ⟨S2048x1024, .f32⟩
  | .hbm, ⟨24, _⟩ => ⟨S2048x1024, .bf16⟩
  | .hbm, ⟨25, _⟩ => ⟨S_, .bf16⟩
  | .hbm, ⟨26, _⟩ => ⟨S2048x32, .bf16⟩
  | .hbm, ⟨27, _⟩ => ⟨S2048x128, .bf16⟩
  | .hbm, ⟨28, _⟩ => ⟨S_, .bf16⟩
  | .hbm, ⟨29, _⟩ => ⟨S128x512, .bf16⟩
  | .hbm, ⟨30, _⟩ => ⟨S16x512, .bf16⟩
  | .hbm, ⟨31, _⟩ => ⟨S_, .i32⟩
  | .hbm, ⟨32, _⟩ => ⟨S1, .i32⟩
  | .hbm, ⟨33, _⟩ => ⟨S128x512, .bf16⟩
  | .hbm, ⟨34, _⟩ => ⟨S32768x512, .f32⟩
  | .hbm, ⟨35, _⟩ => ⟨S32768x512, .f32⟩
  | .hbm, ⟨36, _⟩ => ⟨S32768x1024, .f32⟩
  | .hbm, ⟨37, _⟩ => ⟨S32768x1024, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_v25 : Ref sig .tc := ⟨.hbm, 30, rfl⟩
abbrev main_c : Ref sig .tc := ⟨.hbm, 31, rfl⟩
abbrev main_v26 : Ref sig .tc := ⟨.hbm, 32, rfl⟩
abbrev main_v27 : Ref sig .tc := ⟨.hbm, 33, rfl⟩
abbrev main_v28_0 : Ref sig .tc := ⟨.hbm, 34, rfl⟩
abbrev main_v28_1 : Ref sig .tc := ⟨.hbm, 35, rfl⟩
abbrev main_v28_2 : Ref sig .tc := ⟨.hbm, 36, rfl⟩
abbrev main_v28_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjGlaRefIdeal.lean ====
abbrev S32768x2048 : Shape := ⟨2, ![32768, 2048]⟩
abbrev S2048x5728 : Shape := ⟨2, ![2048, 5728]⟩
abbrev S16x512 : Shape := ⟨2, ![16, 512]⟩
abbrev S32768x5728 : Shape := ⟨2, ![32768, 5728]⟩
abbrev S32768x1024 : Shape := ⟨2, ![32768, 1024]⟩
abbrev S32768x256 : Shape := ⟨2, ![32768, 256]⟩
abbrev S32768x64 : Shape := ⟨2, ![32768, 64]⟩
abbrev S32768x16 : Shape := ⟨2, ![32768, 16]⟩
abbrev S32768x512 : Shape := ⟨2, ![32768, 512]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x5728, .f32⟩
  | .hbm, ⟨2, _⟩ => ⟨S16x512, .f32⟩
  | .hbm, ⟨3, _⟩ => ⟨S32768x5728, .f32⟩
  | .hbm, ⟨4, _⟩ => ⟨S32768x1024, .f32⟩
  | .hbm, ⟨5, _⟩ => ⟨S32768x256, .f32⟩
  | .hbm, ⟨6, _⟩ => ⟨S32768x256, .f32⟩
  | .hbm, ⟨7, _⟩ => ⟨S32768x1024, .f32⟩
  | .hbm, ⟨8, _⟩ => ⟨S32768x64, .f32⟩
  | .hbm, ⟨9, _⟩ => ⟨S32768x16, .f32⟩
  | .hbm, ⟨10, _⟩ => ⟨S32768x512, .f32⟩
  | .hbm, ⟨11, _⟩ => ⟨S32768x512, .f32⟩
  | .hbm, ⟨12, _⟩ => ⟨S32768x1024, .f32⟩
  | .hbm, ⟨13, _⟩ => ⟨S32768x16, .f32⟩
  | .hbm, ⟨14, _⟩ => ⟨S32768x1024, .f32⟩
  | .hbm, ⟨15, _⟩ => ⟨S_, .f32⟩
  | .hbm, ⟨16, _⟩ => ⟨S32768x512, .f32⟩
  | .hbm, ⟨17, _⟩ => ⟨S32768x512, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== MixMem.lean ====
abbrev S32768x2048 : Shape := ⟨2, ![32768, 2048]⟩
abbrev S32768x1024 : Shape := ⟨2, ![32768, 1024]⟩
abbrev S2048x2048 : Shape := ⟨2, ![2048, 2048]⟩
abbrev S2048x512 : Shape := ⟨2, ![2048, 512]⟩
abbrev S512x2048 : Shape := ⟨2, ![512, 2048]⟩
abbrev S2x256x4x128 : Shape := ⟨4, ![2, 256, 4, 128]⟩
abbrev S2048 : Shape := ⟨1, ![2048]⟩
abbrev S2x4x128x256 : Shape := ⟨4, ![2, 4, 128, 256]⟩
abbrev S2x4x256x128 : Shape := ⟨4, ![2, 4, 256, 128]⟩
abbrev S1024x2048 : Shape := ⟨2, ![1024, 2048]⟩
abbrev S1x2048 : Shape := ⟨2, ![1, 2048]⟩
abbrev S512x1024 : Shape := ⟨2, ![512, 1024]⟩
abbrev S1x4x128x256 : Shape := ⟨4, ![1, 4, 128, 256]⟩
abbrev S1x4x256x128 : Shape := ⟨4, ![1, 4, 256, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x1x128x256 : Shape := ⟨4, ![1, 1, 128, 256]⟩
abbrev S128x256 : Shape := ⟨2, ![128, 256]⟩
abbrev S256x256 : Shape := ⟨2, ![256, 256]⟩
abbrev S1x1x256x128 : Shape := ⟨4, ![1, 1, 256, 128]⟩

abbrev nBuf : Space → Nat
  | .hbm => 26
  | .vmem => 20
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S2048x2048, .f32⟩
  | .hbm, ⟨4, _⟩ => ⟨S2048x512, .f32⟩
  | .hbm, ⟨5, _⟩ => ⟨S512x2048, .f32⟩
  | .hbm, ⟨6, _⟩ => ⟨S2x256x4x128, .f32⟩
  | .hbm, ⟨7, _⟩ => ⟨S2x256x4x128, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048x2048, .bf16⟩
  | .hbm, ⟨13, _⟩ => ⟨S2x4x128x256, .f32⟩
  | .hbm, ⟨14, _⟩ => ⟨S2x4x128x256, .bf16⟩
  | .hbm, ⟨15, _⟩ => ⟨S2x4x256x128, .f32⟩
  | .hbm, ⟨16, _⟩ => ⟨S2x4x256x128, .bf16⟩
  | .hbm, ⟨17, _⟩ => ⟨S1024x2048, .bf16⟩
  | .hbm, ⟨18, _⟩ => ⟨S1024x2048, .bf16⟩
  | .hbm, ⟨19, _⟩ => ⟨S2048x512, .bf16⟩
  | .hbm, ⟨20, _⟩ => ⟨S512x2048, .bf16⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S2048x512, .bf16⟩
  | .local _ .vmem, ⟨9, _⟩ => ⟨S512x2048, .bf16⟩
  | .local _ .vmem, ⟨10, _⟩ => ⟨S1x4x128x256, .bf16⟩
  | .local _ .vmem, ⟨11, _⟩ => ⟨S1x4x128x256, .bf16⟩
  | .local _ .vmem, ⟨12, _⟩ => ⟨S1x4x256x128, .bf16⟩
  | .local _ .vmem, ⟨13, _⟩ => ⟨S1x4x256x128, .bf16⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S512x2048, .f32⟩
  | .local _ .vmem, ⟨19, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_8 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixMemRefIdeal.lean ====
abbrev S32768x2048 : Shape := ⟨2, ![32768, 2048]⟩
abbrev S32768x1024 : Shape := ⟨2, ![32768, 1024]⟩
abbrev S2048x2048 : Shape := ⟨2, ![2048, 2048]⟩
abbrev S2048x512 : Shape := ⟨2, ![2048, 512]⟩
abbrev S512x2048 : Shape := ⟨2, ![512, 2048]⟩
abbrev S2x256x4x128 : Shape := ⟨4, ![2, 256, 4, 128]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x512 : Shape := ⟨2, ![32768, 512]⟩
abbrev S2x16384x4x128 : Shape := ⟨4, ![2, 16384, 4, 128]⟩
abbrev S2x4x256x16384 : Shape := ⟨4, ![2, 4, 256, 16384]⟩
abbrev S2x16384x4x256 : Shape := ⟨4, ![2, 16384, 4, 256]⟩
abbrev S2x16384x4 : Shape := ⟨3, ![2, 16384, 4]⟩
abbrev S2x16384x4x1 : Shape := ⟨4, ![2, 16384, 4, 1]⟩
abbrev S2x4x128x16384 : Shape := ⟨4, ![2, 4, 128, 16384]⟩

abbrev nBuf : Space → Nat
  | .hbm => 106
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S2048x2048, .f32⟩
  | .hbm, ⟨4, _⟩ => ⟨S2048x512, .f32⟩
  | .hbm, ⟨5, _⟩ => ⟨S512x2048, .f32⟩
  | .hbm, ⟨6, _⟩ => ⟨S2x256x4x128, .f32⟩
  | .hbm, ⟨7, _⟩ => ⟨S2x256x4x128, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S32768x2048, .bf16⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x2048, .f32⟩
  | .hbm, ⟨35, _⟩ => ⟨S32768x2048, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x2048, .f32⟩
  | .hbm, ⟨41, _⟩ => ⟨S32768x2048, .f32⟩
  | .hbm, ⟨42, _⟩ => ⟨S1x2048, .f32⟩
  | .hbm, ⟨43, _⟩ => ⟨S32768x2048, .f32⟩
  | .hbm, ⟨44, _⟩ => ⟨S32768x2048, .f32⟩
  | .hbm, ⟨45, _⟩ => ⟨S1x2048, .f32⟩
  | .hbm, ⟨46, _⟩ => ⟨S32768x2048, .f32⟩
  | .hbm, ⟨47, _⟩ => ⟨S32768x2048, .f32⟩
  | .hbm, ⟨48, _⟩ => ⟨S32768x512, .f32⟩
  | .hbm, ⟨49, _⟩ => ⟨S2x16384x4x128, .f32⟩
  | .hbm, ⟨50, _⟩ => ⟨S2x4x256x16384, .f32⟩
  | .hbm, ⟨51, _⟩ => ⟨S2x16384x4x256, .f32⟩
  | .hbm, ⟨52, _⟩ => ⟨S_, .f32⟩
  | .hbm, ⟨53, _⟩ => ⟨S2x16384x4x256, .f32⟩
  | .hbm, ⟨54, _⟩ => ⟨S2x16384x4x256, .f32⟩
  | .hbm, ⟨55, _⟩ => ⟨S_, .f32⟩
  | .hbm, ⟨56, _⟩ => ⟨S2x16384x4, .f32⟩
  | .hbm, ⟨57, _⟩ => ⟨S_, .f32⟩
  | .hbm, ⟨58, _⟩ => ⟨S2x16384x4, .f32⟩
  | .hbm, ⟨59, _⟩ => ⟨S2x16384x4, .f32⟩
  | .hbm, ⟨60, _⟩ => ⟨S2x16384x4x1, .f32⟩
  | .hbm, ⟨61, _⟩ => ⟨S2x16384x4x256, .f32⟩
  | .hbm, ⟨62, _⟩ => ⟨S2x16384x4x256, .f32⟩
  | .hbm, ⟨63, _⟩ => ⟨S2x16384x4x256, .f32⟩
  | .hbm, ⟨64, _⟩ => ⟨S_, .f32⟩
  | .hbm, ⟨65, _⟩ => ⟨S2x16384x4, .f32⟩
  | .hbm, ⟨66, _⟩ => ⟨S2x16384x4x1, .f32⟩
  | .hbm, ⟨67, _⟩ => ⟨S2x16384x4x256, .f32⟩
  | .hbm, ⟨68, _⟩ => ⟨S2x16384x4x256, .f32⟩
  | .hbm, ⟨69, _⟩ => ⟨S2x4x128x16384, .f32⟩
  | .hbm, ⟨70, _⟩ => ⟨S2x16384x4x128, .f32⟩
  | .hbm, ⟨71, _⟩ => ⟨S32768x512, .f32⟩
  | .hbm, ⟨72, _⟩ => ⟨S32768x2048, .f32⟩
  | .hbm, ⟨73, _⟩ => ⟨S_, .f32⟩
  | .hbm, ⟨74, _⟩ => ⟨S32768x2048, .f32⟩
  | .hbm, ⟨75, _⟩ => ⟨S32768x2048, .f32⟩
  | .hbm, ⟨76, _⟩ => ⟨S32768x2048, .f32⟩
  | .hbm, ⟨77, _⟩ => ⟨S_, .f32⟩
  | .hbm, ⟨78, _⟩ => ⟨S32768, .f32⟩
  | .hbm, ⟨79, _⟩ => ⟨S32768x1, .f32⟩
  | .hbm, ⟨80, _⟩ => ⟨S_, .f32⟩
  | .hbm, ⟨81, _⟩ => ⟨S32768x1, .f32⟩
  | .hbm, ⟨82, _⟩ => ⟨S32768x1, .f32⟩
  | .hbm, ⟨83, _⟩ => ⟨S32768x2048, .f32⟩
  | .hbm, ⟨84, _⟩ => ⟨S32768x2048, .f32⟩
  | .hbm, ⟨85, _⟩ => ⟨S32768x2048, .f32⟩
  | .hbm, ⟨86, _⟩ => ⟨S_, .f32⟩
  | .hbm, ⟨87, _⟩ => ⟨S32768, .f32⟩
  | .hbm, ⟨88, _⟩ => ⟨S32768x1, .f32⟩
  | .hbm, ⟨89, _⟩ => ⟨S_, .f32⟩
  | .hbm, ⟨90, _⟩ => ⟨S32768x1, .f32⟩
  | .hbm, ⟨91, _⟩ => ⟨S32768x1, .f32⟩
  | .hbm, ⟨92, _⟩ => ⟨S32768x2048, .f32⟩
  | .hbm, ⟨93, _⟩ => ⟨S32768x2048, .f32⟩
  | .hbm, ⟨94, _⟩ => ⟨S_, .f32⟩
  | .hbm, ⟨95, _⟩ => ⟨S32768x1, .f32⟩
  | .hbm, ⟨96, _⟩ => ⟨S32768x1, .f32⟩
  | .hbm, ⟨97, _⟩ => ⟨S32768x1, .f32⟩
  | .hbm, ⟨98, _⟩ => ⟨S32768x2048, .f32⟩
  | .hbm, ⟨99, _⟩ => ⟨S32768x2048, .f32⟩
  | .hbm, ⟨100, _⟩ => ⟨S1x2048, .f32⟩
  | .hbm, ⟨101, _⟩ => ⟨S32768x2048, .f32⟩
  | .hbm, ⟨102, _⟩ => ⟨S32768x2048, .f32⟩
  | .hbm, ⟨103, _⟩ => ⟨S1x2048, .f32⟩
  | .hbm, ⟨104, _⟩ => ⟨S32768x2048, .f32⟩
  | .hbm, ⟨105, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== ProjAttnSample.lean ====
abbrev S512x2048 : Shape := ⟨2, ![512, 2048]⟩
abbrev S2048x5728 : Shape := ⟨2, ![2048, 5728]⟩
abbrev S16x512 : Shape := ⟨2, ![16, 512]⟩
abbrev S512 : Shape := ⟨1, ![512]⟩
abbrev S2048x1024 : Shape := ⟨2, ![2048, 1024]⟩
abbrev S2048x256 : Shape := ⟨2, ![2048, 256]⟩
abbrev S2048x64 : Shape := ⟨2, ![2048, 64]⟩
abbrev S2048x16 : Shape := ⟨2, ![2048, 16]⟩
abbrev S2048x512 : Shape := ⟨2, ![2048, 512]⟩
abbrev S_ : Shape := ⟨0, ![]⟩
abbrev S2048x32 : Shape := ⟨2, ![2048, 32]⟩
abbrev S2048x128 : Shape := ⟨2, ![2048, 128]⟩
abbrev S128x512 : Shape := ⟨2, ![128, 512]⟩
abbrev S1 : Shape := ⟨1, ![1]⟩
abbrev S1x512 : Shape := ⟨2, ![1, 512]⟩
abbrev S512x1024 : Shape := ⟨2, ![512, 1024]⟩
abbrev S512x256 : Shape := ⟨2, ![512, 256]⟩
abbrev S512x128 : Shape := ⟨2, ![512, 128]⟩
abbrev S512x512 : Shape := ⟨2, ![512, 512]⟩

abbrev nBuf : Space → Nat
  | .hbm => 42
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S2048x5728, .f32⟩
  | .hbm, ⟨2, _⟩ => ⟨S16x512, .f32⟩
  | .hbm, ⟨3, _⟩ => ⟨S512, .f32⟩
  | .hbm, ⟨4, _⟩ => ⟨S2048x1024, .f32⟩
  | .hbm, ⟨5, _⟩ => ⟨S2048x1024, .bf16⟩
  | .hbm, ⟨6, _⟩ => ⟨S2048x256, .f32⟩
  | .hbm, ⟨7, _⟩ => ⟨S2048x256, .bf16⟩
  | .hbm, ⟨8, _⟩ => ⟨S2048x256, .f32⟩
  | .hbm, ⟨9, _⟩ => ⟨S2048x256, .bf16⟩
  | .hbm, ⟨10, _⟩ => ⟨S2048x1024, .f32⟩
  | .hbm, ⟨11, _⟩ => ⟨S2048x1024, .bf16⟩
  | .hbm, ⟨12, _⟩ => ⟨S2048x64, .f32⟩
  | .hbm, ⟨13, _⟩ => ⟨S2048x64, .bf16⟩
  | .hbm, ⟨14, _⟩ => ⟨S2048x16, .f32⟩
  | .hbm, ⟨15, _⟩ => ⟨S2048x16, .bf16⟩
  | .hbm, ⟨16, _⟩ => ⟨S2048x512, .f32⟩
  | .hbm, ⟨17, _⟩ => ⟨S2048x512, .bf16⟩
  | .hbm, ⟨18, _⟩ => ⟨S2048x512, .f32⟩
  | .hbm, ⟨19, _⟩ => ⟨S2048x512, .bf16⟩
  | .hbm, ⟨20, _⟩ => ⟨S2048x1024, .f32⟩
  | .hbm, ⟨21, _⟩ => ⟨S2048x1024, .bf16⟩
  | .hbm, ⟨22, _⟩ => ⟨S2048x16, .f32⟩
  | .hbm, ⟨23, _⟩ => ⟨S2048x16, .bf16⟩
  | .hbm, ⟨24, _⟩ => ⟨S2048x1024, .f32⟩
  | .hbm, ⟨25, _⟩ => ⟨S2048x1024, .bf16⟩
  | .hbm, ⟨26, _⟩ => ⟨S_, .bf16⟩
  | .hbm, ⟨27, _⟩ => ⟨S2048x32, .bf16⟩
  | .hbm, ⟨28, _⟩ => ⟨S2048x128, .bf16⟩
  | .hbm, ⟨29, _⟩ => ⟨S_, .bf16⟩
  | .hbm, ⟨30, _⟩ => ⟨S128x512, .bf16⟩
  | .hbm, ⟨31, _⟩ => ⟨S16x512, .bf16⟩
  | .hbm, ⟨32, _⟩ => ⟨S_, .i32⟩
  | .hbm, ⟨33, _⟩ => ⟨S1, .i32⟩
  | .hbm, ⟨34, _⟩ => ⟨S128x512, .bf16⟩
  | .hbm, ⟨35, _⟩ => ⟨S1x512, .f32⟩
  | .hbm, ⟨36, _⟩ => ⟨S512x1024, .bf16⟩
  | .hbm, ⟨37, _⟩ => ⟨S512x256, .f32⟩
  | .hbm, ⟨38, _⟩ => ⟨S512x256, .f32⟩
  | .hbm, ⟨39, _⟩ => ⟨S512x1024, .bf16⟩
  | .hbm, ⟨40, _⟩ => ⟨S512x128, .f32⟩
  | .hbm, ⟨41, _⟩ => ⟨S512x512, .f32⟩
  | .local _ .vmem, ⟨0, _⟩ => ⟨S512x2048, .f32⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S2048x1024, .bf16⟩
  | .local _ .vmem, ⟨5, _⟩ => ⟨S2048x128, .bf16⟩
  | .local _ .vmem, ⟨6, _⟩ => ⟨S128x512, .bf16⟩
  | .local _ .vmem, ⟨7, _⟩ => ⟨S1x512, .f32⟩
  | .local _ .vmem, ⟨8, _⟩ => ⟨S512x1024, .bf16⟩
  | .local _ .vmem, ⟨9, _⟩ => ⟨S512x256, .f32⟩
  | .local _ .vmem, ⟨10, _⟩ => ⟨S512x256, .f32⟩
  | .local _ .vmem, ⟨11, _⟩ => ⟨S512x1024, .bf16⟩
  | .local _ .vmem, ⟨12, _⟩ => ⟨S512x128, .f32⟩
  | .local _ .vmem, ⟨13, _⟩ => ⟨S512x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev main_v29_2 : Ref sig .tc := ⟨.hbm, 38, rfl⟩
abbrev main_v29_3 : Ref sig .tc := ⟨.hbm, 39, rfl⟩
abbrev main_v29_4 : Ref sig .tc := ⟨.hbm, 40, rfl⟩
abbrev main_v29_5 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== ProjAttnSampleRefIdeal.lean ====
abbrev S512x2048 : Shape := ⟨2, ![512, 2048]⟩
abbrev S2048x5728 : Shape := ⟨2, ![2048, 5728]⟩
abbrev S16x512 : Shape := ⟨2, ![16, 512]⟩
abbrev S512 : Shape := ⟨1, ![512]⟩
abbrev S512x5728 : Shape := ⟨2, ![512, 5728]⟩
abbrev S512x1024 : Shape := ⟨2, ![512, 1024]⟩
abbrev S512x256 : Shape := ⟨2, ![512, 256]⟩
abbrev S512x64 : Shape := ⟨2, ![512, 64]⟩
abbrev S512x16 : Shape := ⟨2, ![512, 16]⟩
abbrev S512x512 : Shape := ⟨2, ![512, 512]⟩
abbrev S_ : Shape := ⟨0, ![]⟩
abbrev S512x32 : Shape := ⟨2, ![512, 32]⟩
abbrev S512x128 : Shape := ⟨2, ![512, 128]⟩

abbrev nBuf : Space → Nat
  | .hbm => 19
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x5728, .f32⟩
  | .hbm, ⟨2, _⟩ => ⟨S16x512, .f32⟩
  | .hbm, ⟨3, _⟩ => ⟨S512, .f32⟩
  | .hbm, ⟨4, _⟩ => ⟨S512x5728, .f32⟩
  | .hbm, ⟨5, _⟩ => ⟨S512x1024, .f32⟩
  | .hbm, ⟨6, _⟩ => ⟨S512x256, .f32⟩
  | .hbm, ⟨7, _⟩ => ⟨S512x256, .f32⟩
  | .hbm, ⟨8, _⟩ => ⟨S512x1024, .f32⟩
  | .hbm, ⟨9, _⟩ => ⟨S512x64, .f32⟩
  | .hbm, ⟨10, _⟩ => ⟨S512x16, .f32⟩
  | .hbm, ⟨11, _⟩ => ⟨S512x512, .f32⟩
  | .hbm, ⟨12, _⟩ => ⟨S512x512, .f32⟩
  | .hbm, ⟨13, _⟩ => ⟨S512x1024, .f32⟩
  | .hbm, ⟨14, _⟩ => ⟨S512x16, .f32⟩
  | .hbm, ⟨15, _⟩ => ⟨S512x1024, .f32⟩
  | .hbm, ⟨16, _⟩ => ⟨S_, .f32⟩
  | .hbm, ⟨17, _⟩ => ⟨S512x32, .f32⟩
  | .hbm, ⟨18, _⟩ => ⟨S512x128, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FfnSample.lean ====
abbrev S512x2048 : Shape := ⟨2, ![512, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S512x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S512x2048, .f32⟩
  | .local _ .vmem, ⟨0, _⟩ => ⟨S512x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSampleRefIdeal.lean ====
abbrev S512x2048 : Shape := ⟨2, ![512, 2048]⟩
abbrev S2048x5632 : Shape := ⟨2, ![2048, 5632]⟩
abbrev S5632x2048 : Shape := ⟨2, ![5632, 2048]⟩
abbrev S2048 : Shape := ⟨1, ![2048]⟩
abbrev S512x5632 : Shape := ⟨2, ![512, 5632]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S512x5632, .f32⟩
  | .hbm, ⟨7, _⟩ => ⟨S512x5632, .f32⟩
  | .hbm, ⟨8, _⟩ => ⟨S512x5632, .f32⟩
  | .hbm, ⟨9, _⟩ => ⟨S_, .f32⟩
  | .hbm, ⟨10, _⟩ => ⟨S512x5632, .f32⟩
  | .hbm, ⟨11, _⟩ => ⟨S512x5632, .f32⟩
  | .hbm, ⟨12, _⟩ => ⟨S_, .f32⟩
  | .hbm, ⟨13, _⟩ => ⟨S512x5632, .f32⟩
  | .hbm, ⟨14, _⟩ => ⟨S512x5632, .f32⟩
  | .hbm, ⟨15, _⟩ => ⟨S512x5632, .f32⟩
  | .hbm, ⟨16, _⟩ => ⟨S512x5632, .f32⟩
  | .hbm, ⟨17, _⟩ => ⟨S512x5632, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512, .f32⟩
  | .hbm, ⟨28, _⟩ => ⟨S512x1, .f32⟩
  | .hbm, ⟨29, _⟩ => ⟨S_, .f32⟩
  | .hbm, ⟨30, _⟩ => ⟨S512x1, .f32⟩
  | .hbm, ⟨31, _⟩ => ⟨S512x1, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512, .f32⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S512x2048, .f32⟩
  | .hbm, ⟨42, _⟩ => ⟨S512x2048, .f32⟩
  | .hbm, ⟨43, _⟩ => ⟨S_, .f32⟩
  | .hbm, ⟨44, _⟩ => ⟨S512x1, .f32⟩
  | .hbm, ⟨45, _⟩ => ⟨S512x1, .f32⟩
  | .hbm, ⟨46, _⟩ => ⟨S512x1, .f32⟩
  | .hbm, ⟨47, _⟩ => ⟨S512x2048, .f32⟩
  | .hbm, ⟨48, _⟩ => ⟨S512x2048, .f32⟩
  | .hbm, ⟨49, _⟩ => ⟨S1x2048, .f32⟩
  | .hbm, ⟨50, _⟩ => ⟨S512x2048, .f32⟩
  | .hbm, ⟨51, _⟩ => ⟨S512x2048, .f32⟩
  | .hbm, ⟨52, _⟩ => ⟨S1x2048, .f32⟩
  | .hbm, ⟨53, _⟩ => ⟨S512x2048, .f32⟩
  | .hbm, ⟨54, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== GlaPrompt.lean ====
abbrev S2x16384x512 : Shape := ⟨3, ![2, 16384, 512]⟩
abbrev S2x16384x1024 : Shape := ⟨3, ![2, 16384, 1024]⟩
abbrev S1024 : Shape := ⟨1, ![1024]⟩
abbrev S2x4x128x256 : Shape := ⟨4, ![2, 4, 128, 256]⟩
abbrev S1x1024 : Shape := ⟨2, ![1, 1024]⟩
abbrev S1x256x512 : Shape := ⟨3, ![1, 256, 512]⟩
abbrev S1x256x1024 : Shape := ⟨3, ![1, 256, 1024]⟩
abbrev S1x4x128x256 : Shape := ⟨4, ![1, 4, 128, 256]⟩
abbrev S4x128x256 : Shape := ⟨3, ![4, 128, 256]⟩
abbrev S64x64 : Shape := ⟨2, ![64, 64]⟩
abbrev S64x128 : Shape := ⟨2, ![64, 128]⟩
abbrev S128x128 : Shape := ⟨2, ![128, 128]⟩
abbrev S384x256 : Shape := ⟨2, ![384, 256]⟩
abbrev S1x64x128 : Shape := ⟨3, ![1, 64, 128]⟩
abbrev S64x384 : Shape := ⟨2, ![64, 384]⟩
abbrev S1x128 : Shape := ⟨2, ![1, 128]⟩
abbrev S128x384 : Shape := ⟨2, ![128, 384]⟩
abbrev S128x256 : Shape := ⟨2, ![128, 256]⟩
abbrev S16x128 : Shape := ⟨2, ![16, 128]⟩
abbrev S64x512 : Shape := ⟨2, ![64, 512]⟩
abbrev S128x64 : Shape := ⟨2, ![128, 64]⟩
abbrev S1x64x256 : Shape := ⟨3, ![1, 64, 256]⟩
abbrev S64x256 : Shape := ⟨2, ![64, 256]⟩
abbrev S1x128x256 : Shape := ⟨3, ![1, 128, 256]⟩
abbrev S64 : Shape := ⟨1, ![64]⟩
abbrev S64x1 : Shape := ⟨2, ![64, 1]⟩
abbrev S1x256 : Shape := ⟨2, ![1, 256]⟩

abbrev nBuf : Space → Nat
  | .hbm => 10
  | .vmem => 18
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x1024, .f32⟩
  | .hbm, ⟨3, _⟩ => ⟨S2x16384x512, .f32⟩
  | .hbm, ⟨4, _⟩ => ⟨S2x16384x1024, .f32⟩
  | .hbm, ⟨5, _⟩ => ⟨S1024, .f32⟩
  | .hbm, ⟨6, _⟩ => ⟨S2x4x128x256, .f32⟩
  | .hbm, ⟨7, _⟩ => ⟨S1x1024, .f32⟩
  | .hbm, ⟨8, _⟩ => ⟨S2x16384x1024, .bf16⟩
  | .hbm, ⟨9, _⟩ => ⟨S2x4x128x256, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x1024, .f32⟩
  | .local _ .vmem, ⟨5, _⟩ => ⟨S1x256x1024, .f32⟩
  | .local _ .vmem, ⟨6, _⟩ => ⟨S1x256x512, .f32⟩
  | .local _ .vmem, ⟨7, _⟩ => ⟨S1x256x512, .f32⟩
  | .local _ .vmem, ⟨8, _⟩ => ⟨S1x256x1024, .f32⟩
  | .local _ .vmem, ⟨9, _⟩ => ⟨S1x256x1024, .f32⟩
  | .local _ .vmem, ⟨10, _⟩ => ⟨S1x1024, .f32⟩
  | .local _ .vmem, ⟨11, _⟩ => ⟨S1x4x128x256, .f32⟩
  | .local _ .vmem, ⟨12, _⟩ => ⟨S1x4x128x256, .f32⟩
  | .local _ .vmem, ⟨13, _⟩ => ⟨S1x256x1024, .bf16⟩
  | .local _ .vmem, ⟨14, _⟩ => ⟨S1x256x1024, .bf16⟩
  | .local _ .vmem, ⟨15, _⟩ => ⟨S1x4x128x256, .f32⟩
  | .local _ .vmem, ⟨16, _⟩ => ⟨S1x4x128x256, .f32⟩
  | .local _ .vmem, ⟨17, _⟩ => ⟨S4x128x256, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v4126 : BitVec 1 := Scalar.cmpi .eq arg1 c63_i32
  let v4127 : BitVec 32 := Scalar.extui v4126
  let c0_i32_1311 : BitVec 32 := 0#32
  let v4128 : BitVec 1 := Scalar.cmpi .ne v4127 c0_i32_1311
  v4128

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GlaPromptRefIdeal.lean ====
abbrev S2x16384x512 : Shape := ⟨3, ![2, 16384, 512]⟩
abbrev S2x16384x1024 : Shape := ⟨3, ![2, 16384, 1024]⟩
abbrev S1024 : Shape := ⟨1, ![1024]⟩
abbrev S2x4x128x256 : Shape := ⟨4, ![2, 4, 128, 256]⟩
abbrev S2x16384x4x128 : Shape := ⟨4, ![2, 16384, 4, 128]⟩
abbrev S2x16384x4x256 : Shape := ⟨4, ![2, 16384, 4, 256]⟩
abbrev S_ : Shape := ⟨0, ![]⟩
abbrev S2x1x4x128 : Shape := ⟨4, ![2, 1, 4, 128]⟩
abbrev S2x4x128 : Shape := ⟨3, ![2, 4, 128]⟩
abbrev S2x4x128x1 : Shape := ⟨4, ![2, 4, 128, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x1024, .f32⟩
  | .hbm, ⟨3, _⟩ => ⟨S2x16384x512, .f32⟩
  | .hbm, ⟨4, _⟩ => ⟨S2x16384x1024, .f32⟩
  | .hbm, ⟨5, _⟩ => ⟨S1024, .f32⟩
  | .hbm, ⟨6, _⟩ => ⟨S2x4x128x256, .f32⟩
  | .hbm, ⟨7, _⟩ => ⟨S2x16384x4x128, .f32⟩
  | .hbm, ⟨8, _⟩ => ⟨S2x16384x4x256, .f32⟩
  | .hbm, ⟨9, _⟩ => ⟨S2x16384x4x128, .f32⟩
  | .hbm, ⟨10, _⟩ => ⟨S_, .f32⟩
  | .hbm, ⟨11, _⟩ => ⟨S_, .f32⟩
  | .hbm, ⟨12, _⟩ => ⟨S2x16384x4x128, .f32⟩
  | .hbm, ⟨13, _⟩ => ⟨S2x1x4x128, .f32⟩
  | .hbm, ⟨14, _⟩ => ⟨S2x4x128, .f32⟩
  | .hbm, ⟨15, _⟩ => ⟨S2x4x128, .f32⟩
  | .hbm, ⟨16, _⟩ => ⟨S2x4x128x1, .f32⟩
  | .hbm, ⟨17, _⟩ => ⟨S2x4x128x256, .f32⟩
  | .hbm, ⟨18, _⟩ => ⟨S2x4x128x256, .f32⟩
  | .hbm, ⟨19, _⟩ => ⟨S2x1x4x128, .f32⟩
  | .hbm, ⟨20, _⟩ => ⟨S2x16384x4x128, .f32⟩
  | .hbm, ⟨21, _⟩ => ⟨S2x16384x4x128, .f32⟩
  | .hbm, ⟨22, _⟩ => ⟨S2x16384x4x128, .f32⟩
  | .hbm, ⟨23, _⟩ => ⟨S2x16384x4x128, .f32⟩
  | .hbm, ⟨24, _⟩ => ⟨S2x4x128x256, .f32⟩
  | .hbm, ⟨25, _⟩ => ⟨S2x4x128x256, .f32⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_call0_cst : Ref sig .tc := ⟨.hbm, 10, rfl⟩
abbrev main_call0_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Proof.GlaValue.lean ====
/-
  Hand-written, untrusted. The gated linear attention (`GlaIdeal`): each point takes one stream of 64 frames, four heads side by side. For each head the
  kernel makes the running sums of the log gates as one product with a triangle, the scores of the frames as one product over four sub-blocks with factored
  exponentials, adds what the carried state gives, normalises, gates, and moves the state on. One function of a head's operands is all four heads; it is
  read at an entry once, under real log gates.
-/
module

public import proofs.«01_k».proof.Defs
public import proofs.«01_k».proof.Proof.Gen.GlaIdeal.Value
public import proofs.«01_k».proof.Proof.Gen.GlaRefIdeal.Run
public import proofs.«01_k».proof.Proof.Gen.GlaRefIdeal.Read
public import proofs.«01_k».proof.Proof.Gen.Pre_finite_gate
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Claim
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.GlaIdeal.Hand

/-! One head over the reals: what both programs compute. -/

/-- The running sum of the log gates. -/
def cumR (f : Fin 64 → Fin 128 → ℝ) (i : Fin 64) (d : Fin 128) : ℝ := ∑ j, if j ≤ i then f j d else 0

/-- The score of frame `j` for frame `i`, nothing for a later frame. -/
def score (f : Fin 64 → Fin 128 → ℝ) (q k : Fin 64 → Fin 128 → EReal) (i j : Fin 64) : EReal :=
  if j ≤ i then ∑ d, q i d * k j d * ((Real.exp (cumR f i d - cumR f j d) : ℝ) : EReal) else 0

/-- A head's output before its norm: from the carried state, and from the frames. -/
def mixRow (f : Fin 64 → Fin 128 → ℝ) (q k : Fin 64 → Fin 128 → EReal) (v : Fin 64 → Fin 256 → EReal) (s : Fin 128 → Fin 256 → EReal) (i : Fin 64)
    (e : Fin 256) : EReal :=
  (∑ d, q i d * ((Real.exp (cumR f i d) : ℝ) : EReal) * s d e) + ∑ j, score f q k i j * v j e

/-- A head's state after the chunk. -/
def nextState (f : Fin 64 → Fin 128 → ℝ) (k : Fin 64 → Fin 128 → EReal) (v : Fin 64 → Fin 256 → EReal) (s : Fin 128 → Fin 256 → EReal) (d : Fin 128)
    (e : Fin 256) : EReal :=
  ((Real.exp (cumR f 63 d) : ℝ) : EReal) * s d e + ∑ j, k j d * ((Real.exp (cumR f 63 d - cumR f j d) : ℝ) : EReal) * v j e

/-- The mean of a head's row. -/
def meanRow (o : Fin 256 → EReal) : EReal := Ideal.div (∑ e, o e) (Ideal.ofBits .f32 0x43800000#32)

/-- A head's row normalised, scaled and gated. -/
def gateRow (o g r : Fin 256 → EReal) (e : Fin 256) : EReal :=
  (o e - meanRow o) * Ideal.rsqrt (meanRow (fun e => (o e - meanRow o) * (o e - meanRow o)) + Ideal.ofBits .f32 0x3727C5AC#32) * g e
    * (r e * Ideal.logistic (r e))

/-! The kernel's head, as one function of its operands. -/

section
open Cert.GlaIdeal Cert.GlaIdeal.Gen

/-- The row number of an entry. -/
abbrev rowk : IVec S64x128 32 := iota .tc S64x128 32 [0] iota_S64x128_d0_w32

theorem causal_apply : ∀ i j : Fin 64, k0_pay4 (ix2 i j) = if j ≤ i then 1#1 else 0#1 := by
  decide +kernel

theorem eye_word : ∀ i j : Fin 128, IntOp.cmpi CmpIPredicate.eq (BitVec.ofNat 32 i.val) (BitVec.ofNat 32 j.val) = if i = j then 1#1 else 0#1 := by
  decide +kernel

theorem eye_apply (i j : Fin 128) : k0_pay6 (ix2 i j) = if i = j then 1#1 else 0#1 := by
  pointwise [k0_pay6]
  exact eye_word i j

theorem tri_apply (i j : Fin 64) : k0_pay5 (F := Ideal) (ix2 i j) = if j ≤ i then 1 else 0 := by
  pointwise [k0_pay5, causal_apply]
  split
  · show (((1 : ℤ) : ℝ) : EReal) = 1
    norm_num
  · show (((0 : ℤ) : ℝ) : EReal) = 0
    norm_num

theorem coe_sum {n : ℕ} (g : Fin n → ℝ) : ∑ j, ((g j : ℝ) : EReal) = ((∑ j, g j : ℝ) : EReal) := by
  induction n with
  | zero => simp
  | succ n ih => rw [Fin.sum_univ_castSucc, Fin.sum_univ_castSucc, ih, EReal.coe_add]

theorem sel_if {α : Type} (p : Prop) [Decidable p] (a b : α) : Scalar.select (if p then 1#1 else 0#1) a b = if p then a else b := by
  split <;> rfl

theorem coe_sub_self (a : ℝ) : (a : EReal) - a = 0 := by
  rw [← EReal.coe_sub, sub_self, EReal.coe_zero]

/-- The running sums of a head. -/
def bv (x : FVec Ideal S64x128 .f32) : FVec Ideal S64x128 .f32 := k0_pay17 k0_pay5 x

theorem bv_apply (x : FVec Ideal S64x128 .f32) (f : Fin 64 → Fin 128 → ℝ) (hx : ∀ j d, x (ix2 j d) = ((f j d : ℝ) : EReal)) (i : Fin 64) (d : Fin 128) :
    bv x (ix2 i d) = ((cumR f i d : ℝ) : EReal) := by
  pointwise [bv, k0_pay17, tri_apply]
  have h1 : ¬ 256 + d.val < 128 := by omega
  have h2 : ¬ 256 + d.val - 128 < 128 := by omega
  simp only [h1, h2, dif_neg, not_false_eq_true, hx, coe_sub_self, sub_zero, mul_zero, Finset.sum_const_zero, add_zero]
  rw [cumR, ← coe_sum]
  refine Finset.sum_congr rfl fun j _ => ?_
  split <;> simp

/-- The last running sum of a head, one number a row. -/
def totv (b : FVec Ideal S64x128 .f32) : FVec Ideal S128x256 .f32 := k0_pay19 k0_pay6 k0_pay7 b

theorem totv_apply (b : FVec Ideal S64x128 .f32) (f : Fin 64 → Fin 128 → ℝ) (hb : ∀ j d, b (ix2 j d) = ((f j d : ℝ) : EReal)) (d : Fin 128) (e : Fin 256) :
    totv b (ix2 d e) = ((f 63 d : ℝ) : EReal) := by
  pointwise [totv, k0_pay19, k0_pay7, eye_apply]
  simp only [sel_if, hb]
  refine (Finset.sum_eq_single (⟨d.val, by omega⟩ : Fin 384) (fun x _ hx => ?_) (fun h => absurd (Finset.mem_univ _) h)).trans ?_
  · have hx' : x.val ≠ d.val := fun h => hx (Fin.ext h)
    have z (p : Prop) [Decidable p] (a : ℝ) : (if p then (a : EReal) else 0) - (if p then (a : EReal) else 0) = 0 := by
      split
      · exact coe_sub_self a
      · exact sub_zero 0
    split
    · rw [if_neg]
      exact fun h => hx' (congrArg Fin.val h).symm
    · split
      · exact z _ _
      · rw [z, sub_zero]
  · rw [dif_pos d.isLt, if_pos rfl]

/-- The queries with the running sums' exponentials. -/
theorem qe_apply (b : FVec Ideal S64x128 .f32) (q : FVec Ideal S1x64x128 .f32) (i : Fin 64) (d : Fin 128) :
    k0_pay26 (F := Ideal) b q (ix2 i d) = q (ix3 0 i d) * Ideal.exp (b (ix2 i d)) := by
  pointwise [k0_pay26, k0_pay24]

/-- The queries, each relative to the first running sum of its sub-block. -/
def qdv (b : FVec Ideal S64x128 .f32) (q : FVec Ideal S1x64x128 .f32) : FVec Ideal S64x128 .f32 :=
  k0_pay31 b (k0_pay24 q) (k0_pay27 b) (k0_pay28 b) (k0_pay29 b)

theorem qdv_apply (b : FVec Ideal S64x128 .f32) (q : FVec Ideal S1x64x128 .f32) (i : Fin 64) (d : Fin 128) :
    qdv b q (ix2 i d) = q (ix3 0 i d) * Ideal.exp (b (ix2 i d) - b (ix2 ⟨i.val / 16 * 16, by omega⟩ d)) := by
  pointwise [qdv, k0_pay24, k0_pay31, k0_pay30, k0_pay27, k0_pay28, k0_pay29]
  have e (n : Fin 64) (h : n.val = i.val / 16 * 16) : b (ix2 n d) = b (ix2 ⟨i.val / 16 * 16, by omega⟩ d) :=
    congrArg (fun n => b (ix2 n d)) (Fin.ext h)
  congr 3
  split
  · exact e 0 (by show 0 = _; omega)
  · split
    · exact e 16 (by show 16 = _; omega)
    · split
      · exact e 32 (by show 32 = _; omega)
      · exact e 48 (by show 48 = _; omega)

/-- The keys relative to the last running sum. -/
theorem kdt_apply (b : FVec Ideal S64x128 .f32) (k : FVec Ideal S1x64x128 .f32) (d : Fin 128) (j : Fin 64) :
    k0_pay44 (F := Ideal) b (k0_pay25 k) (ix2 d j) = k (ix3 0 j d) * Ideal.exp (b (ix2 63 d) - b (ix2 j d)) := by
  pointwise [k0_pay44, k0_pay25]

/-- Whether a row lies in sub-block `u`. -/
def inBlock (u : BitVec 32) : IVec S64x128 1 := cmpi .eq (k0_pay37 rowk) (broadcast S64x128 u)

theorem block_word : ∀ (i : Fin 64) (u : Fin 4), inBlock (BitVec.ofNat 32 u.val) (ix2 i 0) = if i.val / 16 = u.val then 1#1 else 0#1 := by
  decide +kernel

theorem inBlock_apply (u : Fin 4) (i : Fin 64) (d : Fin 128) :
    inBlock (BitVec.ofNat 32 u.val) (ix2 i d) = if i.val / 16 = u.val then 1#1 else 0#1 :=
  block_word i u

theorem below_word : ∀ (i : Fin 64) (u : Fin 4), IntOp.cmpi .slt (BitVec.ofNat 32 i.val) (BitVec.ofNat 32 (16 * u.val + 16)) = if i.val / 16 ≤ u.val then 1#1 else 0#1 := by
  decide +kernel

/-- The queries laid out by sub-block, nothing elsewhere. -/
def qbdv (z : FVec Ideal S64x128 .f32) : FVec Ideal S64x512 .bf16 := k0_pay39 rowk z
  (select (inBlock 0#32) z (broadcast S64x128 (Scalar.ofBits .f32 0x00000000#32))) (select (inBlock 1#32) z (broadcast S64x128 (Scalar.ofBits .f32 0x00000000#32)))
  (k0_pay37 rowk) k0_pay38

theorem zero32 : Ideal.ofBits .f32 0x00000000#32 = 0 := by
  pointwise

/-- A lane of the four sub-blocks. -/
abbrev lane (u : Fin 4) (d : Fin 128) : Fin 512 := ⟨u.val * 128 + d.val, by omega⟩

theorem qbdv_eq (z : FVec Ideal S64x128 .f32) : qbdv z = truncf .bf16 (concatenate S64x512 1 [⟨S64x128, select (inBlock 0#32) z (broadcast S64x128 (Scalar.ofBits .f32 0x00000000#32))⟩,
    ⟨S64x128, select (inBlock 1#32) z (broadcast S64x128 (Scalar.ofBits .f32 0x00000000#32))⟩,
    ⟨S64x128, select (inBlock 2#32) z (broadcast S64x128 (Scalar.ofBits .f32 0x00000000#32))⟩,
    ⟨S64x128, select (inBlock 3#32) z (broadcast S64x128 (Scalar.ofBits .f32 0x00000000#32))⟩] concatenates_S64x128_S64x128_S64x128_S64x128_S64x512_d1) bitsLt_bf16_f32 := rfl

theorem cat_apply (z : Fin 4 → FVec Ideal S64x128 .f32) (i : Fin 64) (u : Fin 4) (d : Fin 128) :
    concatenate S64x512 1 [⟨S64x128, z 0⟩, ⟨S64x128, z 1⟩, ⟨S64x128, z 2⟩, ⟨S64x128, z 3⟩] concatenates_S64x128_S64x128_S64x128_S64x128_S64x512_d1
      (ix2 i (lane u d)) = z u (ix2 i d) := by
  refine concatenate_apply_piece 1 _ _ (ix2 i (lane u d)) u.val ?_ S64x128 (z u) ?_ rfl (u.val * 128) ?_ (ix2 i d) (fun b hb => ?_) ?_
  · fin_cases u <;> simp
  · fin_cases u <;> rfl
  · fin_cases u <;> rfl
  · match b with
    | ⟨0, _⟩ => rfl
    | ⟨1, _⟩ => exact absurd rfl hb
  · rfl

theorem qbdv_apply (z : FVec Ideal S64x128 .f32) (i : Fin 64) (u : Fin 4) (d : Fin 128) :
    qbdv z (ix2 i (lane u d)) = if i.val / 16 = u.val then z (ix2 i d) else 0 := by
  rw [qbdv_eq]
  refine (cat_apply (fun u => select (inBlock (BitVec.ofNat 32 u.val)) z (broadcast S64x128 (Scalar.ofBits .f32 0x00000000#32))) i u d).trans ?_
  pointwise [inBlock_apply]
  exact sel_if _ _ _

/-- The keys relative to the first running sum of sub-block `u`, up to that sub-block's end. -/
def kpart (b k : FVec Ideal S64x128 .f32) (e : BitVec 32) (r : FVec Ideal S1x128 .f32) : FVec Ideal S64x128 .f32 :=
  select (cmpi .slt rowk (broadcast S64x128 e)) (mulf k (exp (subf (broadcastTo S64x128 r broadcasts_S1x128_S64x128) b)))
    (broadcast S64x128 (Scalar.ofBits .f32 0x00000000#32))

def kcatv (b k : FVec Ideal S64x128 .f32) : FVec Ideal S64x512 .bf16 :=
  truncf .bf16 (concatenate S64x512 1 [⟨S64x128, kpart b k 16#32 (k0_pay27 b)⟩, ⟨S64x128, kpart b k 32#32 (k0_pay28 b)⟩, ⟨S64x128, kpart b k 48#32 (k0_pay29 b)⟩,
    ⟨S64x128, kpart b k 64#32 (k0_pay30 b)⟩] concatenates_S64x128_S64x128_S64x128_S64x128_S64x512_d1) bitsLt_bf16_f32

theorem kcatv_apply (b k : FVec Ideal S64x128 .f32) (j : Fin 64) (u : Fin 4) (d : Fin 128) :
    kcatv b k (ix2 j (lane u d)) = if j.val / 16 ≤ u.val then k (ix2 j d) * Ideal.exp (b (ix2 ⟨u.val * 16, by omega⟩ d) - b (ix2 j d)) else 0 := by
  refine (cat_apply ![kpart b k 16#32 (k0_pay27 b), kpart b k 32#32 (k0_pay28 b), kpart b k 48#32 (k0_pay29 b), kpart b k 64#32 (k0_pay30 b)] j u d).trans ?_
  have w := below_word j u
  match u with
  | 0 =>
    show kpart b k 16#32 (k0_pay27 b) (ix2 j d) = _
    pointwise [kpart, k0_pay27]
    refine (congrArg (fun c => Scalar.select c _ _) w).trans (sel_if _ _ _)
  | 1 =>
    show kpart b k 32#32 (k0_pay28 b) (ix2 j d) = _
    pointwise [kpart, k0_pay28]
    refine (congrArg (fun c => Scalar.select c _ _) w).trans (sel_if _ _ _)
  | 2 =>
    show kpart b k 48#32 (k0_pay29 b) (ix2 j d) = _
    pointwise [kpart, k0_pay29]
    refine (congrArg (fun c => Scalar.select c _ _) w).trans (sel_if _ _ _)
  | 3 =>
    show kpart b k 64#32 (k0_pay30 b) (ix2 j d) = _
    pointwise [kpart, k0_pay30]
    refine (congrArg (fun c => Scalar.select c _ _) w).trans (sel_if _ _ _)

theorem sum_lanes (F : Fin 512 → EReal) : ∑ x, F x = ∑ u : Fin 4, ∑ d : Fin 128, F (lane u d) := by
  rw [← Fintype.sum_prod_type']
  refine (Fintype.sum_equiv (finProdFinEquiv (m := 4) (n := 128)) _ _ fun p => ?_).symm
  refine congrArg F (Fin.ext ?_)
  show p.1.val * 128 + p.2.val = p.2.val + 128 * p.1.val
  omega

/-- What a head's frames give. -/
def intrav (b : FVec Ideal S64x128 .f32) (q k : FVec Ideal S1x64x128 .f32) (v : FVec Ideal S1x64x256 .f32) : FVec Ideal S64x256 .f32 :=
  k0_pay119 k0_pay4 (k0_pay113 (qbdv (qdv b q)) (kcatv b (k0_pay25 k))) k0_pay114 v

theorem scores_apply (b : FVec Ideal S64x128 .f32) (q k : FVec Ideal S1x64x128 .f32) (f : Fin 64 → Fin 128 → ℝ)
    (hb : ∀ j d, b (ix2 j d) = ((cumR f j d : ℝ) : EReal)) (i j : Fin 64) (hij : j ≤ i) :
    k0_pay113 (F := Ideal) (qbdv (qdv b q)) (kcatv b (k0_pay25 k)) (ix2 i j)
      = score f (fun i d => q (ix3 0 i d)) (fun j d => k (ix3 0 j d)) i j := by
  generalize hQ : qbdv (qdv b q) = Q
  generalize hK : kcatv b (k0_pay25 k) = K
  have e : k0_pay113 (F := Ideal) Q K (ix2 i j) = ∑ x : Fin 512, Q (ix2 i x) * K (ix2 j x) := by
    pointwise [k0_pay113]
  rw [e, sum_lanes, ← hQ, ← hK, score, if_pos hij]
  refine (Finset.sum_eq_single (⟨i.val / 16, by omega⟩ : Fin 4) (fun u _ hu => Finset.sum_eq_zero fun d _ => ?_)
    (fun h => absurd (Finset.mem_univ _) h)).trans (Finset.sum_congr rfl fun d _ => ?_)
  · rw [qbdv_apply, if_neg (fun h => hu (Fin.ext h.symm)), zero_mul]
  · have hij' : j.val ≤ i.val := hij
    rw [qbdv_apply, if_pos rfl, kcatv_apply, if_pos (Nat.div_le_div_right hij'), qdv_apply]
    have ek : k0_pay25 (F := Ideal) k (ix2 j d) = k (ix3 0 j d) := by
      pointwise [k0_pay25]
    simp only [hb, ek, ← EReal.coe_sub, Ideal.exp_coe]
    rw [mul_mul_mul_comm, ← EReal.coe_mul, ← Real.exp_add, sub_add_sub_cancel]

theorem intrav_apply (b : FVec Ideal S64x128 .f32) (q k : FVec Ideal S1x64x128 .f32) (v : FVec Ideal S1x64x256 .f32) (f : Fin 64 → Fin 128 → ℝ)
    (hb : ∀ j d, b (ix2 j d) = ((cumR f j d : ℝ) : EReal)) (i : Fin 64) (e : Fin 256) :
    intrav b q k v (ix2 i e) = ∑ j, score f (fun i d => q (ix3 0 i d)) (fun j d => k (ix3 0 j d)) i j * v (ix3 0 j e) := by
  have hs := scores_apply b q k f hb i
  unfold intrav
  generalize k0_pay113 (F := Ideal) (qbdv (qdv b q)) (kcatv b (k0_pay25 k)) = A at hs ⊢
  pointwise [k0_pay119, k0_pay114, k0_pay115, causal_apply]
  refine Finset.sum_congr rfl fun j _ => ?_
  refine (sel_if (j ≤ i) _ _).trans ?_
  split
  · next h => exact congrArg (· * v (ix3 0 j e)) (hs j h)
  · next h => rw [score, if_neg h, zero_mul]

/-- A head's output. -/
def outv (x : FVec Ideal S64x128 .f32) (q k : FVec Ideal S1x64x128 .f32) (v r : FVec Ideal S1x64x256 .f32) (g : FVec Ideal S1x256 .f32)
    (s : FVec Ideal S1x128x256 .f32) : FVec Ideal S1x64x256 .bf16 :=
  k0_pay140 (intrav (bv x) q k v) (k0_pay131 (k0_pay26 (bv x) q) s) r g

theorem outv_apply (x : FVec Ideal S64x128 .f32) (q k : FVec Ideal S1x64x128 .f32) (v r : FVec Ideal S1x64x256 .f32) (g : FVec Ideal S1x256 .f32)
    (s : FVec Ideal S1x128x256 .f32) (f : Fin 64 → Fin 128 → ℝ) (hx : ∀ j d, x (ix2 j d) = ((f j d : ℝ) : EReal)) (i : Fin 64) (e : Fin 256) :
    outv x q k v r g s (ix3 0 i e) = gateRow (mixRow f (fun i d => q (ix3 0 i d)) (fun j d => k (ix3 0 j d)) (fun j e => v (ix3 0 j e))
      (fun d e => s (ix3 0 d e)) i) (fun e => g (ix2 0 e)) (fun e => r (ix3 0 i e)) e := by
  have hb := bv_apply x f hx
  have hi := intrav_apply (bv x) q k v f hb i
  have hq (e : Fin 256) : k0_pay131 (F := Ideal) (k0_pay26 (bv x) q) s (ix2 i e)
      = ∑ d, q (ix3 0 i d) * ((Real.exp (cumR f i d) : ℝ) : EReal) * s (ix3 0 d e) := by
    generalize hz : bv x = z at hb
    pointwise [k0_pay131, k0_pay127, qe_apply]
    simp only [hb, Ideal.exp_coe]
  unfold outv
  generalize intrav (bv x) q k v = A at hi ⊢
  generalize k0_pay131 (F := Ideal) (k0_pay26 (bv x) q) s = B at hq ⊢
  have h : k0_pay140 (F := Ideal) A B r g (ix3 0 i e)
      = gateRow (fun e => B (ix2 i e) + A (ix2 i e)) (fun e => g (ix2 0 e)) (fun e => r (ix3 0 i e)) e := by
    pointwise [k0_pay140, gateRow, meanRow]
  rw [h]
  simp only [hi, hq]
  rfl

/-- A head's state after the chunk. -/
def statev (x : FVec Ideal S64x128 .f32) (k : FVec Ideal S1x64x128 .f32) (v : FVec Ideal S1x64x256 .f32) (s : FVec Ideal S1x128x256 .f32) :
    FVec Ideal S1x128x256 .f32 :=
  k0_pay135 (totv (bv x)) (k0_pay123 (k0_pay44 (bv x) (k0_pay25 k)) v) s

theorem statev_apply (x : FVec Ideal S64x128 .f32) (k : FVec Ideal S1x64x128 .f32) (v : FVec Ideal S1x64x256 .f32) (s : FVec Ideal S1x128x256 .f32)
    (f : Fin 64 → Fin 128 → ℝ) (hx : ∀ j d, x (ix2 j d) = ((f j d : ℝ) : EReal)) (d : Fin 128) (e : Fin 256) :
    statev x k v s (ix3 0 d e) = nextState f (fun j d => k (ix3 0 j d)) (fun j e => v (ix3 0 j e)) (fun d e => s (ix3 0 d e)) d e := by
  have hb := bv_apply x f hx
  have ht := totv_apply (bv x) (cumR f) hb d
  unfold statev
  generalize totv (bv x) = T at ht ⊢
  have hk (j : Fin 64) : k0_pay44 (F := Ideal) (bv x) (k0_pay25 k) (ix2 d j) = k (ix3 0 j d) * ((Real.exp (cumR f 63 d - cumR f j d) : ℝ) : EReal) := by
    rw [kdt_apply]
    simp only [hb, ← EReal.coe_sub, Ideal.exp_coe]
  generalize k0_pay44 (F := Ideal) (bv x) (k0_pay25 k) = K at hk ⊢
  pointwise [k0_pay135, k0_pay123, k0_pay127, k0_pay115, nextState, ht, hk]
  rw [Ideal.exp_coe]

/-! The blocks a point leaves. -/

/-- A head's rows of the carried state, as the scratch holds it when the chunk begins. -/
def sOld (x6 : Vec Ideal S1x4x128x256 .f32) (o : ℕ) (inb : ∀ a, ![o, 0, 0] a + S1x128x256.size a ≤ S4x128x256.size a) : FVec Ideal S1x128x256 .f32 :=
  fun j => k0_pay3 x6 ((Rect.unit (s := S4x128x256) ![o, 0, 0] ![1, 128, 256] inb).idx j)

variable (m : (ℓ : Loc nD τ sig) → Buf (Elt Ideal) ℓ)

theorem outs_eq (c : Dev nD) (t : Fin cfg0.N) (x0 x1 : Vec Ideal S1x64x512 .f32) (x2 : Vec Ideal S1x64x1024 .f32) (x3 : Vec Ideal S1x64x512 .f32)
    (x4 : Vec Ideal S1x64x1024 .f32) (x5 : Vec Ideal S1x1024 .f32) (x6 : Vec Ideal S1x4x128x256 .f32)
    (h0 : iblk m c 0 t = x0) (h1 : iblk m c 1 t = x1) (h2 : iblk m c 2 t = x2) (h3 : iblk m c 3 t = x3) (h4 : iblk m c 4 t = x4)
    (h5 : iblk m c 5 t = x5) (h6 : iblk m c 6 t = x6) :
    (outsAt0 m c t).1 = View.canon (Val := Elt Ideal) (s := S1x64x1024) (e := .bf16)
      [⟨Rect.unit ![0, 0, 768] ![1, 64, 256] inb_S1x64x1024_S1x64x256_0_0_768,
        outv (k0_pay8 (View.ld x3 (Rect.unit ![0, 0, 384] ![1, 64, 128] inb_S1x64x512_S1x64x128_0_0_384)))
          (View.ld x0 (Rect.unit ![0, 0, 384] ![1, 64, 128] inb_S1x64x512_S1x64x128_0_0_384))
          (View.ld x1 (Rect.unit ![0, 0, 384] ![1, 64, 128] inb_S1x64x512_S1x64x128_0_0_384))
          (View.ld x2 (Rect.unit ![0, 0, 768] ![1, 64, 256] inb_S1x64x1024_S1x64x256_0_0_768))
          (View.ld x4 (Rect.unit ![0, 0, 768] ![1, 64, 256] inb_S1x64x1024_S1x64x256_0_0_768))
          (View.ld x5 (Rect.unit ![0, 768] ![1, 256] inb_S1x1024_S1x256_0_768))
          (sOld x6 3 inb_S4x128x256_S1x128x256_3_0_0)⟩,
       ⟨Rect.unit ![0, 0, 512] ![1, 64, 256] inb_S1x64x1024_S1x64x256_0_0_512,
        outv (k0_pay8 (View.ld x3 (Rect.unit ![0, 0, 256] ![1, 64, 128] inb_S1x64x512_S1x64x128_0_0_256)))
          (View.ld x0 (Rect.unit ![0, 0, 256] ![1, 64, 128] inb_S1x64x512_S1x64x128_0_0_256))
          (View.ld x1 (Rect.unit ![0, 0, 256] ![1, 64, 128] inb_S1x64x512_S1x64x128_0_0_256))
          (View.ld x2 (Rect.unit ![0, 0, 512] ![1, 64, 256] inb_S1x64x1024_S1x64x256_0_0_512))
          (View.ld x4 (Rect.unit ![0, 0, 512] ![1, 64, 256] inb_S1x64x1024_S1x64x256_0_0_512))
          (View.ld x5 (Rect.unit ![0, 512] ![1, 256] inb_S1x1024_S1x256_0_512))
          (sOld x6 2 inb_S4x128x256_S1x128x256_2_0_0)⟩,
       ⟨Rect.unit ![0, 0, 256] ![1, 64, 256] inb_S1x64x1024_S1x64x256_0_0_256,
        outv (k0_pay8 (View.ld x3 (Rect.unit ![0, 0, 128] ![1, 64, 128] inb_S1x64x512_S1x64x128_0_0_128)))
          (View.ld x0 (Rect.unit ![0, 0, 128] ![1, 64, 128] inb_S1x64x512_S1x64x128_0_0_128))
          (View.ld x1 (Rect.unit ![0, 0, 128] ![1, 64, 128] inb_S1x64x512_S1x64x128_0_0_128))
          (View.ld x2 (Rect.unit ![0, 0, 256] ![1, 64, 256] inb_S1x64x1024_S1x64x256_0_0_256))
          (View.ld x4 (Rect.unit ![0, 0, 256] ![1, 64, 256] inb_S1x64x1024_S1x64x256_0_0_256))
          (View.ld x5 (Rect.unit ![0, 256] ![1, 256] inb_S1x1024_S1x256_0_256))
          (sOld x6 1 inb_S4x128x256_S1x128x256_1_0_0)⟩,
       ⟨Rect.unit ![0, 0, 0] ![1, 64, 256] inb_S1x64x1024_S1x64x256_0_0_0,
        outv (k0_pay8 (View.ld x3 (Rect.unit ![0, 0, 0] ![1, 64, 128] inb_S1x64x512_S1x64x128_0_0_0)))
          (View.ld x0 (Rect.unit ![0, 0, 0] ![1, 64, 128] inb_S1x64x512_S1x64x128_0_0_0))
          (View.ld x1 (Rect.unit ![0, 0, 0] ![1, 64, 128] inb_S1x64x512_S1x64x128_0_0_0))
          (View.ld x2 (Rect.unit ![0, 0, 0] ![1, 64, 256] inb_S1x64x1024_S1x64x256_0_0_0))
          (View.ld x4 (Rect.unit ![0, 0, 0] ![1, 64, 256] inb_S1x64x1024_S1x64x256_0_0_0))
          (View.ld x5 (Rect.unit ![0, 0] ![1, 256] inb_S1x1024_S1x256_0_0))
          (sOld x6 0 inb_S4x128x256_S1x128x256_0_0_0)⟩]
    ∧ (outsAt0 m c t).2 = k0_pay2 (fun j => View.canon (Val := Elt Ideal) (s := S4x128x256) (e := .f32)
      [⟨Rect.unit ![3, 0, 0] ![1, 128, 256] inb_S4x128x256_S1x128x256_3_0_0,
        statev (k0_pay8 (View.ld x3 (Rect.unit ![0, 0, 384] ![1, 64, 128] inb_S1x64x512_S1x64x128_0_0_384)))
          (View.ld x1 (Rect.unit ![0, 0, 384] ![1, 64, 128] inb_S1x64x512_S1x64x128_0_0_384))
          (View.ld x2 (Rect.unit ![0, 0, 768] ![1, 64, 256] inb_S1x64x1024_S1x64x256_0_0_768))
          (sOld x6 3 inb_S4x128x256_S1x128x256_3_0_0)⟩,
       ⟨Rect.unit ![2, 0, 0] ![1, 128, 256] inb_S4x128x256_S1x128x256_2_0_0,
        statev (k0_pay8 (View.ld x3 (Rect.unit ![0, 0, 256] ![1, 64, 128] inb_S1x64x512_S1x64x128_0_0_256)))
          (View.ld x1 (Rect.unit ![0, 0, 256] ![1, 64, 128] inb_S1x64x512_S1x64x128_0_0_256))
          (View.ld x2 (Rect.unit ![0, 0, 512] ![1, 64, 256] inb_S1x64x1024_S1x64x256_0_0_512))
          (sOld x6 2 inb_S4x128x256_S1x128x256_2_0_0)⟩,
       ⟨Rect.unit ![1, 0, 0] ![1, 128, 256] inb_S4x128x256_S1x128x256_1_0_0,
        statev (k0_pay8 (View.ld x3 (Rect.unit ![0, 0, 128] ![1, 64, 128] inb_S1x64x512_S1x64x128_0_0_128)))
          (View.ld x1 (Rect.unit ![0, 0, 128] ![1, 64, 128] inb_S1x64x512_S1x64x128_0_0_128))
          (View.ld x2 (Rect.unit ![0, 0, 256] ![1, 64, 256] inb_S1x64x1024_S1x64x256_0_0_256))
          (sOld x6 1 inb_S4x128x256_S1x128x256_1_0_0)⟩,
       ⟨Rect.unit ![0, 0, 0] ![1, 128, 256] inb_S4x128x256_S1x128x256_0_0_0,
        statev (k0_pay8 (View.ld x3 (Rect.unit ![0, 0, 0] ![1, 64, 128] inb_S1x64x512_S1x64x128_0_0_0)))
          (View.ld x1 (Rect.unit ![0, 0, 0] ![1, 64, 128] inb_S1x64x512_S1x64x128_0_0_0))
          (View.ld x2 (Rect.unit ![0, 0, 0] ![1, 64, 256] inb_S1x64x1024_S1x64x256_0_0_0))
          (sOld x6 0 inb_S4x128x256_S1x128x256_0_0_0)⟩,
       ⟨Rect.unit ![0, 0, 0] ![4, 128, 256] inb_S4x128x256_S4x128x256_0_0_0, k0_pay3 x6⟩]
      ((Rect.unit (s := S4x128x256) ![0, 0, 0] ![4, 128, 256] inb_S4x128x256_S4x128x256_0_0_0).idx j)) := by
  subst h0 h1 h2 h3 h4 h5 h6
  unfold outsAt0
  generalize iblk m c 0 t = x0, iblk m c 1 t = x1, iblk m c 2 t = x2, iblk m c 3 t = x3, iblk m c 4 t = x4, iblk m c 5 t = x5, iblk m c 6 t = x6
  frame_out
  simp (disch := decide) only [View.readCov_eq_canon', View.canon_cons_unit_lit']
  exact ⟨rfl, rfl⟩

/-- Channel `e` of head `h` among the wide channels. -/
abbrev wide (h : Fin 4) (e : Fin 256) : Fin 1024 := ⟨h.val * 256 + e.val, by omega⟩

theorem ld_rows3 {R n p : ℕ} {e : EltTy} (X : Vec Ideal ⟨3, ![1, R, n]⟩ e) (o : ℕ)
    (inb : ∀ a, ![0, 0, o] a + ![1, R, p] a ≤ (⟨3, ![1, R, n]⟩ : Shape).size a) (r : Fin R) (q : Fin p) (i : Fin n) (hi : i.val = o + q.val) :
    View.ld X (Rect.unit (s := ⟨3, ![1, R, n]⟩) ![0, 0, o] ![1, R, p] inb) (ix3 0 r q) = X (ix3 0 r i) :=
  View.ld_unit_apply_of X _ _ _ _ _ (fun a => by
    match a with
    | ⟨0, _⟩ => rfl
    | ⟨1, _⟩ => exact (Nat.zero_add _).symm
    | ⟨2, _⟩ => exact hi)

theorem ld_lanes {n p : ℕ} {e : EltTy} (X : Vec Ideal ⟨2, ![1, n]⟩ e) (o : ℕ)
    (inb : ∀ a, ![0, o] a + ![1, p] a ≤ (⟨2, ![1, n]⟩ : Shape).size a) (q : Fin p) (i : Fin n) (hi : i.val = o + q.val) :
    View.ld X (Rect.unit (s := ⟨2, ![1, n]⟩) ![0, o] ![1, p] inb) (ix2 0 q) = X (ix2 0 i) :=
  View.ld_unit_apply_of X _ _ _ _ _ (fun a => by
    match a with
    | ⟨0, _⟩ => rfl
    | ⟨1, _⟩ => exact hi)

/-- The carried state a head reads is the one the chunk began with. -/
theorem sOld_apply (x6 : Vec Ideal S1x4x128x256 .f32) (h : Fin 4) (o : ℕ) (ho : o = h.val) (inb : ∀ a, ![o, 0, 0] a + S1x128x256.size a ≤ S4x128x256.size a)
    (d : Fin 128) (e : Fin 256) : sOld x6 o inb (ix3 0 d e) = x6 (ix4 0 h d e) := by
  subst ho
  have he : (Rect.unit (s := S4x128x256) ![h.val, 0, 0] ![1, 128, 256] inb).idx (ix3 0 d e) = ix3 h d e := by
    funext a
    match a with
    | ⟨0, _⟩ => exact Fin.ext (Nat.add_zero _)
    | ⟨1, _⟩ => apply Fin.ext; show 0 + 1 * d.val = d.val; omega
    | ⟨2, _⟩ => apply Fin.ext; show 0 + 1 * e.val = e.val; omega
  unfold sOld
  rw [he]
  pointwise [k0_pay3]

theorem gate_apply (x : FVec Ideal S1x64x128 .f32) (j : Fin 64) (d : Fin 128) : k0_pay8 (F := Ideal) x (ix2 j d) = x (ix3 0 j d) := by
  pointwise [k0_pay8]

/-- A head's output from the blocks of a point. -/
theorem out_head (x0 x1 : Vec Ideal S1x64x512 .f32) (x2 : Vec Ideal S1x64x1024 .f32) (x3 : Vec Ideal S1x64x512 .f32)
    (x4 : Vec Ideal S1x64x1024 .f32) (x5 : Vec Ideal S1x1024 .f32) (x6 : Vec Ideal S1x4x128x256 .f32) (h : Fin 4) (a o n : ℕ)
    (ha : a = h.val * 128) (ho : o = h.val * 256) (hn : n = h.val)
    (ia : ∀ p, ![0, 0, a] p + ![1, 64, 128] p ≤ S1x64x512.size p) (io : ∀ p, ![0, 0, o] p + ![1, 64, 256] p ≤ S1x64x1024.size p)
    (ig : ∀ p, ![0, o] p + ![1, 256] p ≤ S1x1024.size p) (is : ∀ p, ![n, 0, 0] p + S1x128x256.size p ≤ S4x128x256.size p)
    (f : Fin 64 → Fin 128 → ℝ) (hf : ∀ j d, x3 (ix3 0 j (lane h d)) = ((f j d : ℝ) : EReal)) (i : Fin 64) (e : Fin 256) :
    outv (k0_pay8 (View.ld x3 (Rect.unit (s := S1x64x512) ![0, 0, a] ![1, 64, 128] ia)))
      (View.ld x0 (Rect.unit (s := S1x64x512) ![0, 0, a] ![1, 64, 128] ia)) (View.ld x1 (Rect.unit (s := S1x64x512) ![0, 0, a] ![1, 64, 128] ia))
      (View.ld x2 (Rect.unit (s := S1x64x1024) ![0, 0, o] ![1, 64, 256] io)) (View.ld x4 (Rect.unit (s := S1x64x1024) ![0, 0, o] ![1, 64, 256] io))
      (View.ld x5 (Rect.unit (s := S1x1024) ![0, o] ![1, 256] ig)) (sOld x6 n is) (ix3 0 i e)
    = gateRow (mixRow f (fun i d => x0 (ix3 0 i (lane h d))) (fun j d => x1 (ix3 0 j (lane h d))) (fun j e => x2 (ix3 0 j (wide h e)))
      (fun d e => x6 (ix4 0 h d e)) i) (fun e => x5 (ix2 0 (wide h e))) (fun e => x4 (ix3 0 i (wide h e))) e := by
  have la {e : EltTy} (X : Vec Ideal S1x64x512 e) (j : Fin 64) (d : Fin 128) :
      View.ld X (Rect.unit (s := S1x64x512) ![0, 0, a] ![1, 64, 128] ia) (ix3 0 j d) = X (ix3 0 j (lane h d)) :=
    ld_rows3 X a ia j d _ (by rw [ha])
  have lo {e : EltTy} (X : Vec Ideal S1x64x1024 e) (j : Fin 64) (d : Fin 256) :
      View.ld X (Rect.unit (s := S1x64x1024) ![0, 0, o] ![1, 64, 256] io) (ix3 0 j d) = X (ix3 0 j (wide h d)) :=
    ld_rows3 X o io j d _ (by rw [ho])
  refine (outv_apply _ _ _ _ _ _ _ f (fun j d => (gate_apply _ j d).trans ((la x3 j d).trans (hf j d))) i e).trans ?_
  refine congr (congr (congr (congrArg gateRow ?_) ?_) ?_) rfl
  · congr 1
    · funext i d; exact la x0 i d
    · funext i d; exact la x1 i d
    · funext i d; exact lo x2 i d
    · funext d e; exact sOld_apply x6 h n hn is d e
  · funext e; exact ld_lanes x5 o ig e _ (by rw [ho])
  · funext e; exact lo x4 i e

/-- A head's state from the blocks of a point. -/
theorem state_head (x1 : Vec Ideal S1x64x512 .f32) (x2 : Vec Ideal S1x64x1024 .f32) (x3 : Vec Ideal S1x64x512 .f32)
    (x6 : Vec Ideal S1x4x128x256 .f32) (h : Fin 4) (a o n : ℕ)
    (ha : a = h.val * 128) (ho : o = h.val * 256) (hn : n = h.val)
    (ia : ∀ p, ![0, 0, a] p + ![1, 64, 128] p ≤ S1x64x512.size p) (io : ∀ p, ![0, 0, o] p + ![1, 64, 256] p ≤ S1x64x1024.size p)
    (is : ∀ p, ![n, 0, 0] p + S1x128x256.size p ≤ S4x128x256.size p)
    (f : Fin 64 → Fin 128 → ℝ) (hf : ∀ j d, x3 (ix3 0 j (lane h d)) = ((f j d : ℝ) : EReal)) (d : Fin 128) (e : Fin 256) :
    statev (k0_pay8 (View.ld x3 (Rect.unit (s := S1x64x512) ![0, 0, a] ![1, 64, 128] ia)))
      (View.ld x1 (Rect.unit (s := S1x64x512) ![0, 0, a] ![1, 64, 128] ia))
      (View.ld x2 (Rect.unit (s := S1x64x1024) ![0, 0, o] ![1, 64, 256] io)) (sOld x6 n is) (ix3 0 d e)
    = nextState f (fun j d => x1 (ix3 0 j (lane h d))) (fun j e => x2 (ix3 0 j (wide h e))) (fun d e => x6 (ix4 0 h d e)) d e := by
  have la {e : EltTy} (X : Vec Ideal S1x64x512 e) (j : Fin 64) (d : Fin 128) :
      View.ld X (Rect.unit (s := S1x64x512) ![0, 0, a] ![1, 64, 128] ia) (ix3 0 j d) = X (ix3 0 j (lane h d)) :=
    ld_rows3 X a ia j d _ (by rw [ha])
  have lo {e : EltTy} (X : Vec Ideal S1x64x1024 e) (j : Fin 64) (d : Fin 256) :
      View.ld X (Rect.unit (s := S1x64x1024) ![0, 0, o] ![1, 64, 256] io) (ix3 0 j d) = X (ix3 0 j (wide h d)) :=
    ld_rows3 X o io j d _ (by rw [ho])
  refine (statev_apply _ _ _ _ f (fun j d => (gate_apply _ j d).trans ((la x3 j d).trans (hf j d))) d e).trans ?_
  refine congrFun (congrFun ?_ d) e
  congr 1
  · funext i d; exact la x1 i d
  · funext i d; exact lo x2 i d
  · funext d e; exact sOld_apply x6 h n hn is d e

/-- Four heads side by side make the output block. -/
theorem heads_block (R : Fin 4 → Fin 64 → Fin 256 → EReal) (P0 P1 P2 P3 : FVec Ideal S1x64x256 .bf16)
    (h0 : ∀ i e, P0 (ix3 0 i e) = R 0 i e) (h1 : ∀ i e, P1 (ix3 0 i e) = R 1 i e) (h2 : ∀ i e, P2 (ix3 0 i e) = R 2 i e)
    (h3 : ∀ i e, P3 (ix3 0 i e) = R 3 i e) (h : Fin 4) (i : Fin 64) (e : Fin 256) :
    View.canon (Val := Elt Ideal) (s := S1x64x1024) (e := .bf16)
      [⟨Rect.unit ![0, 0, 768] ![1, 64, 256] inb_S1x64x1024_S1x64x256_0_0_768, P3⟩,
       ⟨Rect.unit ![0, 0, 512] ![1, 64, 256] inb_S1x64x1024_S1x64x256_0_0_512, P2⟩,
       ⟨Rect.unit ![0, 0, 256] ![1, 64, 256] inb_S1x64x1024_S1x64x256_0_0_256, P1⟩,
       ⟨Rect.unit ![0, 0, 0] ![1, 64, 256] inb_S1x64x1024_S1x64x256_0_0_0, P0⟩] (ix3 0 i (wide h e)) = R h i e := by
  let G : S1x64x1024.Idx → EReal := fun y => R ⟨(y 2).val / 256, by have h : (y 2).val < 1024 := (y 2).isLt; omega⟩ (y 1) ⟨(y 2).val % 256, by omega⟩
  have hG (h : Fin 4) (i : Fin 64) (e : Fin 256) : G (ix3 0 i (wide h e)) = R h i e := by
    show R ⟨(h.val * 256 + e.val) / 256, _⟩ i ⟨(h.val * 256 + e.val) % 256, _⟩ = R h i e
    congr 1
    · congr 2
      omega
    · apply Fin.ext
      show (h.val * 256 + e.val) % 256 = e.val
      omega
  have hp (h : Fin 4) (o : ℕ) (ho : o = h.val * 256) (inb : ∀ a, ![0, 0, o] a + ![1, 64, 256] a ≤ S1x64x1024.size a) (P : FVec Ideal S1x64x256 .bf16)
      (hP : ∀ i e, P (ix3 0 i e) = R h i e) (x : S1x64x256.Idx) : P x = G ((Rect.unit (s := S1x64x1024) ![0, 0, o] ![1, 64, 256] inb).emb x) := by
    obtain ⟨z, i, e, rfl⟩ : ∃ (z : Fin 1) (i : Fin 64) (e : Fin 256), x = ix3 z i e := ⟨x 0, x 1, x 2, eq_ix3 x⟩
    obtain rfl : z = 0 := Subsingleton.elim _ _
    have he : (Rect.unit (s := S1x64x1024) ![0, 0, o] ![1, 64, 256] inb).emb (ix3 0 i e) = ix3 0 i (wide h e) := by
      funext a
      match a with
      | ⟨0, _⟩ => rfl
      | ⟨1, _⟩ => apply Fin.ext; show 0 + 1 * i.val = i.val; omega
      | ⟨2, _⟩ => apply Fin.ext; show o + 1 * e.val = h.val * 256 + e.val; omega
    rw [he, hG]
    exact hP i e
  rw [← hG h i e]
  refine View.canon_append_of_piecesOf (Val := Elt Ideal) (s := S1x64x1024) (e := .bf16) G []
    [⟨Rect.unit ![0, 0, 768] ![1, 64, 256] inb_S1x64x1024_S1x64x256_0_0_768, P3⟩,
       ⟨Rect.unit ![0, 0, 512] ![1, 64, 256] inb_S1x64x1024_S1x64x256_0_0_512, P2⟩,
       ⟨Rect.unit ![0, 0, 256] ![1, 64, 256] inb_S1x64x1024_S1x64x256_0_0_256, P1⟩,
       ⟨Rect.unit ![0, 0, 0] ![1, 64, 256] inb_S1x64x1024_S1x64x256_0_0_0, P0⟩] ?_ _ ?_
  · exact ⟨hp 3 768 rfl inb_S1x64x1024_S1x64x256_0_0_768 P3 h3, hp 2 512 rfl inb_S1x64x1024_S1x64x256_0_0_512 P2 h2,
      hp 1 256 rfl inb_S1x64x1024_S1x64x256_0_0_256 P1 h1, hp 0 0 rfl inb_S1x64x1024_S1x64x256_0_0_0 P0 h0, trivial⟩
  exact View.cover_of_tiled ([⟨Rect.unit ![0, 0, 768] ![1, 64, 256] inb_S1x64x1024_S1x64x256_0_0_768, P3⟩,
       ⟨Rect.unit ![0, 0, 512] ![1, 64, 256] inb_S1x64x1024_S1x64x256_0_0_512, P2⟩,
       ⟨Rect.unit ![0, 0, 256] ![1, 64, 256] inb_S1x64x1024_S1x64x256_0_0_256, P1⟩,
       ⟨Rect.unit ![0, 0, 0] ![1, 64, 256] inb_S1x64x1024_S1x64x256_0_0_0, P0⟩] : List (View.Piece (Elt Ideal) S1x64x1024 .bf16)) S1x64x256.size (by rfl) _

/-- Four heads one above another make the state, whatever lay below them. -/
theorem states_block (R : Fin 4 → Fin 128 → Fin 256 → EReal) (P0 P1 P2 P3 : FVec Ideal S1x128x256 .f32) (B : FVec Ideal S4x128x256 .f32)
    (h0 : ∀ i e, P0 (ix3 0 i e) = R 0 i e) (h1 : ∀ i e, P1 (ix3 0 i e) = R 1 i e) (h2 : ∀ i e, P2 (ix3 0 i e) = R 2 i e)
    (h3 : ∀ i e, P3 (ix3 0 i e) = R 3 i e) (h : Fin 4) (i : Fin 128) (e : Fin 256) :
    k0_pay2 (F := Ideal) (fun j => View.canon (Val := Elt Ideal) (s := S4x128x256) (e := .f32)
      [⟨Rect.unit ![3, 0, 0] ![1, 128, 256] inb_S4x128x256_S1x128x256_3_0_0, P3⟩,
       ⟨Rect.unit ![2, 0, 0] ![1, 128, 256] inb_S4x128x256_S1x128x256_2_0_0, P2⟩,
       ⟨Rect.unit ![1, 0, 0] ![1, 128, 256] inb_S4x128x256_S1x128x256_1_0_0, P1⟩,
       ⟨Rect.unit ![0, 0, 0] ![1, 128, 256] inb_S4x128x256_S1x128x256_0_0_0, P0⟩,
       ⟨Rect.unit ![0, 0, 0] ![4, 128, 256] inb_S4x128x256_S4x128x256_0_0_0, B⟩]
      ((Rect.unit (s := S4x128x256) ![0, 0, 0] ![4, 128, 256] inb_S4x128x256_S4x128x256_0_0_0).idx j)) (ix4 0 h i e) = R h i e := by
  have hp (h : Fin 4) (o : ℕ) (ho : o = h.val) (inb : ∀ a, ![o, 0, 0] a + ![1, 128, 256] a ≤ S4x128x256.size a) (P : FVec Ideal S1x128x256 .f32)
      (hP : ∀ i e, P (ix3 0 i e) = R h i e) (x : S1x128x256.Idx) :
      P x = (fun y : S4x128x256.Idx => R (y 0) (y 1) (y 2)) ((Rect.unit (s := S4x128x256) ![o, 0, 0] ![1, 128, 256] inb).emb x) := by
    obtain ⟨z, i, e, rfl⟩ : ∃ (z : Fin 1) (i : Fin 128) (e : Fin 256), x = ix3 z i e := ⟨x 0, x 1, x 2, eq_ix3 x⟩
    obtain rfl : z = 0 := Subsingleton.elim _ _
    have he : (Rect.unit (s := S4x128x256) ![o, 0, 0] ![1, 128, 256] inb).emb (ix3 0 i e) = ix3 h i e := by
      funext a
      match a with
      | ⟨0, _⟩ => exact Fin.ext ho
      | ⟨1, _⟩ => apply Fin.ext; show 0 + 1 * i.val = i.val; omega
      | ⟨2, _⟩ => apply Fin.ext; show 0 + 1 * e.val = e.val; omega
    rw [he]
    exact hP i e
  have hi : (Rect.unit (s := S4x128x256) ![0, 0, 0] ![4, 128, 256] inb_S4x128x256_S4x128x256_0_0_0).idx (ix3 h i e) = ix3 h i e := by
    funext a
    match a with
    | ⟨0, _⟩ => apply Fin.ext; show 0 + 1 * h.val = h.val; omega
    | ⟨1, _⟩ => apply Fin.ext; show 0 + 1 * i.val = i.val; omega
    | ⟨2, _⟩ => apply Fin.ext; show 0 + 1 * e.val = e.val; omega
  have hk (A : FVec Ideal S4x128x256 .f32) : k0_pay2 (F := Ideal) A (ix4 0 h i e) = A (ix3 h i e) := by
    pointwise [k0_pay2]
  rw [hk, hi]
  refine View.canon_append_of_piecesOf (Val := Elt Ideal) (s := S4x128x256) (e := .f32) (fun y : S4x128x256.Idx => R (y 0) (y 1) (y 2))
    [⟨Rect.unit ![0, 0, 0] ![4, 128, 256] inb_S4x128x256_S4x128x256_0_0_0, B⟩]
    [⟨Rect.unit ![3, 0, 0] ![1, 128, 256] inb_S4x128x256_S1x128x256_3_0_0, P3⟩,
       ⟨Rect.unit ![2, 0, 0] ![1, 128, 256] inb_S4x128x256_S1x128x256_2_0_0, P2⟩,
       ⟨Rect.unit ![1, 0, 0] ![1, 128, 256] inb_S4x128x256_S1x128x256_1_0_0, P1⟩,
       ⟨Rect.unit ![0, 0, 0] ![1, 128, 256] inb_S4x128x256_S1x128x256_0_0_0, P0⟩]
    ?_ _ ?_
  · exact ⟨hp 3 3 rfl inb_S4x128x256_S1x128x256_3_0_0 P3 h3, hp 2 2 rfl inb_S4x128x256_S1x128x256_2_0_0 P2 h2,
      hp 1 1 rfl inb_S4x128x256_S1x128x256_1_0_0 P1 h1, hp 0 0 rfl inb_S4x128x256_S1x128x256_0_0_0 P0 h0, trivial⟩
  exact View.cover_of_tiled ([⟨Rect.unit ![3, 0, 0] ![1, 128, 256] inb_S4x128x256_S1x128x256_3_0_0, P3⟩,
       ⟨Rect.unit ![2, 0, 0] ![1, 128, 256] inb_S4x128x256_S1x128x256_2_0_0, P2⟩,
       ⟨Rect.unit ![1, 0, 0] ![1, 128, 256] inb_S4x128x256_S1x128x256_1_0_0, P1⟩,
       ⟨Rect.unit ![0, 0, 0] ![1, 128, 256] inb_S4x128x256_S1x128x256_0_0_0, P0⟩] : List (View.Piece (Elt Ideal) S4x128x256 .f32)) S1x128x256.size (by rfl) _

/-! The arrays the blocks come from. -/

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![0, 0] ∧ win0_6.index t = ![t.val, 0, 0, 0]
    ∧ win0_7.index t = ![t.val, 0, 0] ∧ win0_8.index t = ![t.val, 0, 0, 0] ∧ t.val < 8 :=
  (by decide +kernel : ∀ t : Fin grid0.N, _)

/-- The stream of a point. -/
abbrev bat (t : Fin cfg0.N) : Fin 8 := ⟨t.val, (idx t).2.2.2.2.2.2.2.2.2⟩

theorem read0 (c : Dev nD) (t : Fin cfg0.N) (j : Fin 64) (x : Fin 512) : (iblk m c 0 t : FVec Ideal S1x64x512 .f32) (ix3 0 j x)
    = (m ((c : Thread nD τ).loc main_arg0) : FVec Ideal S8x64x512 .f32) (ix3 (bat t) j x) := by
  blk_ext [iblk, V, (idx t).1]

theorem read1 (c : Dev nD) (t : Fin cfg0.N) (j : Fin 64) (x : Fin 512) : (iblk m c 1 t : FVec Ideal S1x64x512 .f32) (ix3 0 j x)
    = (m ((c : Thread nD τ).loc main_arg1) : FVec Ideal S8x64x512 .f32) (ix3 (bat t) j x) := by
  blk_ext [iblk, V, (idx t).2.1]

theorem read2 (c : Dev nD) (t : Fin cfg0.N) (j : Fin 64) (x : Fin 1024) : (iblk m c 2 t : FVec Ideal S1x64x1024 .f32) (ix3 0 j x)
    = (m ((c : Thread nD τ).loc main_arg2) : FVec Ideal S8x64x1024 .f32) (ix3 (bat t) j x) := by
  blk_ext [iblk, V, (idx t).2.2.1]

theorem read3 (c : Dev nD) (t : Fin cfg0.N) (j : Fin 64) (x : Fin 512) : (iblk m c 3 t : FVec Ideal S1x64x512 .f32) (ix3 0 j x)
    = (m ((c : Thread nD τ).loc main_arg3) : FVec Ideal S8x64x512 .f32) (ix3 (bat t) j x) := by
  blk_ext [iblk, V, (idx t).2.2.2.1]

theorem read4 (c : Dev nD) (t : Fin cfg0.N) (j : Fin 64) (x : Fin 1024) : (iblk m c 4 t : FVec Ideal S1x64x1024 .f32) (ix3 0 j x)
    = (m ((c : Thread nD τ).loc main_arg4) : FVec Ideal S8x64x1024 .f32) (ix3 (bat t) j x) := by
  blk_ext [iblk, V, (idx t).2.2.2.2.1]

theorem read5 (c : Dev nD) (t : Fin cfg0.N) (x : Fin 1024) : (iblk m c 5 t : FVec Ideal S1x1024 .f32) (ix2 0 x)
    = (m ((c : Thread nD τ).loc main_arg5) : FVec Ideal S1024 .f32) (ix1 x) := by
  blk_simp [iblk, (idx t).2.2.2.2.2.1]
  entry_read
  pointwise
  blk_ext [(idx t).2.2.2.2.2.1]

theorem read6 (c : Dev nD) (t : Fin cfg0.N) (h : Fin 4) (d : Fin 128) (e : Fin 256) : (iblk m c 6 t : FVec Ideal S1x4x128x256 .f32) (ix4 0 h d e)
    = (m ((c : Thread nD τ).loc main_arg6) : FVec Ideal S8x4x128x256 .f32) (ix4 (bat t) h d e) := by
  blk_ext [iblk, V, (idx t).2.2.2.2.2.2.1]

end

/-! The reference at an entry. -/

section
open Cert.GlaRefIdeal Cert.GlaRefIdeal.Read

theorem split_lane (b : Fin 8) (j : Fin 64) (h : Fin 4) (d : Fin 128) : idx_main_v0 (ix4 b j h d) = ix3 b j (lane h d) := by
  funext a
  apply Fin.ext
  match a with
  | ⟨0, _⟩ => show (((b.val * 64 + j.val) * 4 + h.val) * 128 + d.val) / 32768 = b.val; omega
  | ⟨1, _⟩ => show (((b.val * 64 + j.val) * 4 + h.val) * 128 + d.val) / 512 % 64 = j.val; omega
  | ⟨2, _⟩ => show (((b.val * 64 + j.val) * 4 + h.val) * 128 + d.val) % 512 = h.val * 128 + d.val; omega

theorem split_wide (b : Fin 8) (j : Fin 64) (h : Fin 4) (e : Fin 256) : idx_main_v2 (ix4 b j h e) = ix3 b j (wide h e) := by
  funext a
  apply Fin.ext
  match a with
  | ⟨0, _⟩ => show (((b.val * 64 + j.val) * 4 + h.val) * 256 + e.val) / 65536 = b.val; omega
  | ⟨1, _⟩ => show (((b.val * 64 + j.val) * 4 + h.val) * 256 + e.val) / 1024 % 64 = j.val; omega
  | ⟨2, _⟩ => show (((b.val * 64 + j.val) * 4 + h.val) * 256 + e.val) % 1024 = h.val * 256 + e.val; omega

/-- A sum taken step by step from the left. -/
theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

abbrev Win : Shape := ⟨4, ![1, 64, 1, 1]⟩

/-- The window's positions are the frames. -/
def winEquiv : Fin 64 ≃ Win.Idx where
  toFun n := ix4 0 n 0 0
  invFun w := w 1
  left_inv n := rfl
  right_inv w := by
    obtain ⟨a, n, p, q, rfl⟩ : ∃ (a : Fin 1) (n : Fin 64) (p q : Fin 1), w = ix4 a n p q := ⟨w 0, w 1, w 2, w 3, eq_ix4 w⟩
    obtain rfl : a = 0 := Subsingleton.elim _ _
    obtain rfl : p = 0 := Subsingleton.elim _ _
    obtain rfl : q = 0 := Subsingleton.elim _ _
    rfl

/-- A window of frames reaching back from frame `i` sums the frames up to it. -/
theorem back_sum (y : Fin 64 → EReal) (i : Fin 64) :
    (∑ n : Fin 64, if hn : 63 ≤ i.val + n.val ∧ i.val + n.val - 63 < 64 then y ⟨i.val + n.val - 63, hn.2⟩ else 0) = ∑ j, if j ≤ i then y j else 0 := by
  rw [← Finset.sum_filter]
  have hl : (∑ n : Fin 64, if hn : 63 ≤ i.val + n.val ∧ i.val + n.val - 63 < 64 then y ⟨i.val + n.val - 63, hn.2⟩ else 0)
      = ∑ n : Fin 64, if 63 ≤ i.val + n.val then y ⟨i.val + n.val - 63, by omega⟩ else 0 :=
    Finset.sum_congr rfl fun n _ => by
      by_cases hn : 63 ≤ i.val + n.val
      · rw [dif_pos ⟨hn, by omega⟩, if_pos hn]
      · rw [dif_neg (fun h => hn h.1), if_neg hn]
  rw [hl, ← Finset.sum_filter]
  refine Finset.sum_bij' (fun n _ => (⟨i.val + n.val - 63, by omega⟩ : Fin 64))
    (fun j hj => (⟨j.val + 63 - i.val, by have h : j.val ≤ i.val := (Finset.mem_filter.mp hj).2; omega⟩ : Fin 64)) ?_ ?_ ?_ ?_ ?_
  · intro n hn
    have h := (Finset.mem_filter.mp hn).2
    exact Finset.mem_filter.mpr ⟨Finset.mem_univ _, (by show i.val + n.val - 63 ≤ i.val; omega)⟩
  · intro j hj
    have h : j.val ≤ i.val := (Finset.mem_filter.mp hj).2
    exact Finset.mem_filter.mpr ⟨Finset.mem_univ _, (by show 63 ≤ i.val + (j.val + 63 - i.val); omega)⟩
  · intro n hn
    have h := (Finset.mem_filter.mp hn).2
    apply Fin.ext
    show i.val + n.val - 63 + 63 - i.val = n.val
    omega
  · intro j hj
    have h : j.val ≤ i.val := (Finset.mem_filter.mp hj).2
    apply Fin.ext
    show i.val + (j.val + 63 - i.val) - 63 = j.val
    omega
  · intro n hn
    rfl

theorem dite_same {P Q : Prop} {_ : Decidable P} {_ : Decidable Q} (hPQ : P ↔ Q) (Y : P → EReal) (Z : Q → EReal) (h : ∀ p q, Y p = Z q) :
    (if p : P then Y p else 0) = if q : Q then Z q else 0 := by
  by_cases hp : P
  · rw [dif_pos hp, dif_pos (hPQ.mp hp)]
    exact h _ _
  · rw [dif_neg hp, dif_neg fun hq => hp (hPQ.mpr hq)]

/-- The running sums of the log gates. -/
theorem cum_ref (x3 : FVec Ideal S8x64x512 .f32) (f : Fin 8 → Fin 4 → Fin 64 → Fin 128 → ℝ)
    (hf : ∀ b h j d, x3 (ix3 b j (lane h d)) = ((f b h j d : ℝ) : EReal)) (b : Fin 8) (i : Fin 64) (h : Fin 4) (d : Fin 128) :
    val_main_v6 (F := Ideal) x3 (ix4 b i h d) = ((cumR (f b h) i d : ℝ) : EReal) := by
  have hy (j : Fin 64) : val_main_v3 (F := Ideal) x3 (ix4 b j h d) = ((f b h j d : ℝ) : EReal) := by
    rw [val_main_v3_apply]
    exact (congrArg x3 (split_lane b j h d)).trans (hf b h j d)
  have hv : val_main_call1_call0_v0 (F := Ideal) (Shape.Idx.first Gen.h_S_) = 0 := by
    rw [val_main_call1_call0_v0_apply, val_main_call1_call0_cst_apply]
    exact Ideal.ofBits_zero .f32
  unfold val_main_v6
  generalize val_main_v3 (F := Ideal) x3 = y at hy
  simp only [Host.reduceWindowAdd, Ideal.hostReduceWindowAdd_def]
  rw [hv]
  unfold Ideal.hostReduceWindowAdd Host.reduceWindow
  refine (foldl_sum _ _ _).trans ?_
  rw [zero_add, ← Fin.sum_univ_def]
  refine (Equiv.sum_comp (winEquiv.trans Win.rowMajor) _).symm.trans ?_
  trans ∑ n : Fin 64, if hn : 63 ≤ i.val + n.val ∧ i.val + n.val - 63 < 64 then y (ix4 b ⟨i.val + n.val - 63, hn.2⟩ h d) else 0
  · refine Finset.sum_congr rfl fun n _ => ?_
    have hw (a : Fin 4) : (Win.rowMajor.symm ((winEquiv.trans Win.rowMajor) n) a).val = (ix4 (0 : Fin 1) n (0 : Fin 1) (0 : Fin 1) a).val :=
      congrArg (fun w : Win.Idx => (w a).val) (Equiv.symm_apply_apply Win.rowMajor (winEquiv n))
    refine dite_same ⟨fun hin => ?_, fun hn a => ?_⟩ _ _ fun hin hn => ?_
    · have h1 : 63 ≤ i.val * 1 + (Win.rowMajor.symm ((winEquiv.trans Win.rowMajor) n) (1 : Fin 4)).val
          ∧ i.val * 1 + (Win.rowMajor.symm ((winEquiv.trans Win.rowMajor) n) (1 : Fin 4)).val - 63 < 64 := hin (1 : Fin 4)
      have e1 : (Win.rowMajor.symm ((winEquiv.trans Win.rowMajor) n) (1 : Fin 4)).val = n.val := hw 1
      omega
    · show (![0, 63, 0, 0] : Fin 4 → ℕ) a ≤ (ix4 b i h d a).val * (![1, 1, 1, 1] : Fin 4 → ℕ) a + (Win.rowMajor.symm ((winEquiv.trans Win.rowMajor) n) a).val
        ∧ (ix4 b i h d a).val * (![1, 1, 1, 1] : Fin 4 → ℕ) a + (Win.rowMajor.symm ((winEquiv.trans Win.rowMajor) n) a).val - (![0, 63, 0, 0] : Fin 4 → ℕ) a < S8x64x4x128.size a
      rw [hw a]
      match a with
      | ⟨0, _⟩ => show 0 ≤ b.val * 1 + 0 ∧ b.val * 1 + 0 - 0 < 8; omega
      | ⟨1, _⟩ => show 63 ≤ i.val * 1 + n.val ∧ i.val * 1 + n.val - 63 < 64; omega
      | ⟨2, _⟩ => show 0 ≤ h.val * 1 + 0 ∧ h.val * 1 + 0 - 0 < 4; omega
      | ⟨3, _⟩ => show 0 ≤ d.val * 1 + 0 ∧ d.val * 1 + 0 - 0 < 128; omega
    · refine congrArg y (funext fun a => Fin.ext ?_)
      show (ix4 b i h d a).val * (![1, 1, 1, 1] : Fin 4 → ℕ) a + (Win.rowMajor.symm ((winEquiv.trans Win.rowMajor) n) a).val - (![0, 63, 0, 0] : Fin 4 → ℕ) a = _
      rw [hw a]
      match a with
      | ⟨0, _⟩ => show b.val * 1 + 0 - 0 = b.val; omega
      | ⟨1, _⟩ => show i.val * 1 + n.val - 63 = i.val + n.val - 63; omega
      | ⟨2, _⟩ => show h.val * 1 + 0 - 0 = h.val; omega
      | ⟨3, _⟩ => show d.val * 1 + 0 - 0 = d.val; omega
  · refine (back_sum (fun j => y (ix4 b j h d)) i).trans ?_
    rw [cumR, ← coe_sum]
    refine Finset.sum_congr rfl fun j _ => ?_
    split
    · exact hy j
    · rfl

/-- The reference's mask: frames at or before. -/
theorem mask_ref (i j : Fin 64) : val_main_v5 (F := Ideal) (ix2 i j) = if j ≤ i then 1#1 else 0#1 := by
  revert i j
  decide +kernel

theorem exp_hidden : FloatOps.hostUnary (F := Ideal) (φ := .f32) .exp (Ideal.ofBits .f32 0xFF800000#32) = (0 : EReal) := by
  show Ideal.exp (Ideal.ofBits .f32 0xFF800000#32) = 0
  have hb : Ideal.ofBits .f32 0xFF800000#32 = (⊥ : EReal) := by decide +kernel
  rw [hb, Ideal.exp_bot]

section
variable (x0 x1 x3 : FVec Ideal S8x64x512 .f32) (x2 x4 : FVec Ideal S8x64x1024 .f32) (x5 : FVec Ideal S1024 .f32) (x6 : FVec Ideal S8x4x128x256 .f32)
variable (f : Fin 8 → Fin 4 → Fin 64 → Fin 128 → ℝ) (hf : ∀ b h j d, x3 (ix3 b j (lane h d)) = ((f b h j d : ℝ) : EReal))

/-- The rows of a head. -/
def headLanes (x : FVec Ideal S8x64x512 .f32) (b : Fin 8) (h : Fin 4) : Fin 64 → Fin 128 → EReal := fun j d => x (ix3 b j (lane h d))

def headWide (x : FVec Ideal S8x64x1024 .f32) (b : Fin 8) (h : Fin 4) : Fin 64 → Fin 256 → EReal := fun j e => x (ix3 b j (wide h e))

def headState (x : FVec Ideal S8x4x128x256 .f32) (b : Fin 8) (h : Fin 4) : Fin 128 → Fin 256 → EReal := fun d e => x (ix4 b h d e)

def headScale (x : FVec Ideal S1024 .f32) (h : Fin 4) : Fin 256 → EReal := fun e => x (ix1 (wide h e))

include hf

/-- The scores. -/
theorem score_ref (b : Fin 8) (i j : Fin 64) (h : Fin 4) :
    val_main_v25 (F := Ideal) x0 x1 x3 (ix4 b i j h) = score (f b h) (headLanes x0 b h) (headLanes x1 b h) i j := by
  have hd (d : Fin 128) : val_main_v24 (F := Ideal) x0 x1 x3 (idx_main_v25 (ix4 b i j h) d)
      = if j ≤ i then x0 (ix3 b i (lane h d)) * x1 (ix3 b j (lane h d)) * ((Real.exp (cumR (f b h) i d - cumR (f b h) j d) : ℝ) : EReal) else 0 := by
    rw [show idx_main_v25 (ix4 b i j h) d = ix5 b i j h d from eq_ix5 _]
    have hq : val_main_v21 (F := Ideal) x0 (ix5 b i j h d) = x0 (ix3 b i (lane h d)) := by
      rw [val_main_v21_apply, val_main_v19_apply, show idx_main_v19 (idx_main_v21 (ix5 b i j h d)) = ix4 b i h d from eq_ix4 _, val_main_v0_apply]
      exact congrArg x0 (split_lane b i h d)
    have hk : val_main_v22 (F := Ideal) x1 (ix5 b i j h d) = x1 (ix3 b j (lane h d)) := by
      rw [val_main_v22_apply, val_main_v20_apply, show idx_main_v20 (idx_main_v22 (ix5 b i j h d)) = ix4 b j h d from eq_ix4 _, val_main_v1_apply]
      exact congrArg x1 (split_lane b j h d)
    have hm : val_main_call2_v1 (F := Ideal) (ix5 b i j h d) = if j ≤ i then 1#1 else 0#1 := by
      rw [val_main_call2_v1_apply, val_main_v16_apply, show idx_main_v16 (idx_main_call2_v1 (ix5 b i j h d)) = ix2 i j from eq_ix2 _, mask_ref]
    have hi : val_main_v13 (F := Ideal) x3 (ix5 b i j h d) = ((cumR (f b h) i d : ℝ) : EReal) := by
      rw [val_main_v13_apply, val_main_v11_apply, show idx_main_v11 (idx_main_v13 (ix5 b i j h d)) = ix4 b i h d from eq_ix4 _, cum_ref x3 f hf]
    have hj : val_main_v14 (F := Ideal) x3 (ix5 b i j h d) = ((cumR (f b h) j d : ℝ) : EReal) := by
      rw [val_main_v14_apply, val_main_v12_apply, show idx_main_v12 (idx_main_v14 (ix5 b i j h d)) = ix4 b j h d from eq_ix4 _, cum_ref x3 f hf]
    have hn : val_main_call2_v2 (F := Ideal) (ix5 b i j h d) = Ideal.ofBits .f32 0xFF800000#32 := by
      rw [val_main_call2_v2_apply, val_main_call2_v0_apply, val_main_cst_apply]
      rfl
    rw [val_main_v24_apply, val_main_v23_apply, val_main_v18_apply, val_main_v17_apply, val_main_v15_apply, hq, hk, hm, hi, hj, hn, sel_if]
    split
    · show x0 (ix3 b i (lane h d)) * x1 (ix3 b j (lane h d)) * Ideal.exp (((cumR (f b h) i d : ℝ) : EReal) - ((cumR (f b h) j d : ℝ) : EReal)) = _
      rw [← EReal.coe_sub, Ideal.exp_coe]
    · rw [exp_hidden]
      exact mul_zero _
  rw [val_main_v25_apply, Finset.sum_congr rfl fun d _ => hd d, val_main_cst_0_apply]
  refine (congrArg (fun z : EReal => z + _) (Ideal.ofBits_zero .f32)).trans ?_
  rw [zero_add, score]
  split
  · rfl
  · exact Finset.sum_const_zero

/-- A head's output before its norm. -/
theorem mix_ref (b : Fin 8) (i : Fin 64) (h : Fin 4) (e : Fin 256) :
    val_main_v41 (F := Ideal) x0 x1 x2 x3 x6 (ix4 b i h e)
      = mixRow (f b h) (headLanes x0 b h) (headLanes x1 b h) (headWide x2 b h) (headState x6 b h) i e := by
  rw [val_main_v41_apply, val_main_v10_apply, show idx_main_v10 (ix4 b i h e) = ix4 b h e i from eq_ix4 _, val_main_v9_apply, val_main_v27_apply,
    show idx_main_v27 (ix4 b i h e) = ix4 b h e i from eq_ix4 _, val_main_v26_apply]
  refine congrArg₂ (· + ·) (Finset.sum_congr rfl fun d _ => ?_) (Finset.sum_congr rfl fun j _ => ?_)
  · rw [show lidx_main_v9 (ix4 b h e i) d = ix4 b h d e from eq_ix4 _, show ridx_main_v9 (ix4 b h e i) d = ix4 b i h d from eq_ix4 _, val_main_v8_apply, val_main_v7_apply,
      cum_ref x3 f hf, val_main_v0_apply]
    rw [mul_comm]
    refine congrArg₂ (· * ·) (congrArg₂ (· * ·) (congrArg x0 (split_lane b i h d)) ?_) rfl
    exact Ideal.exp_coe _
  · rw [show lidx_main_v26 (ix4 b h e i) j = ix4 b j h e from eq_ix4 _, show ridx_main_v26 (ix4 b h e i) j = ix4 b i j h from eq_ix4 _, val_main_v2_apply,
      score_ref x0 x1 x3 f hf, mul_comm]
    exact congrArg₂ (· * ·) rfl (congrArg x2 (split_wide b j h e))

/-- The last running sum. -/
theorem last_ref (b : Fin 8) (h : Fin 4) (d : Fin 128) : val_main_v29 (F := Ideal) x3 (ix3 b h d) = ((cumR (f b h) 63 d : ℝ) : EReal) := by
  have hi : idx_main_v28 (idx_main_v29 (ix3 b h d)) = ix4 b (63 : Fin 64) h d := by
    funext a
    apply Fin.ext
    match a with
    | ⟨0, _⟩ => show ((b.val * 4 + h.val) * 128 + d.val) / 512 = b.val; omega
    | ⟨1, _⟩ => rfl
    | ⟨2, _⟩ => show ((b.val * 4 + h.val) * 128 + d.val) / 128 % 4 = h.val; omega
    | ⟨3, _⟩ => show ((b.val * 4 + h.val) * 128 + d.val) % 128 = d.val; omega
  rw [val_main_v29_apply, val_main_v28_apply, hi, cum_ref x3 f hf]

/-- A head's state after the chunk. -/
theorem state_ref (b : Fin 8) (h : Fin 4) (d : Fin 128) (e : Fin 256) :
    val_main_v40 (F := Ideal) x1 x2 x3 x6 (ix4 b h d e) = nextState (f b h) (headLanes x1 b h) (headWide x2 b h) (headState x6 b h) d e := by
  rw [val_main_v40_apply, val_main_v33_apply, val_main_v39_apply, val_main_v32_apply, val_main_v31_apply,
    show idx_main_v31 (idx_main_v32 (ix4 b h d e)) = ix3 b h d from eq_ix3 _, val_main_v30_apply, last_ref x3 f hf]
  refine congrArg₂ (· + ·) (congrArg₂ (· * ·) (Ideal.exp_coe _) rfl) (Finset.sum_congr rfl fun j _ => ?_)
  rw [show lidx_main_v39 (ix4 b h d e) j = ix4 b j h d from eq_ix4 _, show ridx_main_v39 (ix4 b h d e) j = ix4 b j h e from eq_ix4 _, val_main_v2_apply,
    val_main_v38_apply, val_main_v37_apply, val_main_v36_apply, val_main_v35_apply, val_main_v34_apply, cum_ref x3 f hf, val_main_v1_apply,
    show idx_main_v34 (idx_main_v35 (ix4 b j h d)) = ix3 b h d from eq_ix3 _, last_ref x3 f hf]
  refine congrArg₂ (· * ·) (congrArg₂ (· * ·) (congrArg x1 (split_lane b j h d)) ?_) (congrArg x2 (split_wide b j h e))
  show Ideal.exp (((cumR (f b h) 63 d : ℝ) : EReal) - ((cumR (f b h) j d : ℝ) : EReal)) = _
  rw [← EReal.coe_sub, Ideal.exp_coe]

/-- The mean of a head's row. -/
theorem mean_ref (b : Fin 8) (i : Fin 64) (h : Fin 4) :
    val_main_v45 (F := Ideal) x0 x1 x2 x3 x6 (ix4 b i h 0)
      = meanRow (mixRow (f b h) (headLanes x0 b h) (headLanes x1 b h) (headWide x2 b h) (headState x6 b h) i) := by
  rw [val_main_v45_apply, val_main_v43_apply, val_main_v44_apply, val_main_cst_2_apply, show idx_main_v43 (ix4 b i h (0 : Fin 1)) = ix3 b i h from eq_ix3 _,
    val_main_v42_apply, val_main_cst_1_apply]
  refine congrArg₂ Ideal.div ((congrArg (fun z : EReal => z + _) (Ideal.ofBits_zero .f32)).trans ((zero_add _).trans (Finset.sum_congr rfl fun e _ => ?_))) rfl
  rw [show idx_main_v42 (ix3 b i h) e = ix4 b i h e from eq_ix4 _, mix_ref x0 x1 x3 x2 x6 f hf]

/-- The mean of the squares of a head's centred row. -/
theorem var_ref (b : Fin 8) (i : Fin 64) (h : Fin 4) (o : Fin 256 → EReal)
    (ho : o = mixRow (f b h) (headLanes x0 b h) (headLanes x1 b h) (headWide x2 b h) (headState x6 b h) i) :
    val_main_v52 (F := Ideal) x0 x1 x2 x3 x6 (ix4 b i h 0) = meanRow fun e => (o e - meanRow o) * (o e - meanRow o) := by
  rw [val_main_v52_apply, val_main_v50_apply, val_main_v51_apply, val_main_cst_4_apply, show idx_main_v50 (ix4 b i h (0 : Fin 1)) = ix3 b i h from eq_ix3 _,
    val_main_v49_apply, val_main_cst_3_apply]
  refine congrArg₂ Ideal.div ((congrArg (fun z : EReal => z + _) (Ideal.ofBits_zero .f32)).trans ((zero_add _).trans (Finset.sum_congr rfl fun e _ => ?_))) rfl
  rw [show idx_main_v49 (ix3 b i h) e = ix4 b i h e from eq_ix4 _, val_main_v48_apply, val_main_v47_apply, val_main_v46_apply,
    show idx_main_v46 (ix4 b i h e) = ix4 b i h (0 : Fin 1) from eq_ix4 _, mix_ref x0 x1 x3 x2 x6 f hf, mean_ref x0 x1 x3 x2 x6 f hf, ← ho]
  rfl

/-- The output. -/
theorem gate_ref (b : Fin 8) (i : Fin 64) (h : Fin 4) (e : Fin 256) :
    val_main_v67 (F := Ideal) x0 x1 x2 x3 x4 x5 x6 (ix3 b i (wide h e))
      = gateRow (mixRow (f b h) (headLanes x0 b h) (headLanes x1 b h) (headWide x2 b h) (headState x6 b h) i) (headScale x5 h) (headWide x4 b h i) e := by
  have hi : idx_main_v64 (ix3 b i (wide h e)) = ix4 b i h e := by
    funext a
    apply Fin.ext
    match a with
    | ⟨0, _⟩ => show ((b.val * 64 + i.val) * 1024 + (h.val * 256 + e.val)) / 65536 = b.val; omega
    | ⟨1, _⟩ => show ((b.val * 64 + i.val) * 1024 + (h.val * 256 + e.val)) / 1024 % 64 = i.val; omega
    | ⟨2, _⟩ => show ((b.val * 64 + i.val) * 1024 + (h.val * 256 + e.val)) / 256 % 4 = h.val; omega
    | ⟨3, _⟩ => show ((b.val * 64 + i.val) * 1024 + (h.val * 256 + e.val)) % 256 = e.val; omega
  have hg : idx_main_v60 (idx_main_v61 (idx_main_v62 (ix4 b i h e))) = ix1 (wide h e) := eq_ix1 _
  have hr : val_main_v65 (F := Ideal) x4 (ix3 b i (wide h e)) = headWide x4 b h i e * Ideal.logistic (headWide x4 b h i e) := by
    rw [val_main_v65_apply, val_main_call3_v5_apply, val_main_call3_v4_apply, val_main_call3_v3_apply, val_main_call3_v2_apply, val_main_call3_v1_apply,
      val_main_call3_v0_apply, val_main_call3_cst_apply, val_main_call3_cst_0_apply]
    have h1 : FloatOps.ofBits (F := Ideal) .f32 0x3F800000#32 = (1 : EReal) := by
      show Ideal.ofBits .f32 0x3F800000#32 = 1
      rw [show (1 : EReal) = ((1 : ℝ) : EReal) by norm_cast]
      simp [Ideal.ofBits, Ideal.ieee, -EReal.coe_mul]
      norm_num
    rw [h1]
    rfl
  generalize ho : mixRow (f b h) (headLanes x0 b h) (headLanes x1 b h) (headWide x2 b h) (headState x6 b h) i = o
  have hm := mean_ref x0 x1 x3 x2 x6 f hf b i h
  rw [ho] at hm
  rw [val_main_v67_apply, val_main_v66_apply, val_main_v64_apply, hr, hi, val_main_v63_apply, val_main_v59_apply, val_main_v54_apply, val_main_v53_apply,
    val_main_v58_apply, val_main_v57_apply, val_main_v56_apply, val_main_v55_apply, val_main_cst_5_apply, val_main_v62_apply, val_main_v61_apply,
    val_main_v60_apply, hg, show idx_main_v53 (ix4 b i h e) = ix4 b i h (0 : Fin 1) from eq_ix4 _, show idx_main_v58 (ix4 b i h e) = ix4 b i h (0 : Fin 1) from eq_ix4 _,
    mix_ref x0 x1 x3 x2 x6 f hf, hm, var_ref x0 x1 x3 x2 x6 f hf b i h o ho.symm, ho]
  rfl

end

end

/-! The claim's precondition: every log gate is a real number. -/

theorem real_of_abs_lt (x : EReal) (h : max x (-x) < ⊤) : ∃ r : ℝ, x = (r : EReal) := by
  obtain ⟨h1, h2⟩ := max_lt_iff.mp h
  refine ⟨x.toReal, (EReal.coe_toReal (ne_of_lt h1) fun hb => ?_).symm⟩
  rw [hb, EReal.neg_bot] at h2
  exact lt_irrefl _ h2

theorem top_word : Ideal.ofBits .f32 0x7F800000#32 = (⊤ : EReal) := by
  simp [Ideal.ofBits, Ideal.ieee]

section
open Cert.Pre_finite_gate

theorem gates_real (x0 x1 : FVec Ideal S8x64x512 .f32) (x2 : FVec Ideal S8x64x1024 .f32) (x3 : FVec Ideal S8x64x512 .f32) (x4 : FVec Ideal S8x64x1024 .f32)
    (x5 : FVec Ideal S1024 .f32) (x6 : FVec Ideal S8x4x128x256 .f32)
    (h : Cert.Pre_finite_gate.fn (F := Ideal) x0 x1 x2 x3 x4 x5 x6 = (fun _ => 1#1)) :
    ∃ f : Fin 8 → Fin 4 → Fin 64 → Fin 128 → ℝ, ∀ b h j d, x3 (ix3 b j (lane h d)) = ((f b h j d : ℝ) : EReal) := by
  have hx (i : S8x64x512.Idx) : ∃ r : ℝ, x3 i = (r : EReal) := by
    have h1 := Host.reduce_andi_all _ _ _ _ ix0 (congrFun h ix0) i
    have h2 : Ideal.cmp .olt (max (x3 i : EReal) (-(x3 i : EReal))) (Ideal.ofBits .f32 0x7F800000#32) = 1#1 := h1
    rw [top_word] at h2
    refine real_of_abs_lt _ ?_
    by_contra hn
    simp [Ideal.cmp, hn] at h2
  choose f hf using hx
  exact ⟨fun b h j d => f (ix3 b j (lane h d)), fun b h j d => hf _⟩

end

/-! The blocks of a point are the reference's entries. -/

section
open Cert.GlaIdeal Cert.GlaIdeal.Gen

variable (m : (ℓ : Loc nD τ sig) → Buf (Elt Ideal) ℓ)

/-- The reference's output of the kernel's arguments. -/
def goalOut (c : Dev nD) : FVec Ideal S8x64x1024 .bf16 :=
  Cert.GlaRefIdeal.Read.val_main_v67 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The reference's state of the kernel's arguments. -/
def goalState (c : Dev nD) : FVec Ideal S8x4x128x256 .f32 :=
  Cert.GlaRefIdeal.Read.val_main_v40 (F := Ideal) (m ((c : Thread nD τ).loc main_arg1)) (m ((c : Thread nD τ).loc main_arg2))
    (m ((c : Thread nD τ).loc main_arg3)) (m ((c : Thread nD τ).loc main_arg6))

variable (c : Dev nD) (f : Fin 8 → Fin 4 → Fin 64 → Fin 128 → ℝ)
variable (hf : ∀ b h j d, (m ((c : Thread nD τ).loc main_arg3) : FVec Ideal S8x64x512 .f32) (ix3 b j (lane h d)) = ((f b h j d : ℝ) : EReal))

include hf

theorem out_point (t : Fin cfg0.N) (i : Fin 64) (h : Fin 4) (e : Fin 256) :
    (outsAt0 m c t).1 (ix3 0 i (wide h e)) = goalOut m c (ix3 (bat t) i (wide h e)) := by
  refine Eq.trans ?_ (gate_ref _ _ _ _ _ _ _ f hf (bat t) i h e).symm
  rw [(outs_eq m c t _ _ _ _ _ _ _ rfl rfl rfl rfl rfl rfl rfl).1]
  have hp (h : Fin 4) (a o n : ℕ) (ha : a = h.val * 128) (ho : o = h.val * 256) (hn : n = h.val) (ia io ig is) (i : Fin 64) (e : Fin 256) :=
    out_head (iblk m c 0 t) (iblk m c 1 t) (iblk m c 2 t) (iblk m c 3 t) (iblk m c 4 t) (iblk m c 5 t) (iblk m c 6 t) h a o n ha ho hn ia io ig is
      (f (bat t) h) (fun j d => (read3 m c t j _).trans (hf (bat t) h j d)) i e
  simp only [read0, read1, read2, read4, read5, read6] at hp
  exact heads_block (fun h i e => gateRow (mixRow (f (bat t) h) (headLanes (m ((c : Thread nD τ).loc main_arg0)) (bat t) h) (headLanes (m ((c : Thread nD τ).loc main_arg1)) (bat t) h)
    (headWide (m ((c : Thread nD τ).loc main_arg2)) (bat t) h) (headState (m ((c : Thread nD τ).loc main_arg6)) (bat t) h) i) (headScale (m ((c : Thread nD τ).loc main_arg5)) h)
    (headWide (m ((c : Thread nD τ).loc main_arg4)) (bat t) h i) e) _ _ _ _ (hp 0 0 0 0 rfl rfl rfl _ _ _ _) (hp 1 128 256 1 rfl rfl rfl _ _ _ _) (hp 2 256 512 2 rfl rfl rfl _ _ _ _)
    (hp 3 384 768 3 rfl rfl rfl _ _ _ _) h i e

theorem state_point (t : Fin cfg0.N) (h : Fin 4) (d : Fin 128) (e : Fin 256) :
    (outsAt0 m c t).2 (ix4 0 h d e) = goalState m c (ix4 (bat t) h d e) := by
  refine Eq.trans ?_ (state_ref _ _ _ _ f hf (bat t) h d e).symm
  rw [(outs_eq m c t _ _ _ _ _ _ _ rfl rfl rfl rfl rfl rfl rfl).2]
  have hp (h : Fin 4) (a o n : ℕ) (ha : a = h.val * 128) (ho : o = h.val * 256) (hn : n = h.val) (ia io is) (d : Fin 128) (e : Fin 256) :=
    state_head (iblk m c 1 t) (iblk m c 2 t) (iblk m c 3 t) (iblk m c 6 t) h a o n ha ho hn ia io is
      (f (bat t) h) (fun j d => (read3 m c t j _).trans (hf (bat t) h j d)) d e
  simp only [read1, read2, read6] at hp
  exact states_block (fun h d e => nextState (f (bat t) h) (headLanes (m ((c : Thread nD τ).loc main_arg1)) (bat t) h) (headWide (m ((c : Thread nD τ).loc main_arg2)) (bat t) h)
    (headState (m ((c : Thread nD τ).loc main_arg6)) (bat t) h) d e) _ _ _ _ _ (hp 0 0 0 0 rfl rfl rfl _ _ _) (hp 1 128 256 1 rfl rfl rfl _ _ _) (hp 2 256 512 2 rfl rfl rfl _ _ _)
    (hp 3 384 768 3 rfl rfl rfl _ _ _) h d e

/-- The output array is the reference's. -/
theorem finalOut : (dats m 0 c).arrAt 7 (cfgs 0).N = goalOut m c := by
  refine (dats m 0 c).arrAt_eq_of_covers 7 _ (by decide +kernel) fun t _ y => ?_
  obtain ⟨b, i, x, rfl⟩ : ∃ (b : Fin 1) (i : Fin 64) (x : Fin 1024), y = ix3 b i x := ⟨y 0, y 1, y 2, eq_ix3 y⟩
  obtain ⟨h, e, rfl⟩ : ∃ (h : Fin 4) (e : Fin 256), x = wide h e :=
    ⟨⟨x.val / 256, by omega⟩, ⟨x.val % 256, by omega⟩, Fin.ext (by show x.val = x.val / 256 * 256 + x.val % 256; omega)⟩
  obtain rfl : b = 0 := Subsingleton.elim _ _
  have he : (((cfg0.win 7).blk t).view.emb (ix3 (0 : Fin 1) i (wide h e))) = ix3 (bat t) i (wide h e) := by
    blk_ext [(idx t).2.2.2.2.2.2.2.1]
  rw [he, ← out_point m c f hf t]
  blk_simp
  rw [after0_7]

/-- The state array is the reference's. -/
theorem finalState : (dats m 0 c).arrAt 8 (cfgs 0).N = goalState m c := by
  refine (dats m 0 c).arrAt_eq_of_covers 8 _ (by decide +kernel) fun t _ y => ?_
  obtain ⟨b, h, d, e, rfl⟩ : ∃ (b : Fin 1) (h : Fin 4) (d : Fin 128) (e : Fin 256), y = ix4 b h d e := ⟨y 0, y 1, y 2, y 3, eq_ix4 y⟩
  obtain rfl : b = 0 := Subsingleton.elim _ _
  have he : (((cfg0.win 8).blk t).view.emb (ix4 (0 : Fin 1) h d e)) = ix4 (bat t) h d e := by
    blk_ext [(idx t).2.2.2.2.2.2.2.2.1]
  rw [he, ← state_point m c f hf t]
  blk_simp
  rw [after0_8]

end

end Cert.GlaIdeal.Hand

namespace Cert.Proof

/-- Under real log gates the kernel and the reference end with the same output and the same state. -/
theorem gla_algebraic : Cert.algebraic_GlaIdeal_GlaRefIdeal_pre_finite_gate
    (hGlaIdeal := Cert.GlaIdeal.Gen.facts) (hGlaRefIdeal := Cert.GlaRefIdeal.Gen.facts) (hPre_finite_gate := Cert.Pre_finite_gate.Gen.facts) := by
  pair_intro
  · run_from Cert.GlaIdeal.Value.run_blocks m g
  · run_from Cert.GlaRefIdeal.Value.run m' g'
    · obtain ⟨f, hf⟩ := Cert.GlaIdeal.Hand.gates_real _ _ _ _ _ _ _ (hpre c)
      obtain ⟨a0, a1, a2, a3, a4, a5, a6⟩ := hagree c
      refine (Cert.GlaRefIdeal.Read.val_main_v67_eq m' c).trans (Eq.trans ?_ (Cert.GlaIdeal.Hand.finalOut m c f hf).symm)
      unfold Cert.GlaIdeal.Hand.goalOut
      rw [← a0, ← a1, ← a2, ← a3, ← a4, ← a5, ← a6]
    · obtain ⟨f, hf⟩ := Cert.GlaIdeal.Hand.gates_real _ _ _ _ _ _ _ (hpre c)
      refine Eq.trans ?_ (Cert.GlaIdeal.Hand.finalState m c f hf).symm
      unfold Cert.GlaIdeal.Hand.goalState
      exact Cert.GlaRefIdeal.Read.val_main_v40_eq _ _ _ _

end Cert.Proof

end
-- ==== Proof.FfnValue.lean ====
/-
  Hand-written, untrusted. The value of the feed-forward block with its post-norm (`FfnIdeal`): a grid of 64 row blocks by
  11 column blocks of the inner dimension. Each point adds the product of its gated block with its rows of the down
  projection into the output's buffer; the last point of a row block adds the residual and takes the layer norm. The one
  difference from the reference is that the sum over the inner dimension is taken in 11 runs of 512.
-/
module

public import proofs.«01_k».proof.Defs
public import proofs.«01_k».proof.Proof.Gen.FfnIdeal.Value
public import proofs.«01_k».proof.Proof.Gen.FfnRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen

/-- Inner column `K` of the gated activation of one row `x`. -/
def gated (x : Fin 2048 → EReal) (wg wu : FVec Ideal S2048x5632 .f32) (K : Fin 5632) : EReal :=
  (∑ q : Fin 2048, x q * wg (ix2 q K)) * Ideal.logistic (∑ q : Fin 2048, x q * wg (ix2 q K))
    * ∑ q : Fin 2048, x q * wu (ix2 q K)

/-- The mean of a row. -/
def meanRow (h : Fin 2048 → EReal) : EReal := Ideal.div (∑ q, h q) (Ideal.ofBits .f32 0x45000000#32)

/-- The layer norm of one row. -/
def normRow (h g b : Fin 2048 → EReal) (C : Fin 2048) : EReal :=
  (h C - meanRow h) * Ideal.rsqrt (meanRow (fun q => (h q - meanRow h) * (h q - meanRow h)) + Ideal.ofBits .f32 0x3727C5AC#32)
    * g C + b C

/-- The residual sum at one entry, over the block's own sum `s`. -/
def resid (x s : EReal) : EReal := Ideal.ofBits .f32 0x3F9837F0#32 * x + Ideal.ofBits .f32 0x3F000000#32 * s

/-- One term of the sum over the inner dimension. -/
def cell (x : Fin 2048 → EReal) (wg wu : FVec Ideal S2048x5632 .f32) (wd : FVec Ideal S5632x2048 .f32)
    (C : Fin 2048) (K : Fin 5632) : EReal := gated x wg wu K * wd (ix2 K C)

/-- The same, at any natural number, zero past the last column. -/
def cellN (x : Fin 2048 → EReal) (wg wu : FVec Ideal S2048x5632 .f32) (wd : FVec Ideal S5632x2048 .f32)
    (C : Fin 2048) (K : ℕ) : EReal := if h : K < 5632 then cell x wg wu wd C ⟨K, h⟩ else 0

/-- Eleven runs of 512 are the whole sum. -/
theorem sum_cells (x : Fin 2048 → EReal) (wg wu : FVec Ideal S2048x5632 .f32) (wd : FVec Ideal S5632x2048 .f32) (C : Fin 2048) :
    ∑ s ∈ Finset.range 11, ∑ k : Fin 512, cellN x wg wu wd C (s * 512 + k.val) = ∑ K, cell x wg wu wd C K := by
  rw [← Fin.sum_univ_eq_sum_range (fun s => ∑ k : Fin 512, cellN x wg wu wd C (s * 512 + k.val)) 11,
    Fin.sum_univ_univ_mul_add 11 512 (cellN x wg wu wd C)]
  exact Finset.sum_congr rfl fun K _ => dif_pos K.isLt

variable (m : (ℓ : Loc nD τ sig) → Buf (Elt Ideal) ℓ)

theorem idx : ∀ t : Fin cfg0.N, win0_0.index t = ![t.val / 11, 0] ∧ win0_1.index t = ![0, t.val % 11]
    ∧ win0_2.index t = ![0, t.val % 11] ∧ win0_3.index t = ![t.val % 11, 0] ∧ win0_4.index t = ![0, 0]
    ∧ win0_5.index t = ![0, 0] ∧ win0_6.index t = ![t.val / 11, 0] ∧ t.val < 704 :=
  (by decide +kernel : ∀ t : Fin grid0.N, _)

theorem pay3_apply (xb : FVec Ideal S512x2048 .bf16) (wg wu : FVec Ideal S2048x512 .bf16) (acc : FVec Ideal S512x2048 .f32)
    (wd : FVec Ideal S512x2048 .bf16) (r : Fin 512) (k : Fin 2048) :
    k0_pay3 xb wg wu acc wd (ix2 r k) = acc (ix2 r k)
      + ∑ x : Fin 512, ((∑ q : Fin 2048, xb (ix2 r q) * wg (ix2 q x)) * Ideal.logistic (∑ q : Fin 2048, xb (ix2 r q) * wg (ix2 q x))
          * ∑ q : Fin 2048, xb (ix2 r q) * wu (ix2 q x)) * wd (ix2 x k) := by
  pointwise [k0_pay3]

theorem pay4_apply (x acc : FVec Ideal S512x2048 .f32) (g b : FVec Ideal S1x2048 .f32) (r : Fin 512) (k : Fin 2048) :
    k0_pay4 (F := Ideal) x acc g b (ix2 r k) = normRow (fun q => resid (x (ix2 r q)) (acc (ix2 r q)))
      (fun q => g (ix2 0 q)) (fun q => b (ix2 0 q)) k := by
  pointwise [k0_pay4, normRow, meanRow, resid]

/-- One point's step on a row `x` of the input, its weights being columns `n` to `n + 511` of the inner dimension: the running sum and 512 further terms. -/
theorem pay3_cells (xb : FVec Ideal S512x2048 .bf16) (bg bu : FVec Ideal S2048x512 .bf16) (acc : FVec Ideal S512x2048 .f32) (bd : FVec Ideal S512x2048 .bf16)
    (x : Fin 2048 → EReal) (wg wu : FVec Ideal S2048x5632 .f32) (wd : FVec Ideal S5632x2048 .f32) (n : ℕ) (hn : ∀ k : Fin 512, n + k.val < 5632) (r : Fin 512) (C : Fin 2048)
    (hx : ∀ q, xb (ix2 r q) = x q) (hg : ∀ q k, bg (ix2 q k) = wg (ix2 q ⟨n + k.val, hn k⟩)) (hu : ∀ q k, bu (ix2 q k) = wu (ix2 q ⟨n + k.val, hn k⟩))
    (hd : ∀ k, bd (ix2 k C) = wd (ix2 ⟨n + k.val, hn k⟩ C)) :
    k0_pay3 xb bg bu acc bd (ix2 r C) = acc (ix2 r C) + ∑ k : Fin 512, cellN x wg wu wd C (n + k.val) := by
  rw [pay3_apply]
  congr 1
  refine Finset.sum_congr rfl fun k _ => ?_
  unfold cellN
  rw [dif_pos (hn k)]
  unfold cell gated
  simp only [hx, hg, hu, hd]

open Cert.FfnRefIdeal.Gen in
/-- The reference's residual sum, before the layer norm. -/
abbrev refSum (x : FVec Ideal S32768x2048 .f32) (wg wu : FVec Ideal S2048x5632 .f32) (wd : FVec Ideal S5632x2048 .f32) :
    FVec Ideal S32768x2048 .f32 :=
  addf (mulf (broadcastInDim S32768x2048 ![] bcast_S_S32768x2048 (constant Cert.FfnRefIdeal.S_ .f32 0x3F9837F0#32)) x)
    (mulf (broadcastInDim S32768x2048 ![] bcast_S_S32768x2048 (constant Cert.FfnRefIdeal.S_ .f32 0x3F000000#32))
      (Host.dotGeneral Cert.FfnRefIdeal.dot_S32768x5632_S5632x2048_S32768x2048_1_0_0_1_n_n none
        (mulf (mulf (Host.dotGeneral Cert.FfnRefIdeal.dot_S32768x2048_S2048x5632_S32768x5632_1_0_0_1_n_n none x wg)
          (Host.divf (broadcastInDim Cert.FfnRefIdeal.S32768x5632 ![] bcast_S_S32768x5632 (constant Cert.FfnRefIdeal.S_ .f32 0x3F800000#32))
            (addf (broadcastInDim Cert.FfnRefIdeal.S32768x5632 ![] bcast_S_S32768x5632 (constant Cert.FfnRefIdeal.S_ .f32 0x3F800000#32))
              (Host.exp (Host.negf (Host.dotGeneral Cert.FfnRefIdeal.dot_S32768x2048_S2048x5632_S32768x5632_1_0_0_1_n_n none x wg))))))
          (Host.dotGeneral Cert.FfnRefIdeal.dot_S32768x2048_S2048x5632_S32768x5632_1_0_0_1_n_n none x wu)) wd))

open Cert.FfnRefIdeal.Gen in
/-- The reference's mean over each row. -/
abbrev refMean (h : FVec Ideal S32768x2048 .f32) : FVec Ideal Cert.FfnRefIdeal.S32768x1 .f32 :=
  Host.divf (broadcastInDim Cert.FfnRefIdeal.S32768x1 ![0] bcast_S32768_S32768x1_0
    (Host.reduceAdd h (constant Cert.FfnRefIdeal.S_ .f32 0x00000000#32) reducesTo_S32768x2048_S32768_d1 h_S_))
    (broadcastInDim Cert.FfnRefIdeal.S32768x1 ![] bcast_S_S32768x1 (constant Cert.FfnRefIdeal.S_ .f32 0x45000000#32))

open Cert.FfnRefIdeal.Gen in
/-- A row less its mean. -/
abbrev refDiff (h : FVec Ideal S32768x2048 .f32) : FVec Ideal S32768x2048 .f32 :=
  subf h (broadcastInDim S32768x2048 ![0, 1] bcast_S32768x1_S32768x2048_0_1 (refMean h))

open Cert.FfnRefIdeal.Gen in
/-- The reference's layer norm. -/
abbrev refNorm (h : FVec Ideal S32768x2048 .f32) (g b : FVec Ideal S2048 .f32) : FVec Ideal S32768x2048 .f32 :=
  addf (mulf (mulf (refDiff h) (broadcastInDim S32768x2048 ![0, 1] bcast_S32768x1_S32768x2048_0_1
      (Host.rsqrt (addf (refMean (mulf (refDiff h) (refDiff h)))
        (broadcastInDim Cert.FfnRefIdeal.S32768x1 ![] bcast_S_S32768x1 (constant Cert.FfnRefIdeal.S_ .f32 0x3727C5AC#32))))))
    (broadcastInDim S32768x2048 ![0, 1] bcast_S1x2048_S32768x2048_0_1 (broadcastInDim S1x2048 ![1] bcast_S2048_S1x2048_1 g)))
    (broadcastInDim S32768x2048 ![0, 1] bcast_S1x2048_S32768x2048_0_1 (broadcastInDim S1x2048 ![1] bcast_S2048_S1x2048_1 b))

theorem refNorm_apply (h : FVec Ideal S32768x2048 .f32) (g b : FVec Ideal S2048 .f32) (R : Fin 32768) (C : Fin 2048) :
    refNorm h g b (ix2 R C) = normRow (fun q => h (ix2 R q)) (fun q => g (ix1 q)) (fun q => b (ix1 q)) C := by
  pointwise [normRow, meanRow]

theorem refSum_apply (x : FVec Ideal S32768x2048 .f32) (wg wu : FVec Ideal S2048x5632 .f32) (wd : FVec Ideal S5632x2048 .f32)
    (R : Fin 32768) (C : Fin 2048) :
    refSum x wg wu wd (ix2 R C) = resid (x (ix2 R C)) (∑ K, cell (fun q => x (ix2 R q)) wg wu wd C K) := by
  pointwise [resid, cell, gated, Ideal.logistic]

/-- The reference's result is the layer norm of the residual sum. -/
theorem ref_eq (c : Dev Cert.FfnRefIdeal.nD)
    (m' : (ℓ : Loc Cert.FfnRefIdeal.nD Cert.FfnRefIdeal.τ Cert.FfnRefIdeal.sig) → Buf (Elt Ideal) ℓ) :
    Cert.FfnRefIdeal.Value.res_main_v33 m' c
      = refNorm (refSum (m' (c.tc.loc Cert.FfnRefIdeal.main_arg0)) (m' (c.tc.loc Cert.FfnRefIdeal.main_arg1))
          (m' (c.tc.loc Cert.FfnRefIdeal.main_arg2)) (m' (c.tc.loc Cert.FfnRefIdeal.main_arg3)))
          (m' (c.tc.loc Cert.FfnRefIdeal.main_arg4)) (m' (c.tc.loc Cert.FfnRefIdeal.main_arg5)) := rfl

/-! The six windows' blocks, read at an entry. -/

/-- The row of the whole array that row `r` of point `t`'s block is. -/
abbrev row (t : Fin cfg0.N) (r : Fin 512) : Fin 32768 := ⟨t.val / 11 * 512 + r.val, by have := (idx t).2.2.2.2.2.2.2; omega⟩

/-- The inner column that column `k` of point `t`'s block is. -/
abbrev col (t : Fin cfg0.N) (k : Fin 512) : Fin 5632 := ⟨t.val % 11 * 512 + k.val, by omega⟩

theorem read0 (c : Dev nD) (t : Fin cfg0.N) (r : Fin 512) (q : Fin 2048) : (iblk m c 0 t : FVec Ideal S512x2048 .f32) (ix2 r q)
    = (m ((c : Thread nD τ).loc main_arg0) : FVec Ideal S32768x2048 .f32) (ix2 (row t r) q) := by
  blk_ext [iblk, V, (idx t).1]

theorem read1 (c : Dev nD) (t : Fin cfg0.N) (q : Fin 2048) (k : Fin 512) : (iblk m c 1 t : FVec Ideal S2048x512 .bf16) (ix2 q k)
    = (m ((c : Thread nD τ).loc main_arg1) : FVec Ideal S2048x5632 .f32) (ix2 q (col t k)) := by
  blk_simp [iblk, (idx t).2.1]
  entry_read
  pointwise
  blk_ext [(idx t).2.1]

theorem read2 (c : Dev nD) (t : Fin cfg0.N) (q : Fin 2048) (k : Fin 512) : (iblk m c 2 t : FVec Ideal S2048x512 .bf16) (ix2 q k)
    = (m ((c : Thread nD τ).loc main_arg2) : FVec Ideal S2048x5632 .f32) (ix2 q (col t k)) := by
  blk_simp [iblk, (idx t).2.2.1]
  entry_read
  pointwise
  blk_ext [(idx t).2.2.1]

theorem read3 (c : Dev nD) (t : Fin cfg0.N) (k : Fin 512) (q : Fin 2048) : (iblk m c 3 t : FVec Ideal S512x2048 .bf16) (ix2 k q)
    = (m ((c : Thread nD τ).loc main_arg3) : FVec Ideal S5632x2048 .f32) (ix2 (col t k) q) := by
  blk_simp [iblk, (idx t).2.2.2.1]
  entry_read
  pointwise
  blk_ext [(idx t).2.2.2.1]

theorem read4 (c : Dev nD) (t : Fin cfg0.N) (q : Fin 2048) : (iblk m c 4 t : FVec Ideal S1x2048 .f32) (ix2 0 q)
    = (m ((c : Thread nD τ).loc main_arg4) : FVec Ideal S2048 .f32) (ix1 q) := by
  blk_simp [iblk, (idx t).2.2.2.2.1]
  entry_read
  pointwise
  blk_ext [(idx t).2.2.2.2.1]

theorem read5 (c : Dev nD) (t : Fin cfg0.N) (q : Fin 2048) : (iblk m c 5 t : FVec Ideal S1x2048 .f32) (ix2 0 q)
    = (m ((c : Thread nD τ).loc main_arg5) : FVec Ideal S2048 .f32) (ix1 q) := by
  blk_simp [iblk, (idx t).2.2.2.2.2.1]
  entry_read
  pointwise
  blk_ext [(idx t).2.2.2.2.2.1]

/-! What the three kinds of points leave. -/

theorem outA (c : Dev nD) (t : Fin cfg0.N) (h0 : t.val % 11 = 0) (h1 : ¬t.val % 11 = 10) :
    outsAt0 m c t.val t.isLt = (k0_pay3 (k0_pay1 (iblk m c 0 t)) (iblk m c 1 t) (iblk m c 2 t) (k0_pay2 (F := Ideal)) (iblk m c 3 t), k0_pay1 (iblk m c 0 t)) := by
  rw [outsAt0_A m c t h0 h1]
  frame_out
  try unfold sout0_A_0
  try unfold sout0_B_0
  try frame_out

theorem outB (c : Dev nD) (t : Fin cfg0.N) (h0 : ¬t.val % 11 = 0) (h1 : ¬t.val % 11 = 10) (A : Vec Ideal S512x2048 .f32) (B : Vec Ideal S512x2048 .bf16)
    (hp : outsAt0 m c (t.val - 1) (Nat.lt_of_le_of_lt (Nat.sub_le _ _) t.isLt) = (A, B)) :
    outsAt0 m c t.val t.isLt = (k0_pay3 B (iblk m c 1 t) (iblk m c 2 t) A (iblk m c 3 t), B) := by
  rw [outsAt0_B m c t h0 h1, hp]
  frame_out
  try unfold sout0_A_0
  try unfold sout0_B_0
  try frame_out
  simp only [read_unread_whole]

theorem outC (c : Dev nD) (t : Fin cfg0.N) (h0 : ¬t.val % 11 = 0) (h1 : t.val % 11 = 10) (A : Vec Ideal S512x2048 .f32) (B : Vec Ideal S512x2048 .bf16)
    (hp : outsAt0 m c (t.val - 1) (Nat.lt_of_le_of_lt (Nat.sub_le _ _) t.isLt) = (A, B)) :
    (outsAt0 m c t.val t.isLt).1 = k0_pay4 (iblk m c 0 t) (k0_pay3 B (iblk m c 1 t) (iblk m c 2 t) A (iblk m c 3 t)) (iblk m c 4 t) (iblk m c 5 t) := by
  rw [outsAt0_C m c t h0 h1, hp]
  frame_out
  try unfold sout0_A_0
  try unfold sout0_B_0
  try frame_out
  simp only [read_unread_whole]

/-- One point's step: the running sum and 512 further terms. -/
theorem step (c : Dev nD) (t : Fin cfg0.N) (xb : FVec Ideal S512x2048 .bf16) (acc : FVec Ideal S512x2048 .f32) (r : Fin 512) (C : Fin 2048)
    (hx : ∀ q, xb (ix2 r q) = (m ((c : Thread nD τ).loc main_arg0) : FVec Ideal S32768x2048 .f32) (ix2 (row t r) q)) :
    k0_pay3 xb (iblk m c 1 t) (iblk m c 2 t) acc (iblk m c 3 t) (ix2 r C) = acc (ix2 r C)
      + ∑ k : Fin 512, cellN (fun q => (m ((c : Thread nD τ).loc main_arg0) : FVec Ideal S32768x2048 .f32) (ix2 (row t r) q)) (m ((c : Thread nD τ).loc main_arg1)) (m ((c : Thread nD τ).loc main_arg2))
          (m ((c : Thread nD τ).loc main_arg3)) C (t.val % 11 * 512 + k.val) := by
  exact pay3_cells xb _ _ acc _ (fun q => (m ((c : Thread nD τ).loc main_arg0) : FVec Ideal S32768x2048 .f32) (ix2 (row t r) q)) _ _ _ (t.val % 11 * 512)
    (fun k => (col t k).isLt) r C hx (read1 m c t) (read2 m c t) fun k => read3 m c t k C

/-- The held block: the rows of the input, at every point of a run but the last; and the running sum of the terms so far. -/
theorem held (c : Dev nD) : ∀ (j : ℕ) (t : Fin cfg0.N), t.val % 11 = j → j < 10 →
    (∀ r q, (outsAt0 m c t.val t.isLt).2 (ix2 r q) = (m ((c : Thread nD τ).loc main_arg0) : FVec Ideal S32768x2048 .f32) (ix2 (row t r) q))
    ∧ ∀ r C, (outsAt0 m c t.val t.isLt).1 (ix2 r C) = ∑ s ∈ Finset.range (j + 1), ∑ k : Fin 512,
        cellN (fun q => (m ((c : Thread nD τ).loc main_arg0) : FVec Ideal S32768x2048 .f32) (ix2 (row t r) q)) (m ((c : Thread nD τ).loc main_arg1)) (m ((c : Thread nD τ).loc main_arg2))
          (m ((c : Thread nD τ).loc main_arg3)) C (s * 512 + k.val)
  | 0, t, h0, _ => by
    have hx : ∀ r q, k0_pay1 (F := Ideal) (iblk m c 0 t) (ix2 r q)
        = (m ((c : Thread nD τ).loc main_arg0) : FVec Ideal S32768x2048 .f32) (ix2 (row t r) q) := fun r q => by
      pointwise [k0_pay1]; exact read0 m c t r q
    rw [outA m c t h0 (by omega)]
    refine ⟨hx, fun r C => ?_⟩
    dsimp only
    rw [step m c t _ _ r C (hx r), h0, Finset.sum_range_one]
    pointwise [k0_pay2]
  | j + 1, t, hj, hl => by
    have ht : t.val - 1 < cfg0.N := Nat.lt_of_le_of_lt (Nat.sub_le _ _) t.isLt
    obtain ⟨hx, hs⟩ := held c j ⟨t.val - 1, ht⟩ (by dsimp only; omega) (by omega)
    have hrow : ∀ r, row ⟨t.val - 1, ht⟩ r = row t r := fun r => Fin.ext (by dsimp only; omega)
    simp only [hrow] at hx hs
    rw [outB m c t (by omega) (by omega) _ _ rfl]
    refine ⟨hx, fun r C => ?_⟩
    dsimp only
    rw [step m c t _ _ r C (hx r), hs, hj, Finset.sum_range_succ _ (j + 1)]

/-- What the last point of a run leaves at `y` is the reference's entry at the array index where `y` lies. -/
theorem point (c : Dev nD) (t : Fin cfg0.N) (hf : t.val % 11 = 10) (r : Fin 512) (C : Fin 2048) :
    (outsAt0 m c t.val t.isLt).1 (ix2 r C)
      = refNorm (refSum (m ((c : Thread nD τ).loc main_arg0)) (m ((c : Thread nD τ).loc main_arg1)) (m ((c : Thread nD τ).loc main_arg2))
          (m ((c : Thread nD τ).loc main_arg3))) (m ((c : Thread nD τ).loc main_arg4)) (m ((c : Thread nD τ).loc main_arg5)) (ix2 (row t r) C) := by
  have ht : t.val - 1 < cfg0.N := Nat.lt_of_le_of_lt (Nat.sub_le _ _) t.isLt
  obtain ⟨hx, hs⟩ := held m c 9 ⟨t.val - 1, ht⟩ (by dsimp only; omega) (by omega)
  have hrow : ∀ r, row ⟨t.val - 1, ht⟩ r = row t r := fun r => Fin.ext (by dsimp only; omega)
  simp only [hrow] at hx hs
  rw [outC m c t (by omega) hf _ _ rfl, pay4_apply, refNorm_apply]
  simp only [refSum_apply, read0, read4, read5]
  congr 1
  funext q
  rw [step m c t _ _ r q (hx r), hs, hf, ← Finset.sum_range_succ, sum_cells]

/-- The result array is the reference's term. -/
theorem final (c : Dev nD) : (dats m 0 c).arrAt 6 (cfgs 0).N
    = refNorm (refSum (m ((c : Thread nD τ).loc main_arg0)) (m ((c : Thread nD τ).loc main_arg1)) (m ((c : Thread nD τ).loc main_arg2))
          (m ((c : Thread nD τ).loc main_arg3))) (m ((c : Thread nD τ).loc main_arg4)) (m ((c : Thread nD τ).loc main_arg5)) := by
  refine (dats m 0 c).arrAt_eq_of_covers 6 _ (by decide +kernel) fun t hf y => ?_
  have hm : t.val % 11 = 10 := (flush0_6 t).mp hf
  obtain ⟨r, C, rfl⟩ : ∃ (r : Fin 512) (C : Fin 2048), y = ix2 r C := ⟨y 0, y 1, eq_ix2 y⟩
  have he : (((cfg0.win 6).blk t).view.emb (ix2 r C)) = ix2 (row t r) C := by
    blk_ext [(idx t).2.2.2.2.2.2.1]
  rw [he, ← point m c t hm]
  blk_simp
  rw [after0_6]

end Cert.FfnIdeal.Hand

namespace Cert.Proof

/-- The kernel and the reference end with the same array. -/
theorem ffn_algebraic : Cert.algebraic_FfnIdeal_FfnRefIdeal
    (hFfnIdeal := Cert.FfnIdeal.Gen.facts) (hFfnRefIdeal := Cert.FfnRefIdeal.Gen.facts) := by
  pair_intro
  · run_from Cert.FfnIdeal.Value.run_blocks m g
  · run_from Cert.FfnRefIdeal.Value.run m' g'
    obtain ⟨a0, a1, a2, a3, a4, a5⟩ := hagree c
    refine ((Cert.FfnIdeal.Hand.ref_eq c m').trans ?_).trans (Cert.FfnIdeal.Hand.final m c).symm
    rw [a0, a1, a2, a3, a4, a5]

end Cert.Proof

end
-- ==== Proof.MemKvValue.lean ====
/-
  Hand-written, untrusted. The value of the product of the memory rows with the two weight matrices set side by side
  (`MemKvIdeal`): two grid points, each writing its own 256 rows. The reference takes the two products apart and sets
  the results side by side; the two agree entry by entry, with the same sum on both sides.
-/
module

public import proofs.«01_k».proof.Defs
public import proofs.«01_k».proof.Proof.Gen.MemKvIdeal.Value
public import proofs.«01_k».proof.Proof.Gen.MemKvRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemKvIdeal.Hand

open Cert.MemKvIdeal Cert.MemKvIdeal.Gen

variable (m : (ℓ : Loc nD τ sig) → Buf (Elt Ideal) ℓ)

/-- The reference's term over the three arguments. -/
abbrev REF (x : FVec Ideal S2x256x2048 .f32) (wk wv : FVec Ideal S2048x512 .f32) : FVec Ideal S512x1024 .f32 :=
  shapeCast S512x1024 (concatenate Cert.MemKvRefIdeal.S2x256x1024 2
    [⟨Cert.MemKvRefIdeal.S2x256x512, Host.dotGeneral Cert.MemKvRefIdeal.dot_S2x256x2048_S2048x512_S2x256x512_2_0_01_1_n_n none x wk⟩,
     ⟨Cert.MemKvRefIdeal.S2x256x512, Host.dotGeneral Cert.MemKvRefIdeal.dot_S2x256x2048_S2048x512_S2x256x512_2_0_01_1_n_n none x wv⟩]
    Cert.MemKvRefIdeal.Gen.concatenates_S2x256x512_S2x256x512_S2x256x1024_d2)
    Cert.MemKvRefIdeal.Gen.shapeCasts_S2x256x1024_S512x1024

theorem idx : ∀ t : Fin cfg0.N, win0_0.index t = ![t.val, 0] ∧ win0_1.index t = ![0, 0] ∧ win0_2.index t = ![t.val, 0] :=
  (by decide +kernel : ∀ t : Fin grid0.N, _)

/-- Row `r` of point `t`'s block of memory rows. -/
theorem read0 (c : Dev nD) (t : Fin cfg0.N) (r : Fin 256) (x : Fin 2048) :
    (iblk m c 0 t : FVec Ideal S256x2048 .f32) (ix2 r x)
      = (m ((c : Thread nD τ).loc main_arg0) : FVec Ideal S2x256x2048 .f32) (ix3 ⟨t.val, lt_of_lt_of_eq t.isLt N_0⟩ r x) := by
  blk_simp [iblk, (idx t).1]
  entry_read
  pointwise
  blk_ext [(idx t).1]

/-- The two weight matrices side by side. -/
theorem read1 (c : Dev nD) (t : Fin cfg0.N) (x : Fin 2048) (k : Fin 1024) :
    (iblk m c 1 t : FVec Ideal S2048x1024 .bf16) (ix2 x k)
      = if h : k.val < 512 then (m ((c : Thread nD τ).loc main_arg1) : FVec Ideal S2048x512 .f32) (ix2 x ⟨k.val, h⟩)
        else (m ((c : Thread nD τ).loc main_arg2) : FVec Ideal S2048x512 .f32) (ix2 x ⟨k.val - 512, by omega⟩) := by
  blk_simp [iblk, (idx t).2.1]
  entry_read
  pointwise
  have h := (idx t).2.1
  split <;> rename_i hs <;> blk_simp [h] at hs
  · rw [dif_pos (by omega)]
    blk_ext [h]
  · rw [dif_neg (by omega)]
    blk_ext [h]

/-- What point `t` stores at `y` is the reference's entry at row `256 t + y 0` and the same column. -/
theorem point (c : Dev nD) (t : Fin cfg0.N) (y : S256x1024.Idx) (i : S512x1024.Idx)
    (h0 : (i 0).val = t.val * 256 + (y 0).val) (h1 : (i 1).val = (y 1).val) :
    k0_pay1 (iblk m c 0 t) (iblk m c 1 t) y
      = REF (m ((c : Thread nD τ).loc main_arg0)) (m ((c : Thread nD τ).loc main_arg1)) (m ((c : Thread nD τ).loc main_arg2)) i := by
  idx_vars y
  idx_vars i
  pointwise [k0_pay1, REF]
  simp only [read0, read1]
  obtain rfl : i1 = y1 := Fin.ext h1
  have ht : t.val < 2 := lt_of_lt_of_eq t.isLt N_0
  split <;> refine Finset.sum_congr rfl fun x _ => ?_ <;> congr 2 <;> blk_ext []

theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]; frame_out
  refine point m c t y _ ?_ ?_ <;> blk_simp [(idx t).2.2]

end Cert.MemKvIdeal.Hand

namespace Cert.Proof

/-- The kernel and the reference end with the same array. -/
theorem memkv_algebraic : Cert.algebraic_MemKvIdeal_MemKvRefIdeal
    (hMemKvIdeal := Cert.MemKvIdeal.Gen.facts) (hMemKvRefIdeal := Cert.MemKvRefIdeal.Gen.facts) := by
  pair_intro
  · run_from Cert.MemKvIdeal.Value.run_blocks m g
  · run_from Cert.MemKvRefIdeal.Value.run m' g'
    exact (congrArg (fun w => Cert.MemKvIdeal.Hand.REF _ _ w) (hagree c).2.2).trans (Cert.MemKvIdeal.Hand.final m c).symm

end Cert.Proof

end
-- ==== Proof.ProjAttnValue.lean ====
/-
  Hand-written, untrusted. The six products of the attention half of the input projection (`ProjAttnIdeal`). Each point takes 512 rows
  of the input and the whole of each weight. The small block joins the indexer key, the indexer head weights and the low-rank gate input and fills up
  with zeros; the second gate weight is set into a zero matrix at the rows of the low-rank part, so its product with the whole small block is the
  reference's sum over the rank.
-/
module

public import proofs.«01_k».proof.Defs
public import proofs.«01_k».proof.Proof.Gen.ProjAttnIdeal.Value
public import proofs.«01_k».proof.Proof.Gen.ProjAttnRefIdeal.Run
public import proofs.«01_k».proof.Proof.Gen.ProjAttnRefIdeal.Read
public import Idealize.ShloMosaic.Lib.Routing.OpsOrder
public import Idealize.ShloMosaic.Lib.Routing.OpsPair
public import Idealize.ShloMosaic.Lib.Routing.OpsSet
public import Idealize.ShloMosaic.Lib.StableHlo.RunRead
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjAttnIdeal.Hand

open Cert.ProjAttnIdeal Cert.ProjAttnIdeal.Gen

variable (m : (ℓ : Loc nD τ sig) → Buf (Elt Ideal) ℓ)

/-- The reference's whole product. -/
abbrev whole (x : FVec Ideal S32768x2048 .f32) (w : FVec Ideal S2048x5728 .f32) : FVec Ideal Cert.ProjAttnRefIdeal.S32768x5728 .f32 :=
  Host.dotGeneral Cert.ProjAttnRefIdeal.dot_S32768x2048_S2048x5728_S32768x5728_1_0_0_1_n_n none x w

/-- The reference's results. -/
abbrev refQ (x : FVec Ideal S32768x2048 .f32) (w : FVec Ideal S2048x5728 .f32) : FVec Ideal S32768x1024 .bf16 :=
  truncf .bf16 (mulf (extractStridedSlice S32768x1024 ![0, 0] (whole x w) Cert.ProjAttnRefIdeal.Gen.slices_S32768x5728_S32768x1024_0_0)
    (broadcastInDim S32768x1024 ![] Cert.ProjAttnRefIdeal.Gen.bcast_S_S32768x1024 (constant Cert.ProjAttnRefIdeal.S_ .f32 0x3E0293EE#32)))
    Cert.ProjAttnRefIdeal.Gen.bitsLt_bf16_f32
abbrev refK (x : FVec Ideal S32768x2048 .f32) (w : FVec Ideal S2048x5728 .f32) : FVec Ideal S32768x256 .f32 :=
  extractStridedSlice S32768x256 ![0, 1024] (whole x w) Cert.ProjAttnRefIdeal.Gen.slices_S32768x5728_S32768x256_0_1024
abbrev refV (x : FVec Ideal S32768x2048 .f32) (w : FVec Ideal S2048x5728 .f32) : FVec Ideal S32768x256 .f32 :=
  extractStridedSlice S32768x256 ![0, 1280] (whole x w) Cert.ProjAttnRefIdeal.Gen.slices_S32768x5728_S32768x256_0_1280
abbrev refI (x : FVec Ideal S32768x2048 .f32) (w : FVec Ideal S2048x5728 .f32) : FVec Ideal S32768x1024 .bf16 :=
  truncf .bf16 (extractStridedSlice S32768x1024 ![0, 1536] (whole x w) Cert.ProjAttnRefIdeal.Gen.slices_S32768x5728_S32768x1024_0_1536)
    Cert.ProjAttnRefIdeal.Gen.bitsLt_bf16_f32

theorem idx : ∀ t : Fin cfg0.N, (win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0])
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ t.val < 64 :=
  (by decide +kernel : ∀ t : Fin grid0.N, _)

/-- The row of the whole array that row `r` of point `t`'s block is. -/
abbrev row (t : Fin cfg0.N) (r : Fin 512) : Fin 32768 := ⟨t.val * 512 + r.val, by have := (idx t).2.2.2.2.2.2.2; omega⟩

theorem read0 (c : Dev nD) (t : Fin cfg0.N) (r : Fin 512) (q : Fin 2048) : (iblk m c 0 t : FVec Ideal S512x2048 .f32) (ix2 r q)
    = (m ((c : Thread nD τ).loc main_arg0) : FVec Ideal S32768x2048 .f32) (ix2 (row t r) q) := by
  blk_ext [iblk, V, (idx t).1.1]

theorem read1 (c : Dev nD) (t : Fin cfg0.N) (q : Fin 2048) (k : Fin 1024) : (iblk m c 1 t : FVec Ideal S2048x1024 .bf16) (ix2 q k)
    = (m ((c : Thread nD τ).loc main_arg1) : FVec Ideal S2048x5728 .f32) (ix2 q ⟨0 + k.val, by omega⟩) := by
  blk_simp [iblk, (idx t).1.2.1]
  entry_read
  pointwise
  blk_ext [(idx t).1.2.1]

theorem pointQ (c : Dev nD) (t : Fin cfg0.N) (r : Fin 512) (k : Fin 1024) : k0_pay3 (F := Ideal) (iblk m c 0 t) (iblk m c 1 t) (ix2 r k)
    = refQ (m ((c : Thread nD τ).loc main_arg0)) (m ((c : Thread nD τ).loc main_arg1)) (ix2 (row t r) k) := by
  pointwise [k0_pay3, k0_pay2, refQ, whole]
  simp only [read0, read1, Nat.zero_add]

theorem finalQ (c : Dev nD) : (dats m 0 c).arrAt 8 (cfgs 0).N
    = refQ (m ((c : Thread nD τ).loc main_arg0)) (m ((c : Thread nD τ).loc main_arg1)) := by
  refine (dats m 0 c).arrAt_eq_of_covers 8 _ (by decide +kernel) fun t hf y => ?_
  obtain ⟨r, k, rfl⟩ : ∃ (r : Fin 512) (k : Fin 1024), y = ix2 r k := ⟨y 0, y 1, eq_ix2 y⟩
  have he : (((cfg0.win 8).blk t).view.emb (ix2 r k)) = ix2 (row t r) k := by
    blk_ext [(idx t).2.1]
  rw [he, ← pointQ m c t]
  blk_simp
  rw [after0_8]
  frame_out

theorem read2 (c : Dev nD) (t : Fin cfg0.N) (q : Fin 2048) (k : Fin 256) : (iblk m c 2 t : FVec Ideal S2048x256 .bf16) (ix2 q k)
    = (m ((c : Thread nD τ).loc main_arg1) : FVec Ideal S2048x5728 .f32) (ix2 q ⟨1024 + k.val, by omega⟩) := by
  blk_simp [iblk, (idx t).1.2.2.1]
  entry_read
  pointwise
  blk_ext [(idx t).1.2.2.1]

theorem pointK (c : Dev nD) (t : Fin cfg0.N) (r : Fin 512) (k : Fin 256) : k0_pay4 (F := Ideal) (iblk m c 0 t) (iblk m c 2 t) (ix2 r k)
    = refK (m ((c : Thread nD τ).loc main_arg0)) (m ((c : Thread nD τ).loc main_arg1)) (ix2 (row t r) k) := by
  pointwise [k0_pay4, k0_pay2, refK, whole]
  simp only [read0, read2, Nat.zero_add]

theorem finalK (c : Dev nD) : (dats m 0 c).arrAt 9 (cfgs 0).N
    = refK (m ((c : Thread nD τ).loc main_arg0)) (m ((c : Thread nD τ).loc main_arg1)) := by
  refine (dats m 0 c).arrAt_eq_of_covers 9 _ (by decide +kernel) fun t hf y => ?_
  obtain ⟨r, k, rfl⟩ : ∃ (r : Fin 512) (k : Fin 256), y = ix2 r k := ⟨y 0, y 1, eq_ix2 y⟩
  have he : (((cfg0.win 9).blk t).view.emb (ix2 r k)) = ix2 (row t r) k := by
    blk_ext [(idx t).2.2.1]
  rw [he, ← pointK m c t]
  blk_simp
  rw [after0_9]
  frame_out

theorem read3 (c : Dev nD) (t : Fin cfg0.N) (q : Fin 2048) (k : Fin 256) : (iblk m c 3 t : FVec Ideal S2048x256 .bf16) (ix2 q k)
    = (m ((c : Thread nD τ).loc main_arg1) : FVec Ideal S2048x5728 .f32) (ix2 q ⟨1280 + k.val, by omega⟩) := by
  blk_simp [iblk, (idx t).1.2.2.2.1]
  entry_read
  pointwise
  blk_ext [(idx t).1.2.2.2.1]

theorem pointV (c : Dev nD) (t : Fin cfg0.N) (r : Fin 512) (k : Fin 256) : k0_pay5 (F := Ideal) (iblk m c 0 t) (iblk m c 3 t) (ix2 r k)
    = refV (m ((c : Thread nD τ).loc main_arg0)) (m ((c : Thread nD τ).loc main_arg1)) (ix2 (row t r) k) := by
  pointwise [k0_pay5, k0_pay2, refV, whole]
  simp only [read0, read3, Nat.zero_add]

theorem finalV (c : Dev nD) : (dats m 0 c).arrAt 10 (cfgs 0).N
    = refV (m ((c : Thread nD τ).loc main_arg0)) (m ((c : Thread nD τ).loc main_arg1)) := by
  refine (dats m 0 c).arrAt_eq_of_covers 10 _ (by decide +kernel) fun t hf y => ?_
  obtain ⟨r, k, rfl⟩ : ∃ (r : Fin 512) (k : Fin 256), y = ix2 r k := ⟨y 0, y 1, eq_ix2 y⟩
  have he : (((cfg0.win 10).blk t).view.emb (ix2 r k)) = ix2 (row t r) k := by
    blk_ext [(idx t).2.2.2.1]
  rw [he, ← pointV m c t]
  blk_simp
  rw [after0_10]
  frame_out

theorem read4 (c : Dev nD) (t : Fin cfg0.N) (q : Fin 2048) (k : Fin 1024) : (iblk m c 4 t : FVec Ideal S2048x1024 .bf16) (ix2 q k)
    = (m ((c : Thread nD τ).loc main_arg1) : FVec Ideal S2048x5728 .f32) (ix2 q ⟨1536 + k.val, by omega⟩) := by
  blk_simp [iblk, (idx t).1.2.2.2.2.1]
  entry_read
  pointwise
  blk_ext [(idx t).1.2.2.2.2.1]

theorem pointI (c : Dev nD) (t : Fin cfg0.N) (r : Fin 512) (k : Fin 1024) : k0_pay6 (F := Ideal) (iblk m c 0 t) (iblk m c 4 t) (ix2 r k)
    = refI (m ((c : Thread nD τ).loc main_arg0)) (m ((c : Thread nD τ).loc main_arg1)) (ix2 (row t r) k) := by
  pointwise [k0_pay6, k0_pay2, refI, whole]
  simp only [read0, read4, Nat.zero_add]

theorem finalI (c : Dev nD) : (dats m 0 c).arrAt 11 (cfgs 0).N
    = refI (m ((c : Thread nD τ).loc main_arg0)) (m ((c : Thread nD τ).loc main_arg1)) := by
  refine (dats m 0 c).arrAt_eq_of_covers 11 _ (by decide +kernel) fun t hf y => ?_
  obtain ⟨r, k, rfl⟩ : ∃ (r : Fin 512) (k : Fin 1024), y = ix2 r k := ⟨y 0, y 1, eq_ix2 y⟩
  have he : (((cfg0.win 11).blk t).view.emb (ix2 r k)) = ix2 (row t r) k := by
    blk_ext [(idx t).2.2.2.2.1]
  rw [he, ← pointI m c t]
  blk_simp
  rw [after0_11]
  frame_out

/-- The small block's column `k` as a column of the input weight. -/
abbrev small (w : FVec Ideal S2048x5728 .f32) (q : Fin 2048) (k : Fin 128) : EReal :=
  if k.val < 64 then w (ix2 q ⟨2560 + k.val, by omega⟩)
  else if k.val < 80 then w (ix2 q ⟨2624 + (k.val - 64), by omega⟩)
  else if h : k.val < 96 then w (ix2 q ⟨4688 + (k.val - 80), by omega⟩) else 0

/-- A matrix shape. -/
abbrev Wide (R n : ℕ) : Shape := ⟨2, ![R, n]⟩

/-- The four pieces side by side. -/
def joined {R : ℕ} {φ : FTy} (h : Shape.Concatenates [Wide R 64, Wide R 16, Wide R 16, Wide R 32] (Wide R 128) 1)
    (x : FVec Ideal (Wide R 64) φ) (y z : FVec Ideal (Wide R 16) φ) (o : FVec Ideal (Wide R 32) φ) : FVec Ideal (Wide R 128) φ :=
  concatenate (Wide R 128) 1 [⟨Wide R 64, x⟩, ⟨Wide R 16, y⟩, ⟨Wide R 16, z⟩, ⟨Wide R 32, o⟩] h

/-- The joined pieces read at a column: the piece whose span holds it. -/
theorem joined_apply {R : ℕ} {φ : FTy} (hc : Shape.Concatenates [Wide R 64, Wide R 16, Wide R 16, Wide R 32] (Wide R 128) 1)
    (x : FVec Ideal (Wide R 64) φ) (y z : FVec Ideal (Wide R 16) φ) (o : FVec Ideal (Wide R 32) φ) (q : Fin R) (k : Fin 128) :
    joined hc x y z o (ix2 q k) = if h : k.val < 64 then x (ix2 q ⟨k.val, h⟩) else if h : k.val < 80 then y (ix2 q ⟨k.val - 64, by omega⟩)
      else if h : k.val < 96 then z (ix2 q ⟨k.val - 80, by omega⟩) else o (ix2 q ⟨k.val - 96, by omega⟩) := by
  unfold joined
  split
  · rename_i h
    refine concatenate_apply_piece 1 _ _ (ix2 q k) 0 (by simp) (Wide R 64) x rfl rfl 0 rfl (ix2 q ⟨k.val, h⟩) (fun b hb => ?_) ?_
    · match b with
      | ⟨0, _⟩ => rfl
      | ⟨1, _⟩ => exact absurd rfl hb
    · show 0 + k.val = k.val
      omega
  split
  · rename_i h' h
    refine concatenate_apply_piece 1 _ _ (ix2 q k) 1 (by simp) (Wide R 16) y rfl rfl 64 rfl (ix2 q ⟨k.val - 64, by omega⟩) (fun b hb => ?_) ?_
    · match b with
      | ⟨0, _⟩ => rfl
      | ⟨1, _⟩ => exact absurd rfl hb
    · show 64 + (k.val - 64) = k.val
      omega
  split
  · rename_i h'' h' h
    refine concatenate_apply_piece 1 _ _ (ix2 q k) 2 (by simp) (Wide R 16) z rfl rfl 80 rfl (ix2 q ⟨k.val - 80, by omega⟩) (fun b hb => ?_) ?_
    · match b with
      | ⟨0, _⟩ => rfl
      | ⟨1, _⟩ => exact absurd rfl hb
    · show 80 + (k.val - 80) = k.val
      omega
  · rename_i h'' h' h
    refine concatenate_apply_piece 1 _ _ (ix2 q k) 3 (by simp) (Wide R 32) o rfl rfl 96 rfl (ix2 q ⟨k.val - 96, by omega⟩) (fun b hb => ?_) ?_
    · match b with
      | ⟨0, _⟩ => rfl
      | ⟨1, _⟩ => exact absurd rfl hb
    · show 96 + (k.val - 96) = k.val
      omega

section
open Idealize.ShloMosaic.StableHlo

/-- The small block of the weight as the host makes it. -/
theorem small_eq (c : Dev nD) : (V m c main_v23 : FVec Ideal S2048x128 .bf16) = joined concatenates_S2048x64_S2048x16_S2048x16_S2048x32_S2048x128_d1
    (truncf .bf16 (extractStridedSlice S2048x64 ![0, 2560] (m ((c : Thread nD τ).loc main_arg1) : FVec Ideal S2048x5728 .f32) slices_S2048x5728_S2048x64_0_2560) bitsLt_bf16_f32 : FVec Ideal S2048x64 .bf16)
    (truncf .bf16 (extractStridedSlice S2048x16 ![0, 2624] (m ((c : Thread nD τ).loc main_arg1) : FVec Ideal S2048x5728 .f32) slices_S2048x5728_S2048x16_0_2624) bitsLt_bf16_f32 : FVec Ideal S2048x16 .bf16)
    (truncf .bf16 (extractStridedSlice S2048x16 ![0, 4688] (m ((c : Thread nD τ).loc main_arg1) : FVec Ideal S2048x5728 .f32) slices_S2048x5728_S2048x16_0_4688) bitsLt_bf16_f32 : FVec Ideal S2048x16 .bf16)
    (broadcastInDim S2048x32 ![] bcast_S_S2048x32 (constant S_ .bf16 0#16) : FVec Ideal S2048x32 .bf16) := by
  refine (after_last_write (i := 24) [main_cst_0, main_v24, main_v25, main_c, main_v26, main_v27, main_v28] rfl rfl (by decide) _).trans ?_
  rw [nary_result]
  have h9 : upto hostOps0 (fun b => m (c, b)) 24 (Proc.devRef .tc main_v9) = (truncf .bf16 (extractStridedSlice S2048x64 ![0, 2560] (m ((c : Thread nD τ).loc main_arg1) : FVec Ideal S2048x5728 .f32) slices_S2048x5728_S2048x64_0_2560) bitsLt_bf16_f32 : FVec Ideal S2048x64 .bf16) := by
    after_reads_simp
    try rfl
  have h11 : upto hostOps0 (fun b => m (c, b)) 24 (Proc.devRef .tc main_v11) = (truncf .bf16 (extractStridedSlice S2048x16 ![0, 2624] (m ((c : Thread nD τ).loc main_arg1) : FVec Ideal S2048x5728 .f32) slices_S2048x5728_S2048x16_0_2624) bitsLt_bf16_f32 : FVec Ideal S2048x16 .bf16) := by
    after_reads_simp
    try rfl
  have h19 : upto hostOps0 (fun b => m (c, b)) 24 (Proc.devRef .tc main_v19) = (truncf .bf16 (extractStridedSlice S2048x16 ![0, 4688] (m ((c : Thread nD τ).loc main_arg1) : FVec Ideal S2048x5728 .f32) slices_S2048x5728_S2048x16_0_4688) bitsLt_bf16_f32 : FVec Ideal S2048x16 .bf16) := by
    after_reads_simp
    try rfl
  have h22 : upto hostOps0 (fun b => m (c, b)) 24 (Proc.devRef .tc main_v22) = (broadcastInDim S2048x32 ![] bcast_S_S2048x32 (constant S_ .bf16 0#16) : FVec Ideal S2048x32 .bf16) := by
    after_reads_simp
    try rfl
  show joined concatenates_S2048x64_S2048x16_S2048x16_S2048x32_S2048x128_d1 (upto hostOps0 (fun b => m (c, b)) 24 (Proc.devRef .tc main_v9))
    (upto hostOps0 (fun b => m (c, b)) 24 (Proc.devRef .tc main_v11)) (upto hostOps0 (fun b => m (c, b)) 24 (Proc.devRef .tc main_v19))
    (upto hostOps0 (fun b => m (c, b)) 24 (Proc.devRef .tc main_v22)) = _
  rw [h9, h11, h19, h22]

end

theorem read5 (c : Dev nD) (t : Fin cfg0.N) (q : Fin 2048) (k : Fin 128) : (iblk m c 5 t : FVec Ideal S2048x128 .bf16) (ix2 q k)
    = small (m ((c : Thread nD τ).loc main_arg1)) q k := by
  have e : ((cfg0.win 5).blk t).view.emb (ix2 q k) = ix2 q k := by blk_ext [(idx t).1.2.2.2.2.2.1]
  blk_simp [iblk]
  rw [e]
  refine (congrFun (small_eq m c) (ix2 q k)).trans ?_
  rw [joined_apply]
  unfold small
  split
  · pointwise
  split
  · pointwise
  split
  · pointwise
  · pointwise

section
open Idealize.ShloMosaic.Routing

/-- Every update of the set lands 80 rows further down. -/
theorem lands (k : S16x512.Idx) (r : Fin 128) (C : Fin 512) :
    scatter_S128x512_S1_S16x512_01_n_0_0.resultIdx? k (broadcastInDim S1 ![] bcast_S_S1 (constantI S_ 32 80#32)) = some (ix2 r C)
      ↔ 80 + (k 0).val = r.val ∧ (k 1).val = C.val := by
  have h0 : scatter_S128x512_S1_S16x512_01_n_0_0.start k (broadcastInDim S1 ![] bcast_S_S1 (constantI S_ 32 80#32)) 0 = 80 := by
    unfold ScatterDims.start
    rw [dif_pos (by decide)]
    rfl
  have h1 : scatter_S128x512_S1_S16x512_01_n_0_0.start k (broadcastInDim S1 ![] bcast_S_S1 (constantI S_ 32 80#32)) 1 = 0 := by
    unfold ScatterDims.start
    rw [dif_neg (by decide)]
  have g0 : scatter_S128x512_S1_S16x512_01_n_0_0.window k 0 = (k 0).val := by
    unfold ScatterDims.window
    rw [dif_pos (by decide)]
    rfl
  have g1 : scatter_S128x512_S1_S16x512_01_n_0_0.window k 1 = (k 1).val := by
    unfold ScatterDims.window
    rw [dif_pos (by decide)]
    rfl
  refine (resultIdx?_ix2 _ _ _ r C).trans ?_
  rw [h0, h1, g0, g1]
  omega

theorem read6 (c : Dev nD) (t : Fin cfg0.N) (q : Fin 128) (k : Fin 512) : (iblk m c 6 t : FVec Ideal S128x512 .bf16) (ix2 q k)
    = if h : 80 ≤ q.val ∧ q.val < 96 then (m ((c : Thread nD τ).loc main_arg2) : FVec Ideal S16x512 .f32) (ix2 ⟨q.val - 80, by omega⟩ k) else (0 : EReal) := by
  have e : ((cfg0.win 6).blk t).view.emb (ix2 q k) = ix2 q k := by blk_ext [(idx t).1.2.2.2.2.2.2.1]
  blk_simp [iblk]
  rw [e]
  entry_read
  split
  · rename_i h
    refine scatter_set_hit _ _ _ _ _ _ (fun y hy => ?_) (ix2 ⟨q.val - 80, by omega⟩ k) ?_
    · obtain ⟨h1, h2⟩ := (lands y q k).1 hy
      have ey : y = ix2 ⟨q.val - 80, by omega⟩ k := by
        funext b
        match b with
        | ⟨0, _⟩ => exact Fin.ext (by show (y 0).val = q.val - 80; omega)
        | ⟨1, _⟩ => exact Fin.ext h2
      rw [ey]
      rfl
    · rw [lands]
      exact ⟨by show 80 + (q.val - 80) = q.val; omega, rfl⟩
  · rename_i h
    refine (scatter_set_miss _ _ _ _ _ (fun y hy => ?_)).trans ?_
    · obtain ⟨h1, h2⟩ := (lands y q k).1 hy
      have : (y 0).val < 16 := (y 0).isLt
      omega
    · pointwise

end

theorem read7 (c : Dev nD) (t : Fin cfg0.N) (k : Fin 512) : (iblk m c 7 t : FVec Ideal S1x512 .f32) (ix2 0 k)
    = (m ((c : Thread nD τ).loc main_arg3) : FVec Ideal S512 .f32) (ix1 k) := by
  blk_simp [iblk, (idx t).1.2.2.2.2.2.2.2]
  entry_read
  pointwise
  blk_ext [(idx t).1.2.2.2.2.2.2.2]

/-- The reference's small block and gate. -/
abbrev refS (x : FVec Ideal S32768x2048 .f32) (w : FVec Ideal S2048x5728 .f32) : FVec Ideal S32768x128 .f32 :=
  Cert.ProjAttnRefIdeal.Read.val_main_v20 (F := Ideal) x w
abbrev refLa (x : FVec Ideal S32768x2048 .f32) (w : FVec Ideal S2048x5728 .f32) (a : FVec Ideal S16x512 .f32) (b : FVec Ideal S512 .f32) : FVec Ideal S32768x512 .f32 :=
  Cert.ProjAttnRefIdeal.Read.val_main_v18 (F := Ideal) x w a b

theorem pointS (c : Dev nD) (t : Fin cfg0.N) (r : Fin 512) (k : Fin 128) : k0_pay7 (F := Ideal) (iblk m c 0 t) (iblk m c 5 t) (ix2 r k)
    = refS (m ((c : Thread nD τ).loc main_arg0)) (m ((c : Thread nD τ).loc main_arg1)) (ix2 (row t r) k) := by
  refine Eq.trans ?_ (joined_apply Cert.ProjAttnRefIdeal.Gen.concatenates_S32768x64_S32768x16_S32768x16_S32768x32_S32768x128_d1 _ _ _ _ (row t r) k).symm
  pointwise [k0_pay7, k0_pay2]
  simp only [read0, read5, small]
  split
  · pointwise [Cert.ProjAttnRefIdeal.Read.val_main_v5, Cert.ProjAttnRefIdeal.Read.val_main_v0]
  split
  · pointwise [Cert.ProjAttnRefIdeal.Read.val_main_v6, Cert.ProjAttnRefIdeal.Read.val_main_v0]
  split
  · pointwise [Cert.ProjAttnRefIdeal.Read.val_main_v10, Cert.ProjAttnRefIdeal.Read.val_main_v0]
  · pointwise [Cert.ProjAttnRefIdeal.Read.val_main_v19, Cert.ProjAttnRefIdeal.Read.val_main_cst_0]
    simp only [mul_zero, Finset.sum_const_zero]

theorem finalS (c : Dev nD) : (dats m 0 c).arrAt 12 (cfgs 0).N
    = refS (m ((c : Thread nD τ).loc main_arg0)) (m ((c : Thread nD τ).loc main_arg1)) := by
  refine (dats m 0 c).arrAt_eq_of_covers 12 _ (by decide +kernel) fun t hf y => ?_
  obtain ⟨r, k, rfl⟩ : ∃ (r : Fin 512) (k : Fin 128), y = ix2 r k := ⟨y 0, y 1, eq_ix2 y⟩
  have he : (((cfg0.win 12).blk t).view.emb (ix2 r k)) = ix2 (row t r) k := by
    blk_ext [(idx t).2.2.2.2.2.1]
  rw [he, ← pointS m c t]
  blk_simp
  rw [after0_12]
  frame_out

/-- A sum against a column that is zero outside rows 80 to 95. -/
theorem sum_rank (f : Fin 128 → EReal) (g : Fin 16 → EReal) :
    (∑ q : Fin 128, f q * if h : 80 ≤ q.val ∧ q.val < 96 then g ⟨q.val - 80, by omega⟩ else 0) = ∑ j : Fin 16, f ⟨80 + j.val, by omega⟩ * g j := by
  symm
  refine Finset.sum_of_injOn (fun j : Fin 16 => (⟨80 + j.val, by omega⟩ : Fin 128)) (fun a _ b _ h => ?_) (fun _ _ => Finset.mem_coe.2 (Finset.mem_univ _)) (fun q _ hq => ?_) (fun j _ => ?_)
  · have := congrArg Fin.val h
    dsimp only at this
    exact Fin.ext (by omega)
  · have : ¬ (80 ≤ q.val ∧ q.val < 96) := fun h => hq ⟨⟨q.val - 80, by omega⟩, Finset.mem_coe.2 (Finset.mem_univ _), Fin.ext (by show 80 + (q.val - 80) = q.val; omega)⟩
    rw [dif_neg this, mul_zero]
  · rw [dif_pos ⟨by show 80 ≤ 80 + j.val; omega, by show 80 + j.val < 96; omega⟩]
    congr 2
    exact Fin.ext (by show j.val = 80 + j.val - 80; omega)

open Cert.ProjAttnRefIdeal.Read in
/-- The gate's argument in the reference. -/
theorem ref_arg (x : FVec Ideal S32768x2048 .f32) (w : FVec Ideal S2048x5728 .f32) (a : FVec Ideal S16x512 .f32) (b : FVec Ideal S512 .f32) (R : Fin 32768) (k : Fin 512) :
    val_main_v15 (F := Ideal) x w a b (ix2 R k) = (∑ j : Fin 16, refS x w (ix2 R ⟨80 + j.val, by omega⟩) * a (ix2 j k)) + b (ix1 k) := by
  have hS : ∀ j : Fin 16, refS x w (ix2 R ⟨80 + j.val, by omega⟩) = ∑ q : Fin 2048, x (ix2 R q) * w (ix2 q ⟨4688 + j.val, by omega⟩) := fun j => by
    refine (joined_apply Cert.ProjAttnRefIdeal.Gen.concatenates_S32768x64_S32768x16_S32768x16_S32768x32_S32768x128_d1 _ _ _ _ R _).trans ?_
    rw [dif_neg (by show ¬ 80 + j.val < 64; omega), dif_neg (by show ¬ 80 + j.val < 80; omega), dif_pos (by show 80 + j.val < 96; omega)]
    pointwise [val_main_v10, val_main_v0]
  simp only [hS]
  pointwise [val_main_v15, val_main_v14, val_main_v13, val_main_v12, val_main_v10, val_main_v0]

/-- The logarithm of one plus an exponential of minus an absolute value is a real number. -/
theorem log1p_real (z : EReal) : ∃ l : ℝ, Ideal.log1p (Ideal.exp (-max z (-z))) = (l : EReal) := by
  have key : ∀ r : ℝ, Ideal.log1p (Ideal.exp ((r : ℝ) : EReal)) = ((Real.log (1 + Real.exp r) : ℝ) : EReal) := fun r => by
    show Ideal.log (1 + ((Real.exp r : ℝ) : EReal)) = _
    rw [← EReal.coe_one, ← EReal.coe_add]
    show (if 1 + Real.exp r ≤ 0 then (⊥ : EReal) else _) = _
    rw [if_neg (by have := Real.exp_pos r; linarith)]
  have zero : Ideal.log1p (Ideal.exp ⊥) = ((Real.log 1 : ℝ) : EReal) := by
    show Ideal.log (1 + (0 : EReal)) = _
    rw [add_zero, ← EReal.coe_one]
    show (if (1 : ℝ) ≤ 0 then (⊥ : EReal) else _) = _
    rw [if_neg (by norm_num)]
  induction z with
  | bot => exact ⟨_, by rw [show -max (⊥ : EReal) (-⊥) = ⊥ by simp]; exact zero⟩
  | top => exact ⟨_, by rw [show -max (⊤ : EReal) (-⊤) = ⊥ by simp]; exact zero⟩
  | coe r =>
    refine ⟨Real.log (1 + Real.exp (-max r (-r))), ?_⟩
    rw [← key]
    norm_cast

theorem sixteenth : Ideal.ofBits .f32 0x3D800000#32 = (((1 : ℝ) / 16 : ℝ) : EReal) := by
  simp [Ideal.ofBits, Ideal.ieee]
  rw [← EReal.coe_mul]
  norm_num

theorem sixteen : Ideal.ofBits .f32 0x41800000#32 = ((16 : ℝ) : EReal) := by
  simp [Ideal.ofBits, Ideal.ieee]
  rw [← EReal.coe_mul]
  norm_num

/-- The kernel's and the reference's log-sigmoid, a sixteenth of it. -/
theorem gate_eq (z : EReal) :
    (min z 0 - Ideal.log1p (Ideal.exp (0 - FloatOps.absf (F := Ideal) (φ := .f32) z))) * Ideal.ofBits .f32 0x3D800000#32
      = Ideal.div (-if -z ≠ -z then -z else max (-z) 0 + Ideal.log1p (Ideal.exp (-FloatOps.absf (F := Ideal) (φ := .f32) (-z)))) (Ideal.ofBits .f32 0x41800000#32) := by
  have h1 : FloatOps.absf (F := Ideal) (φ := .f32) z = max z (-z) := rfl
  have h2 : FloatOps.absf (F := Ideal) (φ := .f32) (-z) = max z (-z) := by
    show max (-z) (- -z) = _
    rw [neg_neg, max_comm]
  rw [h1, h2, zero_sub, if_neg (by simp), sixteenth, sixteen]
  obtain ⟨l, hl⟩ := log1p_real z
  rw [hl]
  have hn : -(max (-z) 0 + (l : EReal)) = min z 0 - (l : EReal) := by
    rw [EReal.neg_add (.inr (EReal.coe_ne_top _)) (.inr (EReal.coe_ne_bot _))]
    congr 1
    rcases le_total z 0 with h | h
    · rw [min_eq_left h, max_eq_left (EReal.neg_nonneg.2 h), neg_neg]
    · rw [min_eq_right h, max_eq_right (by rw [EReal.neg_le, neg_zero]; exact h), neg_zero]
  rw [hn]
  unfold Ideal.div
  rw [if_neg (by norm_cast)]
  congr 1
  norm_num [← EReal.coe_inv]

open Cert.ProjAttnRefIdeal.Read in
/-- The reference's gate read at an entry. -/
theorem ref_gate (x : FVec Ideal S32768x2048 .f32) (w : FVec Ideal S2048x5728 .f32) (a : FVec Ideal S16x512 .f32) (b : FVec Ideal S512 .f32) (R : Fin 32768) (k : Fin 512)
    (z : EReal) (hz : val_main_v15 (F := Ideal) x w a b (ix2 R k) = z) :
    refLa x w a b (ix2 R k)
      = Ideal.div (-if -z ≠ -z then -z else max (-z) 0 + Ideal.log1p (Ideal.exp (-FloatOps.absf (F := Ideal) (φ := .f32) (-z)))) (Ideal.ofBits .f32 0x41800000#32) := by
  pointwise [refLa, val_main_v18, val_main_v17, val_main_cst, val_main_v16, val_main_call0_v1, val_main_call0_call0_v11, val_main_call0_call0_v10,
    val_main_call0_call0_v9, val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_v0, val_main_call0_call0_cst]
  rw [hz]

theorem pointLa (c : Dev nD) (t : Fin cfg0.N) (r : Fin 512) (k : Fin 512) : k0_pay1 (F := Ideal) (k0_pay7 (F := Ideal) (iblk m c 0 t) (iblk m c 5 t)) (iblk m c 6 t) (iblk m c 7 t) (ix2 r k)
    = refLa (m ((c : Thread nD τ).loc main_arg0)) (m ((c : Thread nD τ).loc main_arg1)) (m ((c : Thread nD τ).loc main_arg2)) (m ((c : Thread nD τ).loc main_arg3)) (ix2 (row t r) k) := by
  have hs : ∀ q : Fin 128, k0_pay7 (F := Ideal) (iblk m c 0 t) (iblk m c 5 t) (ix2 r q) = refS (m ((c : Thread nD τ).loc main_arg0)) (m ((c : Thread nD τ).loc main_arg1)) (ix2 (row t r) q) :=
    fun q => pointS m c t r q
  generalize k0_pay7 (F := Ideal) (iblk m c 0 t) (iblk m c 5 t) = s at hs
  pointwise [k0_pay1]
  simp only [read6, read7, hs]
  have e := sum_rank (fun q => refS (m ((c : Thread nD τ).loc main_arg0)) (m ((c : Thread nD τ).loc main_arg1)) (ix2 (row t r) q))
    (fun j => (m ((c : Thread nD τ).loc main_arg2) : FVec Ideal S16x512 .f32) (ix2 j k))
  rw [e, ← ref_arg]
  exact (gate_eq _).trans (ref_gate _ _ _ _ (row t r) k _ rfl).symm

theorem finalLa (c : Dev nD) : (dats m 0 c).arrAt 13 (cfgs 0).N
    = refLa (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t hf y => ?_
  obtain ⟨r, k, rfl⟩ : ∃ (r : Fin 512) (k : Fin 512), y = ix2 r k := ⟨y 0, y 1, eq_ix2 y⟩
  have he : (((cfg0.win 13).blk t).view.emb (ix2 r k)) = ix2 (row t r) k := by
    blk_ext [(idx t).2.2.2.2.2.2.1]
  rw [he, ← pointLa m c t]
  blk_simp
  rw [after0_13]
  frame_out

end Cert.ProjAttnIdeal.Hand

namespace Cert.Proof

open Cert.ProjAttnIdeal.Hand in
/-- The kernel and the reference end with the same six arrays. -/
theorem projattn_algebraic : Cert.algebraic_ProjAttnIdeal_ProjAttnRefIdeal
    (hProjAttnIdeal := Cert.ProjAttnIdeal.Gen.facts) (hProjAttnRefIdeal := Cert.ProjAttnRefIdeal.Gen.facts) := by
  pair_intro
  · run_from Cert.ProjAttnIdeal.Value.run_blocks m g
  · run_from Cert.ProjAttnRefIdeal.Value.run m' g'
    exacts [(finalQ m c).symm, (finalK m c).symm, (finalV m c).symm, (finalI m c).symm, (finalS m c).symm, (finalLa m c).symm]

end Cert.Proof

end
-- ==== Proof.ProjGlaValue.lean ====
/-
  Hand-written, untrusted. The four products of the linear-attention half of the input projection (`ProjGlaIdeal`): each point takes 512 rows of
  the input and the whole of each weight, so each entry is the reference's own sum.
-/
module

public import proofs.«01_k».proof.Defs
public import proofs.«01_k».proof.Proof.Gen.ProjGlaIdeal.Value
public import proofs.«01_k».proof.Proof.Gen.ProjGlaRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjGlaIdeal.Hand

open Cert.ProjGlaIdeal Cert.ProjGlaIdeal.Gen

variable (m : (ℓ : Loc nD τ sig) → Buf (Elt Ideal) ℓ)

/-- The reference's whole product. -/
abbrev whole (x : FVec Ideal S32768x2048 .f32) (w : FVec Ideal S2048x5728 .f32) : FVec Ideal Cert.ProjGlaRefIdeal.S32768x5728 .f32 :=
  Host.dotGeneral Cert.ProjGlaRefIdeal.dot_S32768x2048_S2048x5728_S32768x5728_1_0_0_1_n_n none x w

/-- The reference's four results. -/
abbrev refQ (x : FVec Ideal S32768x2048 .f32) (w : FVec Ideal S2048x5728 .f32) : FVec Ideal S32768x512 .f32 :=
  mulf (extractStridedSlice S32768x512 ![0, 2640] (whole x w) Cert.ProjGlaRefIdeal.Gen.slices_S32768x5728_S32768x512_0_2640)
    (broadcastInDim S32768x512 ![] Cert.ProjGlaRefIdeal.Gen.bcast_S_S32768x512 (constant Cert.ProjGlaRefIdeal.S_ .f32 0x3DB504F3#32))
abbrev refK (x : FVec Ideal S32768x2048 .f32) (w : FVec Ideal S2048x5728 .f32) : FVec Ideal S32768x512 .f32 :=
  extractStridedSlice S32768x512 ![0, 3152] (whole x w) Cert.ProjGlaRefIdeal.Gen.slices_S32768x5728_S32768x512_0_3152
abbrev refV (x : FVec Ideal S32768x2048 .f32) (w : FVec Ideal S2048x5728 .f32) : FVec Ideal S32768x1024 .f32 :=
  extractStridedSlice S32768x1024 ![0, 3664] (whole x w) Cert.ProjGlaRefIdeal.Gen.slices_S32768x5728_S32768x1024_0_3664
abbrev refR (x : FVec Ideal S32768x2048 .f32) (w : FVec Ideal S2048x5728 .f32) : FVec Ideal S32768x1024 .f32 :=
  extractStridedSlice S32768x1024 ![0, 4704] (whole x w) Cert.ProjGlaRefIdeal.Gen.slices_S32768x5728_S32768x1024_0_4704

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ t.val < 64 :=
  (by decide +kernel : ∀ t : Fin grid0.N, _)

/-- The row of the whole array that row `r` of point `t`'s block is. -/
abbrev row (t : Fin cfg0.N) (r : Fin 512) : Fin 32768 := ⟨t.val * 512 + r.val, by have := (idx t).2.2.2.2.2.2.2.2.2; omega⟩

theorem read0 (c : Dev nD) (t : Fin cfg0.N) (r : Fin 512) (q : Fin 2048) : (iblk m c 0 t : FVec Ideal S512x2048 .f32) (ix2 r q)
    = (m ((c : Thread nD τ).loc main_arg0) : FVec Ideal S32768x2048 .f32) (ix2 (row t r) q) := by
  blk_ext [iblk, V, (idx t).1]

theorem read1 (c : Dev nD) (t : Fin cfg0.N) (q : Fin 2048) (k : Fin 512) : (iblk m c 1 t : FVec Ideal S2048x512 .bf16) (ix2 q k)
    = (m ((c : Thread nD τ).loc main_arg1) : FVec Ideal S2048x5728 .f32) (ix2 q ⟨2640 + k.val, by omega⟩) := by
  blk_simp [iblk, (idx t).2.1]
  entry_read
  pointwise
  blk_ext [(idx t).2.1]

theorem pointQ (c : Dev nD) (t : Fin cfg0.N) (r : Fin 512) (k : Fin 512) : k0_pay2 (F := Ideal) (iblk m c 0 t) (iblk m c 1 t) (ix2 r k)
    = refQ (m ((c : Thread nD τ).loc main_arg0)) (m ((c : Thread nD τ).loc main_arg1)) (ix2 (row t r) k) := by
  pointwise [k0_pay2, k0_pay1, refQ, whole]
  simp only [read0, read1]

theorem finalQ (c : Dev nD) : (dats m 0 c).arrAt 5 (cfgs 0).N
    = refQ (m ((c : Thread nD τ).loc main_arg0)) (m ((c : Thread nD τ).loc main_arg1)) := by
  refine (dats m 0 c).arrAt_eq_of_covers 5 _ (by decide +kernel) fun t hf y => ?_
  obtain ⟨r, k, rfl⟩ : ∃ (r : Fin 512) (k : Fin 512), y = ix2 r k := ⟨y 0, y 1, eq_ix2 y⟩
  have he : (((cfg0.win 5).blk t).view.emb (ix2 r k)) = ix2 (row t r) k := by
    blk_ext [(idx t).2.2.2.2.2.1]
  rw [he, ← pointQ m c t]
  blk_simp
  rw [after0_5]
  frame_out

theorem read2 (c : Dev nD) (t : Fin cfg0.N) (q : Fin 2048) (k : Fin 512) : (iblk m c 2 t : FVec Ideal S2048x512 .bf16) (ix2 q k)
    = (m ((c : Thread nD τ).loc main_arg1) : FVec Ideal S2048x5728 .f32) (ix2 q ⟨3152 + k.val, by omega⟩) := by
  blk_simp [iblk, (idx t).2.2.1]
  entry_read
  pointwise
  blk_ext [(idx t).2.2.1]

theorem pointK (c : Dev nD) (t : Fin cfg0.N) (r : Fin 512) (k : Fin 512) : k0_pay3 (F := Ideal) (iblk m c 0 t) (iblk m c 2 t) (ix2 r k)
    = refK (m ((c : Thread nD τ).loc main_arg0)) (m ((c : Thread nD τ).loc main_arg1)) (ix2 (row t r) k) := by
  pointwise [k0_pay3, k0_pay1, refK, whole]
  simp only [read0, read2]

theorem finalK (c : Dev nD) : (dats m 0 c).arrAt 6 (cfgs 0).N
    = refK (m ((c : Thread nD τ).loc main_arg0)) (m ((c : Thread nD τ).loc main_arg1)) := by
  refine (dats m 0 c).arrAt_eq_of_covers 6 _ (by decide +kernel) fun t hf y => ?_
  obtain ⟨r, k, rfl⟩ : ∃ (r : Fin 512) (k : Fin 512), y = ix2 r k := ⟨y 0, y 1, eq_ix2 y⟩
  have he : (((cfg0.win 6).blk t).view.emb (ix2 r k)) = ix2 (row t r) k := by
    blk_ext [(idx t).2.2.2.2.2.2.1]
  rw [he, ← pointK m c t]
  blk_simp
  rw [after0_6]
  frame_out

theorem read3 (c : Dev nD) (t : Fin cfg0.N) (q : Fin 2048) (k : Fin 1024) : (iblk m c 3 t : FVec Ideal S2048x1024 .bf16) (ix2 q k)
    = (m ((c : Thread nD τ).loc main_arg1) : FVec Ideal S2048x5728 .f32) (ix2 q ⟨3664 + k.val, by omega⟩) := by
  blk_simp [iblk, (idx t).2.2.2.1]
  entry_read
  pointwise
  blk_ext [(idx t).2.2.2.1]

theorem pointV (c : Dev nD) (t : Fin cfg0.N) (r : Fin 512) (k : Fin 1024) : k0_pay4 (F := Ideal) (iblk m c 0 t) (iblk m c 3 t) (ix2 r k)
    = refV (m ((c : Thread nD τ).loc main_arg0)) (m ((c : Thread nD τ).loc main_arg1)) (ix2 (row t r) k) := by
  pointwise [k0_pay4, k0_pay1, refV, whole]
  simp only [read0, read3]

theorem finalV (c : Dev nD) : (dats m 0 c).arrAt 7 (cfgs 0).N
    = refV (m ((c : Thread nD τ).loc main_arg0)) (m ((c : Thread nD τ).loc main_arg1)) := by
  refine (dats m 0 c).arrAt_eq_of_covers 7 _ (by decide +kernel) fun t hf y => ?_
  obtain ⟨r, k, rfl⟩ : ∃ (r : Fin 512) (k : Fin 1024), y = ix2 r k := ⟨y 0, y 1, eq_ix2 y⟩
  have he : (((cfg0.win 7).blk t).view.emb (ix2 r k)) = ix2 (row t r) k := by
    blk_ext [(idx t).2.2.2.2.2.2.2.1]
  rw [he, ← pointV m c t]
  blk_simp
  rw [after0_7]
  frame_out

theorem read4 (c : Dev nD) (t : Fin cfg0.N) (q : Fin 2048) (k : Fin 1024) : (iblk m c 4 t : FVec Ideal S2048x1024 .bf16) (ix2 q k)
    = (m ((c : Thread nD τ).loc main_arg1) : FVec Ideal S2048x5728 .f32) (ix2 q ⟨4704 + k.val, by omega⟩) := by
  blk_simp [iblk, (idx t).2.2.2.2.1]
  entry_read
  pointwise
  blk_ext [(idx t).2.2.2.2.1]

theorem pointR (c : Dev nD) (t : Fin cfg0.N) (r : Fin 512) (k : Fin 1024) : k0_pay5 (F := Ideal) (iblk m c 0 t) (iblk m c 4 t) (ix2 r k)
    = refR (m ((c : Thread nD τ).loc main_arg0)) (m ((c : Thread nD τ).loc main_arg1)) (ix2 (row t r) k) := by
  pointwise [k0_pay5, k0_pay1, refR, whole]
  simp only [read0, read4]

theorem finalR (c : Dev nD) : (dats m 0 c).arrAt 8 (cfgs 0).N
    = refR (m ((c : Thread nD τ).loc main_arg0)) (m ((c : Thread nD τ).loc main_arg1)) := by
  refine (dats m 0 c).arrAt_eq_of_covers 8 _ (by decide +kernel) fun t hf y => ?_
  obtain ⟨r, k, rfl⟩ : ∃ (r : Fin 512) (k : Fin 1024), y = ix2 r k := ⟨y 0, y 1, eq_ix2 y⟩
  have he : (((cfg0.win 8).blk t).view.emb (ix2 r k)) = ix2 (row t r) k := by
    blk_ext [(idx t).2.2.2.2.2.2.2.2.1]
  rw [he, ← pointR m c t]
  blk_simp
  rw [after0_8]
  frame_out

end Cert.ProjGlaIdeal.Hand

namespace Cert.Proof

open Cert.ProjGlaIdeal.Hand in
/-- The kernel and the reference end with the same four arrays. -/
theorem projgla_algebraic : Cert.algebraic_ProjGlaIdeal_ProjGlaRefIdeal
    (hProjGlaIdeal := Cert.ProjGlaIdeal.Gen.facts) (hProjGlaRefIdeal := Cert.ProjGlaRefIdeal.Gen.facts) := by
  pair_intro
  · run_from Cert.ProjGlaIdeal.Value.run_blocks m g
  · run_from Cert.ProjGlaRefIdeal.Value.run m' g'
    exacts [(finalQ m c).symm, (finalK m c).symm, (finalV m c).symm, (finalR m c).symm]

end Cert.Proof

end
-- ==== Proof.MixMemValue.lean ====
/-
  Hand-written, untrusted. The mixing call (`MixMemIdeal`): each point takes 512 rows in two halves of 256, and for each half makes the output projection
  from two products, a layer norm, the query of the memory, four heads of attention into the memory, their projection and a second layer norm. One function
  of the half's operands is both halves; it is read at an entry once.
-/
module

public import proofs.«01_k».proof.Defs
public import proofs.«01_k».proof.Proof.Gen.MixMemIdeal.Value
public import proofs.«01_k».proof.Proof.Gen.MixMemRefIdeal.Run
public import proofs.«01_k».proof.Proof.Gen.MixMemRefIdeal.Read
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixMemIdeal.Hand

/-! The reference, read at an entry step by step. -/

section
open Cert.MixMemRefIdeal Cert.MixMemRefIdeal.Gen Cert.MixMemRefIdeal.Read

/-- The mean of a row. -/
def meanRow (h : Fin 2048 → EReal) : EReal := Ideal.div (∑ q, h q) (Ideal.ofBits .f32 0x45000000#32)

/-- The layer norm of one row. -/
def normRow (h g b : Fin 2048 → EReal) (C : Fin 2048) : EReal :=
  (h C - meanRow h) * Ideal.rsqrt (meanRow (fun q => (h q - meanRow h) * (h q - meanRow h)) + Ideal.ofBits .f32 0x3727C5AC#32)
    * g C + b C

/-- The largest of a row of logits. -/
def topRow (l : Fin 256 → EReal) : EReal := Finset.univ.fold max (Ideal.ofBits .f32 0xFF800000#32) l

/-- One weight of the softmax of a row. -/
def softRow (l : Fin 256 → EReal) (n : Fin 256) : EReal :=
  Ideal.div (Ideal.exp (l n - topRow l)) (∑ k, Ideal.exp (l k - topRow l))

variable (x0 : FVec Ideal S32768x2048 .f32) (x1 x2 : FVec Ideal S32768x1024 .bf16) (x3 : FVec Ideal S2048x2048 .f32) (x4 : FVec Ideal S2048x512 .f32)
  (x5 : FVec Ideal S512x2048 .f32) (x6 x7 : FVec Ideal S2x256x4x128 .f32) (x8 x9 x10 x11 : FVec Ideal S2048 .f32)

theorem ref5 (R : Fin 32768) (q : Fin 2048) : val_main_v5 (F := Ideal) x0 x1 x2 x3 (ix2 R q)
    = Ideal.ofBits .f32 0x3F9837F0#32 * x0 (ix2 R q) + ((∑ j : Fin 1024, x1 (ix2 R j) * x3 (ix2 ⟨j.val, by omega⟩ q))
      + ∑ j : Fin 1024, x2 (ix2 R j) * x3 (ix2 ⟨1024 + j.val, by omega⟩ q)) := by
  pointwise [val_main_v5, val_main_v4, val_main_v3, val_main_cst, val_main_v2, val_main_v1, val_main_v0]

theorem ref29 (R : Fin 32768) (q : Fin 2048) : val_main_v29 (F := Ideal) x0 x1 x2 x3 x8 x9 (ix2 R q)
    = normRow (fun q => val_main_v5 (F := Ideal) x0 x1 x2 x3 (ix2 R q)) (fun q => x8 (ix1 q)) (fun q => x9 (ix1 q)) q := by
  generalize hz : val_main_v5 (F := Ideal) x0 x1 x2 x3 = z
  pointwise [val_main_v29, val_main_v28, val_main_v27, val_main_v26, val_main_v25, val_main_v24, val_main_v23, val_main_v22, val_main_v21,
    val_main_v20, val_main_v19, val_main_cst_4, val_main_v18, val_main_v17, val_main_v16, val_main_v15, val_main_cst_3, val_main_v14, val_main_v13,
    val_main_cst_2, val_main_v12, val_main_v11, val_main_v10, val_main_v9, val_main_v8, val_main_cst_1, val_main_v7, val_main_v6, val_main_cst_0,
    normRow, meanRow, hz]

theorem ref30 (R : Fin 32768) (K : Fin 512) : val_main_v30 (F := Ideal) x0 x1 x2 x3 x4 x8 x9 (ix2 R K)
    = ∑ q : Fin 2048, val_main_v29 (F := Ideal) x0 x1 x2 x3 x8 x9 (ix2 R q) * x4 (ix2 q K) := by
  generalize hz : val_main_v29 (F := Ideal) x0 x1 x2 x3 x8 x9 = z
  pointwise [val_main_v30, hz]

/-- A row of the whole batch of two. -/
abbrev flat (b : Fin 2) (T : Fin 16384) : Fin 32768 := ⟨b.val * 16384 + T.val, by omega⟩
/-- A column of the four heads. -/
abbrev lane (h : Fin 4) (d : Fin 128) : Fin 512 := ⟨h.val * 128 + d.val, by omega⟩

theorem ref35 (b : Fin 2) (T : Fin 16384) (h : Fin 4) (n : Fin 256) : val_main_v35 (F := Ideal) x0 x1 x2 x3 x4 x6 x8 x9 (ix4 b T h n)
    = (∑ d : Fin 128, val_main_v30 (F := Ideal) x0 x1 x2 x3 x4 x8 x9 (ix2 (flat b T) (lane h d)) * x6 (ix4 b n h d)) * Ideal.ofBits .f32 0x3DB504F3#32 := by
  rw [val_main_v35_apply, val_main_v33_apply, val_main_v32_apply, val_main_v34_apply]
  show _ * _ = _
  congr 1
  refine Finset.sum_congr rfl fun d _ => ?_
  rw [val_main_v31_apply, mul_comm]
  congr 2
  · funext a
    match a with
    | ⟨0, _⟩ => apply Fin.ext; show (((b.val * 16384 + T.val) * 4 + h.val) * 128 + d.val) / 512 = b.val * 16384 + T.val; omega
    | ⟨1, _⟩ => apply Fin.ext; show (((b.val * 16384 + T.val) * 4 + h.val) * 128 + d.val) % 512 = h.val * 128 + d.val; omega
  · funext a
    match a with
    | ⟨0, _⟩ => rfl
    | ⟨1, _⟩ => rfl
    | ⟨2, _⟩ => rfl
    | ⟨3, _⟩ => rfl

/-- The host's maximum over the last axis of four. -/
theorem hostMax {n0 n1 n2 n3 : ℕ} {u : Shape} (x : FVec Ideal ⟨4, ![n0, n1, n2, n3]⟩ .f32) (v : u.Idx → Ideal .f32)
    (h : (⟨4, ![n0, n1, n2, n3]⟩ : Shape).ReducesTo [3] ⟨3, ![n0, n1, n2]⟩) (hu : 0 < u.numel) (i : Fin n0) (j : Fin n1) (k : Fin n2) :
    Host.reduce FloatOps.maximumf x v h hu (ix3 i j k) = Finset.univ.fold max (v (Shape.Idx.first hu)) (fun q => x (ix4 i j k q)) := by
  pointwise

theorem ref38 (b : Fin 2) (T : Fin 16384) (h : Fin 4) : val_main_v38 (F := Ideal) x0 x1 x2 x3 x4 x6 x8 x9 (ix3 b T h)
    = topRow (fun n => val_main_v35 (F := Ideal) x0 x1 x2 x3 x4 x6 x8 x9 (ix4 b T h n)) := by
  rw [val_main_v38_apply, val_main_v37_apply, val_main_cst_7_apply]
  unfold val_main_v36
  generalize val_main_v35 (F := Ideal) x0 x1 x2 x3 x4 x6 x8 x9 = z
  rw [hostMax]
  exact max_eq_right ((Finset.le_fold_max _).mpr (.inl le_rfl))

theorem ref46 (b : Fin 2) (T : Fin 16384) (h : Fin 4) (n : Fin 256) : val_main_v46 (F := Ideal) x0 x1 x2 x3 x4 x6 x8 x9 (ix4 b T h n)
    = softRow (fun n => val_main_v35 (F := Ideal) x0 x1 x2 x3 x4 x6 x8 x9 (ix4 b T h n)) n := by
  have e (k : Fin 256) : val_main_v42 (F := Ideal) x0 x1 x2 x3 x4 x6 x8 x9 (ix4 b T h k)
      = Ideal.exp (val_main_v35 (F := Ideal) x0 x1 x2 x3 x4 x6 x8 x9 (ix4 b T h k)
        - topRow (fun n => val_main_v35 (F := Ideal) x0 x1 x2 x3 x4 x6 x8 x9 (ix4 b T h n))) := by
    rw [val_main_v42_apply, val_main_v41_apply, val_main_v40_apply, val_main_v39_apply]
    have ei : idx_main_v39 (idx_main_v40 (ix4 b T h k)) = ix3 b T h := by
      funext a
      match a with
      | ⟨0, _⟩ => rfl
      | ⟨1, _⟩ => rfl
      | ⟨2, _⟩ => rfl
    rw [ei, ref38]
    rfl
  rw [val_main_v46_apply, val_main_v45_apply, val_main_v44_apply, val_main_v43_apply, e]
  have es (k : Fin 256) : idx_main_v43 (idx_main_v44 (idx_main_v45 (ix4 b T h n))) k = ix4 b T h k := by
    funext a
    match a with
    | ⟨0, _⟩ => rfl
    | ⟨1, _⟩ => rfl
    | ⟨2, _⟩ => rfl
    | ⟨3, _⟩ => rfl
  have e0 : val_main_cst_8 (F := Ideal) (Shape.Idx.first h_S_) = 0 := by
    pointwise [val_main_cst_8]
  simp only [es, e, e0, zero_add]
  rfl

theorem ref49 (b : Fin 2) (T : Fin 16384) (h : Fin 4) (d : Fin 128) : val_main_v49 (F := Ideal) x0 x1 x2 x3 x4 x6 x7 x8 x9 (ix2 (flat b T) (lane h d))
    = ∑ n, softRow (fun n => val_main_v35 (F := Ideal) x0 x1 x2 x3 x4 x6 x8 x9 (ix4 b T h n)) n * x7 (ix4 b n h d) := by
  rw [val_main_v49_apply, val_main_v48_apply, val_main_v47_apply]
  refine Finset.sum_congr rfl fun n _ => ?_
  have e1 : ridx_main_v47 (idx_main_v48 (idx_main_v49 (ix2 (flat b T) (lane h d)))) n = ix4 b T h n := by
    funext a
    match a with
    | ⟨0, _⟩ => apply Fin.ext; show ((b.val * 16384 + T.val) * 512 + (h.val * 128 + d.val)) / 8388608 = b.val; omega
    | ⟨1, _⟩ => apply Fin.ext; show ((b.val * 16384 + T.val) * 512 + (h.val * 128 + d.val)) / 512 % 16384 = T.val; omega
    | ⟨2, _⟩ => apply Fin.ext; show ((b.val * 16384 + T.val) * 512 + (h.val * 128 + d.val)) / 128 % 4 = h.val; omega
    | ⟨3, _⟩ => rfl
  have e2 : lidx_main_v47 (idx_main_v48 (idx_main_v49 (ix2 (flat b T) (lane h d)))) n = ix4 b n h d := by
    funext a
    match a with
    | ⟨0, _⟩ => apply Fin.ext; show ((b.val * 16384 + T.val) * 512 + (h.val * 128 + d.val)) / 8388608 = b.val; omega
    | ⟨1, _⟩ => rfl
    | ⟨2, _⟩ => apply Fin.ext; show ((b.val * 16384 + T.val) * 512 + (h.val * 128 + d.val)) / 128 % 4 = h.val; omega
    | ⟨3, _⟩ => apply Fin.ext; show ((b.val * 16384 + T.val) * 512 + (h.val * 128 + d.val)) % 128 = d.val; omega
  rw [e1, e2, ref46, mul_comm]

theorem ref53 (R : Fin 32768) (q : Fin 2048) : val_main_v53 (F := Ideal) x0 x1 x2 x3 x4 x5 x6 x7 x8 x9 (ix2 R q)
    = Ideal.ofBits .f32 0x3F9837F0#32 * val_main_v29 (F := Ideal) x0 x1 x2 x3 x8 x9 (ix2 R q)
      + ∑ K : Fin 512, val_main_v49 (F := Ideal) x0 x1 x2 x3 x4 x6 x7 x8 x9 (ix2 R K) * x5 (ix2 K q) := by
  generalize hz : val_main_v29 (F := Ideal) x0 x1 x2 x3 x8 x9 = z
  generalize hy : val_main_v49 (F := Ideal) x0 x1 x2 x3 x4 x6 x7 x8 x9 = y
  pointwise [val_main_v53, val_main_v52, val_main_v51, val_main_cst_9, val_main_v50, hz, hy]

theorem ref77 (R : Fin 32768) (q : Fin 2048) : val_main_v77 (F := Ideal) x0 x1 x2 x3 x4 x5 x6 x7 x8 x9 x10 x11 (ix2 R q)
    = normRow (fun q => val_main_v53 (F := Ideal) x0 x1 x2 x3 x4 x5 x6 x7 x8 x9 (ix2 R q)) (fun q => x10 (ix1 q)) (fun q => x11 (ix1 q)) q := by
  generalize hz : val_main_v53 (F := Ideal) x0 x1 x2 x3 x4 x5 x6 x7 x8 x9 = z
  pointwise [val_main_v77, val_main_v76, val_main_v75, val_main_v74, val_main_v73, val_main_v72, val_main_v71, val_main_v70, val_main_v69,
    val_main_v68, val_main_v67, val_main_cst_14, val_main_v66, val_main_v65, val_main_v64, val_main_v63, val_main_cst_13, val_main_v62, val_main_v61,
    val_main_cst_12, val_main_v60, val_main_v59, val_main_v58, val_main_v57, val_main_v56, val_main_cst_11, val_main_v55, val_main_v54, val_main_cst_10,
    normRow, meanRow, hz]

end

/-! The kernel's half of a point, as one function of its operands. -/

open Cert.MixMemIdeal Cert.MixMemIdeal.Gen

/-- The layer norm of a half's rows. -/
def lnv (z : FVec Ideal S256x2048 .f32) (g b : FVec Ideal S1x2048 .f32) : FVec Ideal S256x2048 .f32 := k0_pay30 z (k0_pay28 g) (k0_pay29 b)

theorem lnv_apply (z : FVec Ideal S256x2048 .f32) (g b : FVec Ideal S1x2048 .f32) (r : Fin 256) (q : Fin 2048) :
    lnv z g b (ix2 r q) = normRow (fun q => z (ix2 r q)) (fun q => g (ix2 0 q)) (fun q => b (ix2 0 q)) q := by
  pointwise [lnv, k0_pay30, k0_pay28, k0_pay29, normRow, meanRow]

/-- One head's logits, from the lanes `o …` of the query. -/
def logitv (o : ℕ) (hs : S256x512.Slices ![0, o] S256x128) (q : FVec Ideal S256x512 .bf16) (kt : FVec Ideal S1x1x128x256 .bf16) :
    FVec Ideal S256x256 .f32 :=
  mulf (matmul dot_S256x128_S128x256_S256x256_1_0_0_1_n_n none (extractStridedSlice S256x128 ![0, o] q hs)
    (shapeCast S128x256 kt shapeCasts_S1x1x128x256_S128x256) (constant S256x256 .f32 0x00000000#32))
    (broadcast S256x256 (Scalar.ofBits .f32 0x3DB504F3#32))

theorem logitv_apply (o : ℕ) (ho : o + 128 ≤ 512) (hs : S256x512.Slices ![0, o] S256x128) (q : FVec Ideal S256x512 .bf16)
    (kt : FVec Ideal S1x1x128x256 .bf16) (r n : Fin 256) : logitv o hs q kt (ix2 r n)
      = (∑ d : Fin 128, q (ix2 r ⟨o + d.val, by omega⟩) * kt (ix4 0 0 d n)) * Ideal.ofBits .f32 0x3DB504F3#32 := by
  pointwise [logitv]

theorem head_apply (l : FVec Ideal S256x256 .f32) (v : FVec Ideal S1x1x256x128 .bf16) (r : Fin 256) (d : Fin 128) :
    k0_pay14 (F := Ideal) l v (ix2 r d) = ∑ n, softRow (fun n => l (ix2 r n)) n * v (ix4 0 0 n d) := by
  pointwise [k0_pay14, softRow, topRow]

/-- The four heads side by side. -/
def heads (h0 h1 h2 h3 : FVec Ideal S256x128 .f32) : FVec Ideal S256x512 .f32 :=
  concatenate S256x512 1 [⟨S256x128, h0⟩, ⟨S256x128, h1⟩, ⟨S256x128, h2⟩, ⟨S256x128, h3⟩] concatenates_S256x128_S256x128_S256x128_S256x128_S256x512_d1

theorem heads_apply (u : Fin 4 → FVec Ideal S256x128 .f32) (r : Fin 256) (h : Fin 4) (d : Fin 128) :
    heads (u 0) (u 1) (u 2) (u 3) (ix2 r (lane h d)) = u h (ix2 r d) := by
  unfold heads
  refine concatenate_apply_piece 1 _ _ (ix2 r (lane h d)) h.val ?_ S256x128 (u h) ?_ rfl (h.val * 128) ?_ (ix2 r d) (fun b hb => ?_) ?_
  · fin_cases h <;> simp
  · fin_cases h <;> rfl
  · fin_cases h <;> rfl
  · match b with
    | ⟨0, _⟩ => rfl
    | ⟨1, _⟩ => exact absurd rfl hb
  · rfl

/-- The projection of the four heads beside the residual. -/
def memv (x2 : FVec Ideal S256x2048 .f32) (hd : FVec Ideal S256x512 .f32) (wo : FVec Ideal S512x2048 .bf16) : FVec Ideal S256x2048 .f32 :=
  addf (mulf (broadcast S256x2048 (Scalar.ofBits .f32 0x3F9837F0#32)) x2) (matmul dot_S256x512_S512x2048_S256x2048_1_0_0_1_n_n none
    (truncf .bf16 hd bitsLt_bf16_f32) (shapeCast S512x2048 wo shapeCasts_S512x2048_S512x2048) (constant S256x2048 .f32 0x00000000#32))

theorem memv_apply (x2 : FVec Ideal S256x2048 .f32) (hd : FVec Ideal S256x512 .f32) (wo : FVec Ideal S512x2048 .bf16) (r : Fin 256) (q : Fin 2048) :
    memv x2 hd wo (ix2 r q) = Ideal.ofBits .f32 0x3F9837F0#32 * x2 (ix2 r q) + ∑ K : Fin 512, hd (ix2 r K) * wo (ix2 K q) := by
  pointwise [memv]

theorem hv_apply (x : FVec Ideal S256x2048 .f32) (a g : FVec Ideal S256x1024 .bf16) (wa wg : FVec Ideal S1024x2048 .bf16) (r : Fin 256) (q : Fin 2048) :
    k0_pay3 (F := Ideal) a wa g wg x (ix2 r q) = Ideal.ofBits .f32 0x3F9837F0#32 * x (ix2 r q)
      + ((∑ j : Fin 1024, a (ix2 r j) * wa (ix2 j q)) + ∑ j : Fin 1024, g (ix2 r j) * wg (ix2 j q)) := by
  pointwise [k0_pay3]

theorem qv_apply (x2 : FVec Ideal S256x2048 .f32) (wq : FVec Ideal S2048x512 .bf16) (r : Fin 256) (K : Fin 512) :
    k0_pay11 (F := Ideal) x2 wq (ix2 r K) = ∑ q : Fin 2048, x2 (ix2 r q) * wq (ix2 q K) := by
  pointwise [k0_pay11]

/-- The half's rows after the first layer norm. -/
def midv (x : FVec Ideal S256x2048 .f32) (a g : FVec Ideal S256x1024 .bf16) (wa wg : FVec Ideal S1024x2048 .bf16) (g1 b1 : FVec Ideal S1x2048 .f32) :
    FVec Ideal S256x2048 .f32 := lnv (k0_pay3 a wa g wg x) g1 b1

/-- The half's result. -/
def partv (x : FVec Ideal S256x2048 .f32) (a g : FVec Ideal S256x1024 .bf16) (wa wg : FVec Ideal S1024x2048 .bf16) (wq : FVec Ideal S2048x512 .bf16)
    (wo : FVec Ideal S512x2048 .bf16) (kt : Fin 4 → FVec Ideal S1x1x128x256 .bf16) (v : Fin 4 → FVec Ideal S1x1x256x128 .bf16)
    (g1 b1 g2 b2 : FVec Ideal S1x2048 .f32) : FVec Ideal S256x2048 .f32 :=
  lnv (memv (midv x a g wa wg g1 b1) (heads
    (k0_pay14 (logitv 0 slices_S256x512_o0_0_S256x128 (k0_pay11 (midv x a g wa wg g1 b1) wq) (kt 0)) (v 0))
    (k0_pay14 (logitv 128 slices_S256x512_o0_128_S256x128 (k0_pay11 (midv x a g wa wg g1 b1) wq) (kt 1)) (v 1))
    (k0_pay14 (logitv 256 slices_S256x512_o0_256_S256x128 (k0_pay11 (midv x a g wa wg g1 b1) wq) (kt 2)) (v 2))
    (k0_pay14 (logitv 384 slices_S256x512_o0_384_S256x128 (k0_pay11 (midv x a g wa wg g1 b1) wq) (kt 3)) (v 3))) wo) g2 b2

open Cert.MixMemRefIdeal.Read in
/-- The half's entry is the reference's, where its operands are the arrays' parts. -/
theorem partv_apply (X0 : FVec Ideal S32768x2048 .f32) (X1 X2 : FVec Ideal S32768x1024 .bf16) (X3 : FVec Ideal S2048x2048 .f32)
    (X4 : FVec Ideal S2048x512 .f32) (X5 : FVec Ideal S512x2048 .f32) (X6 X7 : FVec Ideal S2x256x4x128 .f32) (X8 X9 X10 X11 : FVec Ideal S2048 .f32)
    (x : FVec Ideal S256x2048 .f32) (a g : FVec Ideal S256x1024 .bf16) (wa wg : FVec Ideal S1024x2048 .bf16) (wq : FVec Ideal S2048x512 .bf16)
    (wo : FVec Ideal S512x2048 .bf16) (kt : Fin 4 → FVec Ideal S1x1x128x256 .bf16) (v : Fin 4 → FVec Ideal S1x1x256x128 .bf16)
    (g1 b1 g2 b2 : FVec Ideal S1x2048 .f32) (b : Fin 2) (T : Fin 256 → Fin 16384)
    (hx : ∀ r q, x (ix2 r q) = X0 (ix2 (flat b (T r)) q)) (ha : ∀ r j, a (ix2 r j) = X1 (ix2 (flat b (T r)) j))
    (hg : ∀ r j, g (ix2 r j) = X2 (ix2 (flat b (T r)) j)) (hwa : ∀ (j : Fin 1024) q, wa (ix2 j q) = X3 (ix2 ⟨j.val, by omega⟩ q))
    (hwg : ∀ (j : Fin 1024) q, wg (ix2 j q) = X3 (ix2 ⟨1024 + j.val, by omega⟩ q)) (hwq : ∀ q K, wq (ix2 q K) = X4 (ix2 q K))
    (hwo : ∀ K q, wo (ix2 K q) = X5 (ix2 K q)) (hk : ∀ h d n, kt h (ix4 0 0 d n) = X6 (ix4 b n h d)) (hv : ∀ h n d, v h (ix4 0 0 n d) = X7 (ix4 b n h d))
    (h8 : ∀ q, g1 (ix2 0 q) = X8 (ix1 q)) (h9 : ∀ q, b1 (ix2 0 q) = X9 (ix1 q)) (h10 : ∀ q, g2 (ix2 0 q) = X10 (ix1 q)) (h11 : ∀ q, b2 (ix2 0 q) = X11 (ix1 q))
    (r : Fin 256) (q : Fin 2048) : partv x a g wa wg wq wo kt v g1 b1 g2 b2 (ix2 r q)
      = val_main_v77 (F := Ideal) X0 X1 X2 X3 X4 X5 X6 X7 X8 X9 X10 X11 (ix2 (flat b (T r)) q) := by
  have e29 (q : Fin 2048) : midv x a g wa wg g1 b1 (ix2 r q) = val_main_v29 (F := Ideal) X0 X1 X2 X3 X8 X9 (ix2 (flat b (T r)) q) := by
    unfold midv
    rw [lnv_apply, ref29]
    simp only [hv_apply, ref5, hx, ha, hg, hwa, hwg, h8, h9]
  have e30 (K : Fin 512) : k0_pay11 (F := Ideal) (midv x a g wa wg g1 b1) wq (ix2 r K)
      = val_main_v30 (F := Ideal) X0 X1 X2 X3 X4 X8 X9 (ix2 (flat b (T r)) K) := by
    rw [qv_apply, ref30]
    simp only [e29, hwq]
  have e35 (h : Fin 4) (o : ℕ) (ho : o = h.val * 128) (hs : S256x512.Slices ![0, o] S256x128) (n : Fin 256) :
      logitv o hs (k0_pay11 (midv x a g wa wg g1 b1) wq) (kt h) (ix2 r n)
        = val_main_v35 (F := Ideal) X0 X1 X2 X3 X4 X6 X8 X9 (ix4 b (T r) h n) := by
    subst ho
    rw [logitv_apply _ (by omega), ref35]
    simp only [e30, hk]
  have e49 (h : Fin 4) (o : ℕ) (ho : o = h.val * 128) (hs : S256x512.Slices ![0, o] S256x128) (d : Fin 128) :
      k0_pay14 (F := Ideal) (logitv o hs (k0_pay11 (midv x a g wa wg g1 b1) wq) (kt h)) (v h) (ix2 r d)
        = val_main_v49 (F := Ideal) X0 X1 X2 X3 X4 X6 X7 X8 X9 (ix2 (flat b (T r)) (lane h d)) := by
    rw [head_apply, ref49]
    simp only [e35 h o ho hs, hv]
  unfold partv
  rw [lnv_apply, ref77]
  simp only [memv_apply, ref53, e29, hwo, h10, h11]
  refine congrArg (fun f => normRow f _ _ q) (funext fun q => ?_)
  congr 1
  refine Finset.sum_congr rfl fun K _ => ?_
  congr 1
  obtain ⟨h, d, rfl⟩ : ∃ (h : Fin 4) (d : Fin 128), K = lane h d :=
    ⟨⟨K.val / 128, by omega⟩, ⟨K.val % 128, by omega⟩, Fin.ext (by show K.val = K.val / 128 * 128 + K.val % 128; omega)⟩
  refine (heads_apply ![k0_pay14 (logitv 0 slices_S256x512_o0_0_S256x128 (k0_pay11 (midv x a g wa wg g1 b1) wq) (kt 0)) (v 0),
    k0_pay14 (logitv 128 slices_S256x512_o0_128_S256x128 (k0_pay11 (midv x a g wa wg g1 b1) wq) (kt 1)) (v 1),
    k0_pay14 (logitv 256 slices_S256x512_o0_256_S256x128 (k0_pay11 (midv x a g wa wg g1 b1) wq) (kt 2)) (v 2),
    k0_pay14 (logitv 384 slices_S256x512_o0_384_S256x128 (k0_pay11 (midv x a g wa wg g1 b1) wq) (kt 3)) (v 3)] r h d).trans ?_
  match h with
  | 0 => exact e49 0 0 rfl _ d
  | 1 => exact e49 1 128 rfl _ d
  | 2 => exact e49 2 256 rfl _ d
  | 3 => exact e49 3 384 rfl _ d

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val / 32, 0, 0, 0] ∧ win0_8.index t = ![t.val / 32, 0, 0, 0] ∧ win0_9.index t = ![0, 0] ∧ win0_10.index t = ![0, 0]
    ∧ win0_11.index t = ![0, 0] ∧ win0_12.index t = ![0, 0] ∧ win0_13.index t = ![t.val, 0] ∧ t.val < 64 :=
  (by decide +kernel : ∀ t : Fin grid0.N, _)

theorem lt64 (t : Fin cfg0.N) : t.val < 64 := (idx t).2.2.2.2.2.2.2.2.2.2.2.2.2.2

/-- The row of the whole array that row `r` of point `t`'s block is. -/
abbrev row (t : Fin cfg0.N) (r : Fin 512) : Fin 32768 := ⟨t.val * 512 + r.val, by have := lt64 t; omega⟩

/-- The batch of a point. -/
abbrev bat (t : Fin cfg0.N) : Fin 2 := ⟨t.val / 32, by have := lt64 t; omega⟩

theorem read0 (c : Dev nD) (t : Fin cfg0.N) (r : Fin 512) (q : Fin 2048) : (iblk m c 0 t : FVec Ideal S512x2048 .f32) (ix2 r q)
    = (m ((c : Thread nD τ).loc main_arg0) : FVec Ideal S32768x2048 .f32) (ix2 (row t r) q) := by
  blk_ext [iblk, V, (idx t).1]

theorem read1 (c : Dev nD) (t : Fin cfg0.N) (r : Fin 512) (q : Fin 1024) : (iblk m c 1 t : FVec Ideal S512x1024 .bf16) (ix2 r q)
    = (m ((c : Thread nD τ).loc main_arg1) : FVec Ideal S32768x1024 .bf16) (ix2 (row t r) q) := by
  blk_ext [iblk, V, (idx t).2.1]

theorem read2 (c : Dev nD) (t : Fin cfg0.N) (r : Fin 512) (q : Fin 1024) : (iblk m c 2 t : FVec Ideal S512x1024 .bf16) (ix2 r q)
    = (m ((c : Thread nD τ).loc main_arg2) : FVec Ideal S32768x1024 .bf16) (ix2 (row t r) q) := by
  blk_ext [iblk, V, (idx t).2.2.1]

theorem read3 (c : Dev nD) (t : Fin cfg0.N) (j : Fin 1024) (q : Fin 2048) : (iblk m c 3 t : FVec Ideal S1024x2048 .bf16) (ix2 j q)
    = (m ((c : Thread nD τ).loc main_arg3) : FVec Ideal S2048x2048 .f32) (ix2 ⟨j.val, by omega⟩ q) := by
  blk_simp [iblk, (idx t).2.2.2.1]
  entry_read
  pointwise
  blk_ext [(idx t).2.2.2.1, Nat.zero_add]

theorem read4 (c : Dev nD) (t : Fin cfg0.N) (j : Fin 1024) (q : Fin 2048) : (iblk m c 4 t : FVec Ideal S1024x2048 .bf16) (ix2 j q)
    = (m ((c : Thread nD τ).loc main_arg3) : FVec Ideal S2048x2048 .f32) (ix2 ⟨1024 + j.val, by omega⟩ q) := by
  blk_simp [iblk, (idx t).2.2.2.2.1]
  entry_read
  pointwise
  blk_ext [(idx t).2.2.2.2.1, Nat.zero_add]

theorem read5 (c : Dev nD) (t : Fin cfg0.N) (q : Fin 2048) (K : Fin 512) : (iblk m c 5 t : FVec Ideal S2048x512 .bf16) (ix2 q K)
    = (m ((c : Thread nD τ).loc main_arg4) : FVec Ideal S2048x512 .f32) (ix2 q K) := by
  blk_simp [iblk, (idx t).2.2.2.2.2.1]
  entry_read
  pointwise
  blk_ext [(idx t).2.2.2.2.2.1]

theorem read6 (c : Dev nD) (t : Fin cfg0.N) (K : Fin 512) (q : Fin 2048) : (iblk m c 6 t : FVec Ideal S512x2048 .bf16) (ix2 K q)
    = (m ((c : Thread nD τ).loc main_arg5) : FVec Ideal S512x2048 .f32) (ix2 K q) := by
  blk_simp [iblk, (idx t).2.2.2.2.2.2.1]
  entry_read
  pointwise
  blk_ext [(idx t).2.2.2.2.2.2.1]

theorem read7 (c : Dev nD) (t : Fin cfg0.N) (h : Fin 4) (d : Fin 128) (n : Fin 256) : (iblk m c 7 t : FVec Ideal S1x4x128x256 .bf16) (ix4 0 h d n)
    = (m ((c : Thread nD τ).loc main_arg6) : FVec Ideal S2x256x4x128 .f32) (ix4 (bat t) n h d) := by
  blk_simp [iblk, (idx t).2.2.2.2.2.2.2.1]
  entry_read
  pointwise
  blk_ext [(idx t).2.2.2.2.2.2.2.1]

theorem read8 (c : Dev nD) (t : Fin cfg0.N) (h : Fin 4) (n : Fin 256) (d : Fin 128) : (iblk m c 8 t : FVec Ideal S1x4x256x128 .bf16) (ix4 0 h n d)
    = (m ((c : Thread nD τ).loc main_arg7) : FVec Ideal S2x256x4x128 .f32) (ix4 (bat t) n h d) := by
  blk_simp [iblk, (idx t).2.2.2.2.2.2.2.2.1]
  entry_read
  pointwise
  blk_ext [(idx t).2.2.2.2.2.2.2.2.1]

theorem read9 (c : Dev nD) (t : Fin cfg0.N) (q : Fin 2048) : (iblk m c 9 t : FVec Ideal S1x2048 .f32) (ix2 0 q)
    = (m ((c : Thread nD τ).loc main_arg8) : FVec Ideal S2048 .f32) (ix1 q) := by
  blk_simp [iblk, (idx t).2.2.2.2.2.2.2.2.2.1]
  entry_read
  pointwise
  blk_ext [(idx t).2.2.2.2.2.2.2.2.2.1]

theorem read10 (c : Dev nD) (t : Fin cfg0.N) (q : Fin 2048) : (iblk m c 10 t : FVec Ideal S1x2048 .f32) (ix2 0 q)
    = (m ((c : Thread nD τ).loc main_arg9) : FVec Ideal S2048 .f32) (ix1 q) := by
  blk_simp [iblk, (idx t).2.2.2.2.2.2.2.2.2.2.1]
  entry_read
  pointwise
  blk_ext [(idx t).2.2.2.2.2.2.2.2.2.2.1]

theorem read11 (c : Dev nD) (t : Fin cfg0.N) (q : Fin 2048) : (iblk m c 11 t : FVec Ideal S1x2048 .f32) (ix2 0 q)
    = (m ((c : Thread nD τ).loc main_arg10) : FVec Ideal S2048 .f32) (ix1 q) := by
  blk_simp [iblk, (idx t).2.2.2.2.2.2.2.2.2.2.2.1]
  entry_read
  pointwise
  blk_ext [(idx t).2.2.2.2.2.2.2.2.2.2.2.1]

theorem read12 (c : Dev nD) (t : Fin cfg0.N) (q : Fin 2048) : (iblk m c 12 t : FVec Ideal S1x2048 .f32) (ix2 0 q)
    = (m ((c : Thread nD τ).loc main_arg11) : FVec Ideal S2048 .f32) (ix1 q) := by
  blk_simp [iblk, (idx t).2.2.2.2.2.2.2.2.2.2.2.2.1]
  entry_read
  pointwise
  blk_ext [(idx t).2.2.2.2.2.2.2.2.2.2.2.2.1]

/-- The reference's result from the kernel's arguments. -/
abbrev goal (c : Dev nD) : FVec Ideal S32768x2048 .f32 := Cert.MixMemRefIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The keys of the memory, head by head. -/
abbrev keys (x7 : Vec Ideal S1x4x128x256 .bf16) : Fin 4 → FVec Ideal S1x1x128x256 .bf16 :=
  ![View.ld x7 r0_7, View.ld x7 r0_9, View.ld x7 r0_11, View.ld x7 r0_13]

/-- The values of the memory, head by head. -/
abbrev vals (x8 : Vec Ideal S1x4x256x128 .bf16) : Fin 4 → FVec Ideal S1x1x256x128 .bf16 :=
  ![View.ld x8 r0_8, View.ld x8 r0_10, View.ld x8 r0_12, View.ld x8 r0_14]

theorem keys_apply (x7 : Vec Ideal S1x4x128x256 .bf16) (h : Fin 4) (d : Fin 128) (n : Fin 256) : keys x7 h (ix4 0 0 d n) = x7 (ix4 0 h d n) := by
  match h with
  | 0 => exact View.ld_unit_apply_of x7 _ _ _ _ _ (fun a => by fin_cases a <;> simp)
  | 1 => exact View.ld_unit_apply_of x7 _ _ _ _ _ (fun a => by fin_cases a <;> simp)
  | 2 => exact View.ld_unit_apply_of x7 _ _ _ _ _ (fun a => by fin_cases a <;> simp)
  | 3 => exact View.ld_unit_apply_of x7 _ _ _ _ _ (fun a => by fin_cases a <;> simp)

theorem vals_apply (x8 : Vec Ideal S1x4x256x128 .bf16) (h : Fin 4) (n : Fin 256) (d : Fin 128) : vals x8 h (ix4 0 0 n d) = x8 (ix4 0 h n d) := by
  match h with
  | 0 => exact View.ld_unit_apply_of x8 _ _ _ _ _ (fun a => by fin_cases a <;> simp)
  | 1 => exact View.ld_unit_apply_of x8 _ _ _ _ _ (fun a => by fin_cases a <;> simp)
  | 2 => exact View.ld_unit_apply_of x8 _ _ _ _ _ (fun a => by fin_cases a <;> simp)
  | 3 => exact View.ld_unit_apply_of x8 _ _ _ _ _ (fun a => by fin_cases a <;> simp)

/-- A rectangle of rows from `o`, read at an entry. -/
theorem ld_rows {R n p : ℕ} {e : EltTy} (X : Vec Ideal ⟨2, ![R, n]⟩ e) (o : ℕ)
    (inb : ∀ a, ![o, 0] a + ![p, n] a ≤ (⟨2, ![R, n]⟩ : Shape).size a) (r : Fin p) (q : Fin n) (i : Fin R) (hi : i.val = o + r.val) :
    View.ld X (Rect.unit (s := ⟨2, ![R, n]⟩) ![o, 0] ![p, n] inb) (ix2 r q) = X (ix2 i q) :=
  View.ld_unit_apply_of X _ _ _ _ _ (fun a => by
    match a with
    | ⟨0, _⟩ => exact hi
    | ⟨1, _⟩ => exact (Nat.zero_add _).symm)

/-- What a half of a point's block holds, its rows from `o`. -/
theorem part_point (c : Dev nD) (t : Fin cfg0.N) (o : ℕ) (ho : o + 256 ≤ 512)
    (x : FVec Ideal S256x2048 .f32) (a g : FVec Ideal S256x1024 .bf16)
    (hx : ∀ r q, x (ix2 r q) = (iblk m c 0 t : FVec Ideal S512x2048 .f32) (ix2 ⟨o + r.val, by omega⟩ q))
    (ha : ∀ r q, a (ix2 r q) = (iblk m c 1 t : FVec Ideal S512x1024 .bf16) (ix2 ⟨o + r.val, by omega⟩ q))
    (hg : ∀ r q, g (ix2 r q) = (iblk m c 2 t : FVec Ideal S512x1024 .bf16) (ix2 ⟨o + r.val, by omega⟩ q)) (r : Fin 256) (q : Fin 2048) :
    partv x a g (View.ld (iblk m c 3 t) r0_1) (View.ld (iblk m c 4 t) r0_1) (View.ld (iblk m c 5 t) r0_6) (View.ld (iblk m c 6 t) r0_15)
      (keys (iblk m c 7 t)) (vals (iblk m c 8 t)) (View.ld (iblk m c 9 t) r0_4) (View.ld (iblk m c 10 t) r0_4) (View.ld (iblk m c 11 t) r0_4)
      (View.ld (iblk m c 12 t) r0_4) (ix2 r q) = goal m c (ix2 (row t ⟨o + r.val, by omega⟩) q) := by
  have ht := lt64 t
  have hr (r : Fin 256) : row t ⟨o + r.val, by omega⟩ = flat (bat t) ⟨t.val % 32 * 512 + (o + r.val), by omega⟩ :=
    Fin.ext (by show t.val * 512 + (o + r.val) = t.val / 32 * 16384 + (t.val % 32 * 512 + (o + r.val)); omega)
  rw [hr]
  refine partv_apply _ _ _ _ _ _ _ _ _ _ _ _ _ _ _ _ _ _ _ _ _ _ _ _ _ (bat t) (fun r => ⟨t.val % 32 * 512 + (o + r.val), by omega⟩)
    (fun r q => ?_) (fun r q => ?_) (fun r q => ?_) (fun j q => ?_) (fun j q => ?_) (fun j q => ?_) (fun j q => ?_) (fun h d n => ?_) (fun h n d => ?_)
    (fun q => ?_) (fun q => ?_) (fun q => ?_) (fun q => ?_) r q
  · exact ((hx r q).trans (read0 m c t _ q)).trans (by rw [hr])
  · exact ((ha r q).trans (read1 m c t _ q)).trans (by rw [hr])
  · exact ((hg r q).trans (read2 m c t _ q)).trans (by rw [hr])
  · exact (ld_rows _ 0 _ j q j (Nat.zero_add _).symm).trans (read3 m c t j q)
  · exact (ld_rows _ 0 _ j q j (Nat.zero_add _).symm).trans (read4 m c t j q)
  · exact (ld_rows _ 0 _ j q j (Nat.zero_add _).symm).trans (read5 m c t j q)
  · exact (ld_rows _ 0 _ j q j (Nat.zero_add _).symm).trans (read6 m c t j q)
  · exact (keys_apply _ h d n).trans (read7 m c t h d n)
  · exact (vals_apply _ h n d).trans (read8 m c t h n d)
  · exact (ld_rows _ 0 _ 0 q 0 rfl).trans (read9 m c t q)
  · exact (ld_rows _ 0 _ 0 q 0 rfl).trans (read10 m c t q)
  · exact (ld_rows _ 0 _ 0 q 0 rfl).trans (read11 m c t q)
  · exact (ld_rows _ 0 _ 0 q 0 rfl).trans (read12 m c t q)

/-- Where an entry of a half lies. -/
theorem emb_rows (t : Fin cfg0.N) (o : ℕ) (ho : o + 256 ≤ 512) (inb : ∀ a, ![o, 0] a + ![256, 2048] a ≤ S512x2048.size a) (r : Fin 256) (q : Fin 2048) :
    (Rect.unit (s := S512x2048) ![o, 0] ![256, 2048] inb).emb (ix2 r q) = ix2 (⟨o + r.val, by omega⟩ : Fin 512) q := by
  funext a
  match a with
  | ⟨0, _⟩ => apply Fin.ext; show o + 1 * r.val = o + r.val; omega
  | ⟨1, _⟩ => apply Fin.ext; show 0 + 1 * q.val = q.val; omega

/-- The block a point should leave. -/
abbrev goalBlk (c : Dev nD) (t : Fin cfg0.N) (y : S512x2048.Idx) : Elt Ideal .f32 := goal m c (ix2 (row t (y 0)) (y 1))

/-- A piece of rows from `o` holds the block's rows from `o`. -/
theorem piece_point (c : Dev nD) (t : Fin cfg0.N) (o : ℕ) (ho : o + 256 ≤ 512) (inb : ∀ a, ![o, 0] a + ![256, 2048] a ≤ S512x2048.size a)
    (P : FVec Ideal S256x2048 .f32) (hP : ∀ r q, P (ix2 r q) = goal m c (ix2 (row t ⟨o + r.val, by omega⟩) q)) (x : S256x2048.Idx) :
    P x = goalBlk m c t ((Rect.unit (s := S512x2048) ![o, 0] ![256, 2048] inb).emb x) := by
  obtain ⟨r, q, rfl⟩ : ∃ (r : Fin 256) (q : Fin 2048), x = ix2 r q := ⟨x 0, x 1, eq_ix2 x⟩
  rw [emb_rows t o ho inb r q]
  exact hP r q

/-- Two pieces, one for each half, make the block. -/
theorem halves_point (c : Dev nD) (t : Fin cfg0.N) (P1 P0 : FVec Ideal S256x2048 .f32)
    (h1 : ∀ r q, P1 (ix2 r q) = goal m c (ix2 (row t ⟨256 + r.val, by omega⟩) q)) (h0 : ∀ r q, P0 (ix2 r q) = goal m c (ix2 (row t ⟨0 + r.val, by omega⟩) q))
    (r : Fin 512) (q : Fin 2048) :
    View.canon (Val := Elt Ideal) (s := S512x2048) (e := .f32) [⟨r0_5, P1⟩, ⟨r0_3, P0⟩] (ix2 r q) = goal m c (ix2 (row t r) q) := by
  refine View.canon_apply_of_pieces (Val := Elt Ideal) (e := .f32) (goalBlk m c t) _ (fun p hp => ?_) (ix2 r q) (cover0_13 _ _ _)
  rcases List.mem_cons.mp hp with rfl | hp
  · exact piece_point m c t 256 (by omega) inb_S512x2048_S256x2048_256_0 P1 h1
  · obtain rfl := List.mem_singleton.mp hp
    exact piece_point m c t 0 (by omega) inb_S512x2048_S256x2048_0_0 P0 h0

/-- A point's block is its two halves. -/
theorem out_eq (x0 : Vec Ideal S512x2048 .f32) (x1 x2 : Vec Ideal S512x1024 .bf16) (x3 x4 : Vec Ideal S1024x2048 .bf16) (x5 : Vec Ideal S2048x512 .bf16)
    (x6 : Vec Ideal S512x2048 .bf16) (x7 : Vec Ideal S1x4x128x256 .bf16) (x8 : Vec Ideal S1x4x256x128 .bf16) (x9 x10 x11 x12 : Vec Ideal S1x2048 .f32) :
    out0_13 (F := Ideal) x0 x1 x2 x3 x4 x5 x6 x7 x8 x9 x10 x11 x12 = View.canon (Val := Elt Ideal) (s := S512x2048) (e := .f32)
      [⟨r0_5, partv (View.ld x0 r0_5) (View.ld x1 r0_2) (View.ld x2 r0_2) (View.ld x3 r0_1) (View.ld x4 r0_1) (View.ld x5 r0_6) (View.ld x6 r0_15) (keys x7) (vals x8)
        (View.ld x9 r0_4) (View.ld x10 r0_4) (View.ld x11 r0_4) (View.ld x12 r0_4)⟩,
       ⟨r0_3, partv (View.ld x0 r0_3) (View.ld x1 r0_0) (View.ld x2 r0_0) (View.ld x3 r0_1) (View.ld x4 r0_1) (View.ld x5 r0_6) (View.ld x6 r0_15) (keys x7) (vals x8)
        (View.ld x9 r0_4) (View.ld x10 r0_4) (View.ld x11 r0_4) (View.ld x12 r0_4)⟩] := by
  unfold_out out0_13
  rfl

/-- The block of a point, at an entry. -/
theorem out_point (c : Dev nD) (t : Fin cfg0.N) (r : Fin 512) (q : Fin 2048) :
    out0_13 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 r q) = goal m c (ix2 (row t r) q) := by
  rw [out_eq]
  have h1 := part_point m c t 256 (by omega) (View.ld (iblk m c 0 t) r0_5) (View.ld (iblk m c 1 t) r0_2)
      (View.ld (iblk m c 2 t) r0_2) (fun r q => ld_rows _ _ _ r q _ rfl) (fun r q => ld_rows _ _ _ r q _ rfl) (fun r q => ld_rows _ _ _ r q _ rfl)
  have h0 := part_point m c t 0 (by omega) (View.ld (iblk m c 0 t) r0_3) (View.ld (iblk m c 1 t) r0_0)
      (View.ld (iblk m c 2 t) r0_0) (fun r q => ld_rows _ _ _ r q _ rfl) (fun r q => ld_rows _ _ _ r q _ rfl) (fun r q => ld_rows _ _ _ r q _ rfl)
  refine halves_point m c t _ _ h1 h0 r q

/-- The result array is the reference's. -/
theorem final (c : Dev nD) : (dats m 0 c).arrAt 13 (cfgs 0).N = goal m c := by
  refine (dats m 0 c).arrAt_eq_of_covers 13 _ (by decide +kernel) fun t hf y => ?_
  obtain ⟨r, q, rfl⟩ : ∃ (r : Fin 512) (q : Fin 2048), y = ix2 r q := ⟨y 0, y 1, eq_ix2 y⟩
  have he : (((cfg0.win 13).blk t).view.emb (ix2 r q)) = ix2 (row t r) q := by
    blk_ext [(idx t).2.2.2.2.2.2.2.2.2.2.2.2.2.1]
  rw [he, ← out_point m c t]
  blk_simp
  rw [after0_13]

end Cert.MixMemIdeal.Hand

namespace Cert.Proof

/-- The kernel and the reference end with the same array. -/
theorem mixmem_algebraic : Cert.algebraic_MixMemIdeal_MixMemRefIdeal
    (hMixMemIdeal := Cert.MixMemIdeal.Gen.facts) (hMixMemRefIdeal := Cert.MixMemRefIdeal.Gen.facts) := by
  pair_intro
  · run_from Cert.MixMemIdeal.Value.run_blocks m g
  · run_from Cert.MixMemRefIdeal.Value.run m' g'
    obtain ⟨a0, a1, a2, a3, a4, a5, a6, a7, a8, a9, a10, a11⟩ := hagree c
    rw [← a10, ← a11]
    refine (Cert.MixMemRefIdeal.Read.val_main_v77_eq (StableHlo.launchContents m' c)).trans (Eq.trans ?_ (Cert.MixMemIdeal.Hand.final m c).symm)
    unfold Cert.MixMemIdeal.Hand.goal
    rw [← a0, ← a1, ← a2, ← a3, ← a4, ← a5, ← a6, ← a7, ← a8, ← a9, ← a10, ← a11]

end Cert.Proof

end
-- ==== Proof.ProjAttnSampleValue.lean ====
/-
  Hand-written, untrusted. The input projection on the sample batch (`ProjAttnSampleIdeal`): the call of `ProjAttnIdeal` at 512 rows, one point. Of its
  six results the keys, the values and the small block are claimed, as they are the sample batch's results of the layer.
-/
module

public import proofs.«01_k».proof.Defs
public import proofs.«01_k».proof.Proof.ProjAttnValue
public import proofs.«01_k».proof.Proof.Gen.ProjAttnSampleIdeal.Value
public import proofs.«01_k».proof.Proof.Gen.ProjAttnSampleRefIdeal.Run
public import proofs.«01_k».proof.Proof.Gen.ProjAttnSampleRefIdeal.Read
public import Idealize.ShloMosaic.Lib.Routing.OpsOrder
public import Idealize.ShloMosaic.Lib.Routing.OpsPair
public import Idealize.ShloMosaic.Lib.Routing.OpsSet
public import Idealize.ShloMosaic.Lib.StableHlo.RunRead
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjAttnSampleIdeal.Hand

open Cert.ProjAttnSampleIdeal Cert.ProjAttnSampleIdeal.Gen
open Cert.ProjAttnIdeal.Hand (small joined joined_apply)

variable (m : (ℓ : Loc nD τ sig) → Buf (Elt Ideal) ℓ)

/-- The reference's whole product. -/
abbrev whole (x : FVec Ideal S512x2048 .f32) (w : FVec Ideal S2048x5728 .f32) : FVec Ideal Cert.ProjAttnSampleRefIdeal.S512x5728 .f32 :=
  Host.dotGeneral Cert.ProjAttnSampleRefIdeal.dot_S512x2048_S2048x5728_S512x5728_1_0_0_1_n_n none x w

/-- The reference's results. -/
abbrev refK (x : FVec Ideal S512x2048 .f32) (w : FVec Ideal S2048x5728 .f32) : FVec Ideal S512x256 .f32 :=
  extractStridedSlice S512x256 ![0, 1024] (whole x w) Cert.ProjAttnSampleRefIdeal.Gen.slices_S512x5728_S512x256_0_1024
abbrev refV (x : FVec Ideal S512x2048 .f32) (w : FVec Ideal S2048x5728 .f32) : FVec Ideal S512x256 .f32 :=
  extractStridedSlice S512x256 ![0, 1280] (whole x w) Cert.ProjAttnSampleRefIdeal.Gen.slices_S512x5728_S512x256_0_1280
abbrev refS (x : FVec Ideal S512x2048 .f32) (w : FVec Ideal S2048x5728 .f32) : FVec Ideal S512x128 .f32 :=
  Cert.ProjAttnSampleRefIdeal.Read.val_main_v13 (F := Ideal) x w

theorem idx : ∀ t : Fin cfg0.N, (win0_0.index t = ![0, 0] ∧ win0_2.index t = ![0, 0] ∧ win0_3.index t = ![0, 0] ∧ win0_5.index t = ![0, 0])
    ∧ win0_9.index t = ![0, 0] ∧ win0_10.index t = ![0, 0] ∧ win0_12.index t = ![0, 0] :=
  (by decide +kernel : ∀ t : Fin grid0.N, _)

theorem read0 (c : Dev nD) (t : Fin cfg0.N) (r : Fin 512) (q : Fin 2048) : (iblk m c 0 t : FVec Ideal S512x2048 .f32) (ix2 r q)
    = (m ((c : Thread nD τ).loc main_arg0) : FVec Ideal S512x2048 .f32) (ix2 r q) := by
  blk_ext [iblk, V, (idx t).1.1]

theorem read2 (c : Dev nD) (t : Fin cfg0.N) (q : Fin 2048) (k : Fin 256) : (iblk m c 2 t : FVec Ideal S2048x256 .bf16) (ix2 q k)
    = (m ((c : Thread nD τ).loc main_arg1) : FVec Ideal S2048x5728 .f32) (ix2 q ⟨1024 + k.val, by omega⟩) := by
  blk_simp [iblk, (idx t).1.2.1]
  entry_read
  pointwise
  blk_ext [(idx t).1.2.1]

theorem pointK (c : Dev nD) (t : Fin cfg0.N) (r : Fin 512) (k : Fin 256) : k0_pay4 (F := Ideal) (iblk m c 0 t) (iblk m c 2 t) (ix2 r k)
    = refK (m ((c : Thread nD τ).loc main_arg0)) (m ((c : Thread nD τ).loc main_arg1)) (ix2 r k) := by
  pointwise [k0_pay4, k0_pay2, refK, whole]
  simp only [read0, read2, Nat.zero_add]

theorem finalK (c : Dev nD) : (dats m 0 c).arrAt 9 (cfgs 0).N
    = refK (m ((c : Thread nD τ).loc main_arg0)) (m ((c : Thread nD τ).loc main_arg1)) := by
  refine (dats m 0 c).arrAt_eq_of_covers 9 _ (by decide +kernel) fun t hf y => ?_
  obtain ⟨r, k, rfl⟩ : ∃ (r : Fin 512) (k : Fin 256), y = ix2 r k := ⟨y 0, y 1, eq_ix2 y⟩
  have he : (((cfg0.win 9).blk t).view.emb (ix2 r k)) = ix2 r k := by
    blk_ext [(idx t).2.1]
  rw [he, ← pointK m c t]
  blk_simp
  rw [after0_9]
  frame_out

theorem read3 (c : Dev nD) (t : Fin cfg0.N) (q : Fin 2048) (k : Fin 256) : (iblk m c 3 t : FVec Ideal S2048x256 .bf16) (ix2 q k)
    = (m ((c : Thread nD τ).loc main_arg1) : FVec Ideal S2048x5728 .f32) (ix2 q ⟨1280 + k.val, by omega⟩) := by
  blk_simp [iblk, (idx t).1.2.2.1]
  entry_read
  pointwise
  blk_ext [(idx t).1.2.2.1]

theorem pointV (c : Dev nD) (t : Fin cfg0.N) (r : Fin 512) (k : Fin 256) : k0_pay5 (F := Ideal) (iblk m c 0 t) (iblk m c 3 t) (ix2 r k)
    = refV (m ((c : Thread nD τ).loc main_arg0)) (m ((c : Thread nD τ).loc main_arg1)) (ix2 r k) := by
  pointwise [k0_pay5, k0_pay2, refV, whole]
  simp only [read0, read3, Nat.zero_add]

theorem finalV (c : Dev nD) : (dats m 0 c).arrAt 10 (cfgs 0).N
    = refV (m ((c : Thread nD τ).loc main_arg0)) (m ((c : Thread nD τ).loc main_arg1)) := by
  refine (dats m 0 c).arrAt_eq_of_covers 10 _ (by decide +kernel) fun t hf y => ?_
  obtain ⟨r, k, rfl⟩ : ∃ (r : Fin 512) (k : Fin 256), y = ix2 r k := ⟨y 0, y 1, eq_ix2 y⟩
  have he : (((cfg0.win 10).blk t).view.emb (ix2 r k)) = ix2 r k := by
    blk_ext [(idx t).2.2.1]
  rw [he, ← pointV m c t]
  blk_simp
  rw [after0_10]
  frame_out

section
open Idealize.ShloMosaic.StableHlo

/-- The small block of the weight as the host makes it. -/
theorem small_eq (c : Dev nD) : (V m c main_v23 : FVec Ideal S2048x128 .bf16) = joined concatenates_S2048x64_S2048x16_S2048x16_S2048x32_S2048x128_d1
    (truncf .bf16 (extractStridedSlice S2048x64 ![0, 2560] (m ((c : Thread nD τ).loc main_arg1) : FVec Ideal S2048x5728 .f32) slices_S2048x5728_S2048x64_0_2560) bitsLt_bf16_f32 : FVec Ideal S2048x64 .bf16)
    (truncf .bf16 (extractStridedSlice S2048x16 ![0, 2624] (m ((c : Thread nD τ).loc main_arg1) : FVec Ideal S2048x5728 .f32) slices_S2048x5728_S2048x16_0_2624) bitsLt_bf16_f32 : FVec Ideal S2048x16 .bf16)
    (truncf .bf16 (extractStridedSlice S2048x16 ![0, 4688] (m ((c : Thread nD τ).loc main_arg1) : FVec Ideal S2048x5728 .f32) slices_S2048x5728_S2048x16_0_4688) bitsLt_bf16_f32 : FVec Ideal S2048x16 .bf16)
    (broadcastInDim S2048x32 ![] bcast_S_S2048x32 (constant S_ .bf16 0#16) : FVec Ideal S2048x32 .bf16) := by
  refine (after_last_write (i := 24) [main_cst_0, main_v24, main_v25, main_c, main_v26, main_v27, main_v28] rfl rfl (by decide) _).trans ?_
  rw [nary_result]
  have h9 : upto hostOps0 (fun b => m (c, b)) 24 (Proc.devRef .tc main_v9) = (truncf .bf16 (extractStridedSlice S2048x64 ![0, 2560] (m ((c : Thread nD τ).loc main_arg1) : FVec Ideal S2048x5728 .f32) slices_S2048x5728_S2048x64_0_2560) bitsLt_bf16_f32 : FVec Ideal S2048x64 .bf16) := by
    after_reads_simp
    try rfl
  have h11 : upto hostOps0 (fun b => m (c, b)) 24 (Proc.devRef .tc main_v11) = (truncf .bf16 (extractStridedSlice S2048x16 ![0, 2624] (m ((c : Thread nD τ).loc main_arg1) : FVec Ideal S2048x5728 .f32) slices_S2048x5728_S2048x16_0_2624) bitsLt_bf16_f32 : FVec Ideal S2048x16 .bf16) := by
    after_reads_simp
    try rfl
  have h19 : upto hostOps0 (fun b => m (c, b)) 24 (Proc.devRef .tc main_v19) = (truncf .bf16 (extractStridedSlice S2048x16 ![0, 4688] (m ((c : Thread nD τ).loc main_arg1) : FVec Ideal S2048x5728 .f32) slices_S2048x5728_S2048x16_0_4688) bitsLt_bf16_f32 : FVec Ideal S2048x16 .bf16) := by
    after_reads_simp
    try rfl
  have h22 : upto hostOps0 (fun b => m (c, b)) 24 (Proc.devRef .tc main_v22) = (broadcastInDim S2048x32 ![] bcast_S_S2048x32 (constant S_ .bf16 0#16) : FVec Ideal S2048x32 .bf16) := by
    after_reads_simp
    try rfl
  show joined concatenates_S2048x64_S2048x16_S2048x16_S2048x32_S2048x128_d1 (upto hostOps0 (fun b => m (c, b)) 24 (Proc.devRef .tc main_v9))
    (upto hostOps0 (fun b => m (c, b)) 24 (Proc.devRef .tc main_v11)) (upto hostOps0 (fun b => m (c, b)) 24 (Proc.devRef .tc main_v19))
    (upto hostOps0 (fun b => m (c, b)) 24 (Proc.devRef .tc main_v22)) = _
  rw [h9, h11, h19, h22]

end

theorem read5 (c : Dev nD) (t : Fin cfg0.N) (q : Fin 2048) (k : Fin 128) : (iblk m c 5 t : FVec Ideal S2048x128 .bf16) (ix2 q k)
    = small (m ((c : Thread nD τ).loc main_arg1)) q k := by
  have e : ((cfg0.win 5).blk t).view.emb (ix2 q k) = ix2 q k := by blk_ext [(idx t).1.2.2.2]
  blk_simp [iblk]
  rw [e]
  refine (congrFun (small_eq m c) (ix2 q k)).trans ?_
  rw [joined_apply]
  unfold small
  split
  · pointwise
  split
  · pointwise
  split
  · pointwise
  · pointwise

theorem pointS (c : Dev nD) (t : Fin cfg0.N) (r : Fin 512) (k : Fin 128) : k0_pay7 (F := Ideal) (iblk m c 0 t) (iblk m c 5 t) (ix2 r k)
    = refS (m ((c : Thread nD τ).loc main_arg0)) (m ((c : Thread nD τ).loc main_arg1)) (ix2 r k) := by
  refine Eq.trans ?_ (joined_apply Cert.ProjAttnSampleRefIdeal.Gen.concatenates_S512x64_S512x16_S512x16_S512x32_S512x128_d1 _ _ _ _ r k).symm
  pointwise [k0_pay7, k0_pay2]
  simp only [read0, read5, small]
  split
  · pointwise [Cert.ProjAttnSampleRefIdeal.Read.val_main_v5, Cert.ProjAttnSampleRefIdeal.Read.val_main_v0]
  split
  · pointwise [Cert.ProjAttnSampleRefIdeal.Read.val_main_v6, Cert.ProjAttnSampleRefIdeal.Read.val_main_v0]
  split
  · pointwise [Cert.ProjAttnSampleRefIdeal.Read.val_main_v10, Cert.ProjAttnSampleRefIdeal.Read.val_main_v0]
  · pointwise [Cert.ProjAttnSampleRefIdeal.Read.val_main_v12, Cert.ProjAttnSampleRefIdeal.Read.val_main_cst]
    simp only [mul_zero, Finset.sum_const_zero]

theorem finalS (c : Dev nD) : (dats m 0 c).arrAt 12 (cfgs 0).N
    = refS (m ((c : Thread nD τ).loc main_arg0)) (m ((c : Thread nD τ).loc main_arg1)) := by
  refine (dats m 0 c).arrAt_eq_of_covers 12 _ (by decide +kernel) fun t hf y => ?_
  obtain ⟨r, k, rfl⟩ : ∃ (r : Fin 512) (k : Fin 128), y = ix2 r k := ⟨y 0, y 1, eq_ix2 y⟩
  have he : (((cfg0.win 12).blk t).view.emb (ix2 r k)) = ix2 r k := by
    blk_ext [(idx t).2.2.2]
  rw [he, ← pointS m c t]
  blk_simp
  rw [after0_12]
  frame_out

end Cert.ProjAttnSampleIdeal.Hand

namespace Cert.Proof

open Cert.ProjAttnSampleIdeal.Hand in
/-- The kernel and the reference end with the same three arrays. -/
theorem projattnsample_algebraic : Cert.algebraic_ProjAttnSampleIdeal_ProjAttnSampleRefIdeal
    (hProjAttnSampleIdeal := Cert.ProjAttnSampleIdeal.Gen.facts) (hProjAttnSampleRefIdeal := Cert.ProjAttnSampleRefIdeal.Gen.facts) := by
  pair_intro
  · run_from Cert.ProjAttnSampleIdeal.Value.run_blocks m g
  · run_from Cert.ProjAttnSampleRefIdeal.Value.run m' g'
    exacts [(finalK m c).symm, (finalV m c).symm, (finalS m c).symm]

end Cert.Proof

end
-- ==== Proof.FfnSampleValue.lean ====
/-
  Hand-written, untrusted. The value of the feed-forward block with its post-norm on the sample batch (`FfnSampleIdeal`): the call of `FfnIdeal` at 512
  rows, so one row block by 11 column blocks of the inner dimension. A row's sum over the inner dimension and its layer norm are those of `FfnIdeal`.
-/
module

public import proofs.«01_k».proof.Defs
public import proofs.«01_k».proof.Proof.FfnValue
public import proofs.«01_k».proof.Proof.Gen.FfnSampleIdeal.Value
public import proofs.«01_k».proof.Proof.Gen.FfnSampleRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnSampleIdeal.Hand

open Cert.FfnSampleIdeal Cert.FfnSampleIdeal.Gen
open Cert.FfnIdeal.Hand (gated meanRow normRow resid cell cellN sum_cells pay3_cells pay4_apply)

open Cert.FfnSampleRefIdeal.Gen in
/-- The reference's residual sum, before the layer norm. -/
abbrev refSum (x : FVec Ideal S512x2048 .f32) (wg wu : FVec Ideal S2048x5632 .f32) (wd : FVec Ideal S5632x2048 .f32) :
    FVec Ideal S512x2048 .f32 :=
  addf (mulf (broadcastInDim S512x2048 ![] bcast_S_S512x2048 (constant Cert.FfnSampleRefIdeal.S_ .f32 0x3F9837F0#32)) x)
    (mulf (broadcastInDim S512x2048 ![] bcast_S_S512x2048 (constant Cert.FfnSampleRefIdeal.S_ .f32 0x3F000000#32))
      (Host.dotGeneral Cert.FfnSampleRefIdeal.dot_S512x5632_S5632x2048_S512x2048_1_0_0_1_n_n none
        (mulf (mulf (Host.dotGeneral Cert.FfnSampleRefIdeal.dot_S512x2048_S2048x5632_S512x5632_1_0_0_1_n_n none x wg)
          (Host.divf (broadcastInDim Cert.FfnSampleRefIdeal.S512x5632 ![] bcast_S_S512x5632 (constant Cert.FfnSampleRefIdeal.S_ .f32 0x3F800000#32))
            (addf (broadcastInDim Cert.FfnSampleRefIdeal.S512x5632 ![] bcast_S_S512x5632 (constant Cert.FfnSampleRefIdeal.S_ .f32 0x3F800000#32))
              (Host.exp (Host.negf (Host.dotGeneral Cert.FfnSampleRefIdeal.dot_S512x2048_S2048x5632_S512x5632_1_0_0_1_n_n none x wg))))))
          (Host.dotGeneral Cert.FfnSampleRefIdeal.dot_S512x2048_S2048x5632_S512x5632_1_0_0_1_n_n none x wu)) wd))

open Cert.FfnSampleRefIdeal.Gen in
/-- The reference's mean over each row. -/
abbrev refMean (h : FVec Ideal S512x2048 .f32) : FVec Ideal Cert.FfnSampleRefIdeal.S512x1 .f32 :=
  Host.divf (broadcastInDim Cert.FfnSampleRefIdeal.S512x1 ![0] bcast_S512_S512x1_0
    (Host.reduceAdd h (constant Cert.FfnSampleRefIdeal.S_ .f32 0x00000000#32) reducesTo_S512x2048_S512_d1 h_S_))
    (broadcastInDim Cert.FfnSampleRefIdeal.S512x1 ![] bcast_S_S512x1 (constant Cert.FfnSampleRefIdeal.S_ .f32 0x45000000#32))

open Cert.FfnSampleRefIdeal.Gen in
/-- A row less its mean. -/
abbrev refDiff (h : FVec Ideal S512x2048 .f32) : FVec Ideal S512x2048 .f32 :=
  subf h (broadcastInDim S512x2048 ![0, 1] bcast_S512x1_S512x2048_0_1 (refMean h))

open Cert.FfnSampleRefIdeal.Gen in
/-- The reference's layer norm. -/
abbrev refNorm (h : FVec Ideal S512x2048 .f32) (g b : FVec Ideal S2048 .f32) : FVec Ideal S512x2048 .f32 :=
  addf (mulf (mulf (refDiff h) (broadcastInDim S512x2048 ![0, 1] bcast_S512x1_S512x2048_0_1
      (Host.rsqrt (addf (refMean (mulf (refDiff h) (refDiff h)))
        (broadcastInDim Cert.FfnSampleRefIdeal.S512x1 ![] bcast_S_S512x1 (constant Cert.FfnSampleRefIdeal.S_ .f32 0x3727C5AC#32))))))
    (broadcastInDim S512x2048 ![0, 1] bcast_S1x2048_S512x2048_0_1 (broadcastInDim S1x2048 ![1] bcast_S2048_S1x2048_1 g)))
    (broadcastInDim S512x2048 ![0, 1] bcast_S1x2048_S512x2048_0_1 (broadcastInDim S1x2048 ![1] bcast_S2048_S1x2048_1 b))

theorem refNorm_apply (h : FVec Ideal S512x2048 .f32) (g b : FVec Ideal S2048 .f32) (R : Fin 512) (C : Fin 2048) :
    refNorm h g b (ix2 R C) = normRow (fun q => h (ix2 R q)) (fun q => g (ix1 q)) (fun q => b (ix1 q)) C := by
  pointwise [normRow, meanRow]

theorem refSum_apply (x : FVec Ideal S512x2048 .f32) (wg wu : FVec Ideal S2048x5632 .f32) (wd : FVec Ideal S5632x2048 .f32)
    (R : Fin 512) (C : Fin 2048) :
    refSum x wg wu wd (ix2 R C) = resid (x (ix2 R C)) (∑ K, cell (fun q => x (ix2 R q)) wg wu wd C K) := by
  pointwise [resid, cell, gated, Ideal.logistic]

/-- The reference's result is the layer norm of the residual sum. -/
theorem ref_eq (c : Dev Cert.FfnSampleRefIdeal.nD)
    (m' : (ℓ : Loc Cert.FfnSampleRefIdeal.nD Cert.FfnSampleRefIdeal.τ Cert.FfnSampleRefIdeal.sig) → Buf (Elt Ideal) ℓ) :
    Cert.FfnSampleRefIdeal.Value.res_main_v33 m' c
      = refNorm (refSum (m' (c.tc.loc Cert.FfnSampleRefIdeal.main_arg0)) (m' (c.tc.loc Cert.FfnSampleRefIdeal.main_arg1))
          (m' (c.tc.loc Cert.FfnSampleRefIdeal.main_arg2)) (m' (c.tc.loc Cert.FfnSampleRefIdeal.main_arg3)))
          (m' (c.tc.loc Cert.FfnSampleRefIdeal.main_arg4)) (m' (c.tc.loc Cert.FfnSampleRefIdeal.main_arg5)) := rfl

variable (m : (ℓ : Loc nD τ sig) → Buf (Elt Ideal) ℓ)

theorem idx : ∀ t : Fin cfg0.N, win0_0.index t = ![0, 0] ∧ win0_1.index t = ![0, t.val % 11]
    ∧ win0_2.index t = ![0, t.val % 11] ∧ win0_3.index t = ![t.val % 11, 0] ∧ win0_4.index t = ![0, 0]
    ∧ win0_5.index t = ![0, 0] ∧ win0_6.index t = ![0, 0] :=
  (by decide +kernel : ∀ t : Fin grid0.N, _)

/-! The six windows' blocks, read at an entry. -/

/-- The inner column that column `k` of point `t`'s block is. -/
abbrev col (t : Fin cfg0.N) (k : Fin 512) : Fin 5632 := ⟨t.val % 11 * 512 + k.val, by omega⟩

theorem read0 (c : Dev nD) (t : Fin cfg0.N) (r : Fin 512) (q : Fin 2048) : (iblk m c 0 t : FVec Ideal S512x2048 .f32) (ix2 r q)
    = (m ((c : Thread nD τ).loc main_arg0) : FVec Ideal S512x2048 .f32) (ix2 r q) := by
  blk_ext [iblk, V, (idx t).1]

theorem read1 (c : Dev nD) (t : Fin cfg0.N) (q : Fin 2048) (k : Fin 512) : (iblk m c 1 t : FVec Ideal S2048x512 .bf16) (ix2 q k)
    = (m ((c : Thread nD τ).loc main_arg1) : FVec Ideal S2048x5632 .f32) (ix2 q (col t k)) := by
  blk_simp [iblk, (idx t).2.1]
  entry_read
  pointwise
  blk_ext [(idx t).2.1]

theorem read2 (c : Dev nD) (t : Fin cfg0.N) (q : Fin 2048) (k : Fin 512) : (iblk m c 2 t : FVec Ideal S2048x512 .bf16) (ix2 q k)
    = (m ((c : Thread nD τ).loc main_arg2) : FVec Ideal S2048x5632 .f32) (ix2 q (col t k)) := by
  blk_simp [iblk, (idx t).2.2.1]
  entry_read
  pointwise
  blk_ext [(idx t).2.2.1]

theorem read3 (c : Dev nD) (t : Fin cfg0.N) (k : Fin 512) (q : Fin 2048) : (iblk m c 3 t : FVec Ideal S512x2048 .bf16) (ix2 k q)
    = (m ((c : Thread nD τ).loc main_arg3) : FVec Ideal S5632x2048 .f32) (ix2 (col t k) q) := by
  blk_simp [iblk, (idx t).2.2.2.1]
  entry_read
  pointwise
  blk_ext [(idx t).2.2.2.1]

theorem read4 (c : Dev nD) (t : Fin cfg0.N) (q : Fin 2048) : (iblk m c 4 t : FVec Ideal S1x2048 .f32) (ix2 0 q)
    = (m ((c : Thread nD τ).loc main_arg4) : FVec Ideal S2048 .f32) (ix1 q) := by
  blk_simp [iblk, (idx t).2.2.2.2.1]
  entry_read
  pointwise
  blk_ext [(idx t).2.2.2.2.1]

theorem read5 (c : Dev nD) (t : Fin cfg0.N) (q : Fin 2048) : (iblk m c 5 t : FVec Ideal S1x2048 .f32) (ix2 0 q)
    = (m ((c : Thread nD τ).loc main_arg5) : FVec Ideal S2048 .f32) (ix1 q) := by
  blk_simp [iblk, (idx t).2.2.2.2.2.1]
  entry_read
  pointwise
  blk_ext [(idx t).2.2.2.2.2.1]

/-! What the three kinds of points leave. -/

theorem outA (c : Dev nD) (t : Fin cfg0.N) (h0 : t.val % 11 = 0) (h1 : ¬t.val % 11 = 10) :
    outsAt0 m c t.val t.isLt = (k0_pay3 (k0_pay1 (iblk m c 0 t)) (iblk m c 1 t) (iblk m c 2 t) (k0_pay2 (F := Ideal)) (iblk m c 3 t), k0_pay1 (iblk m c 0 t)) := by
  rw [outsAt0_A m c t h0 h1]
  frame_out
  try unfold sout0_A_0
  try unfold sout0_B_0
  try frame_out

theorem outB (c : Dev nD) (t : Fin cfg0.N) (h0 : ¬t.val % 11 = 0) (h1 : ¬t.val % 11 = 10) (A : Vec Ideal S512x2048 .f32) (B : Vec Ideal S512x2048 .bf16)
    (hp : outsAt0 m c (t.val - 1) (Nat.lt_of_le_of_lt (Nat.sub_le _ _) t.isLt) = (A, B)) :
    outsAt0 m c t.val t.isLt = (k0_pay3 B (iblk m c 1 t) (iblk m c 2 t) A (iblk m c 3 t), B) := by
  rw [outsAt0_B m c t h0 h1, hp]
  frame_out
  try unfold sout0_A_0
  try unfold sout0_B_0
  try frame_out
  simp only [read_unread_whole]

theorem outC (c : Dev nD) (t : Fin cfg0.N) (h0 : ¬t.val % 11 = 0) (h1 : t.val % 11 = 10) (A : Vec Ideal S512x2048 .f32) (B : Vec Ideal S512x2048 .bf16)
    (hp : outsAt0 m c (t.val - 1) (Nat.lt_of_le_of_lt (Nat.sub_le _ _) t.isLt) = (A, B)) :
    (outsAt0 m c t.val t.isLt).1 = k0_pay4 (iblk m c 0 t) (k0_pay3 B (iblk m c 1 t) (iblk m c 2 t) A (iblk m c 3 t)) (iblk m c 4 t) (iblk m c 5 t) := by
  rw [outsAt0_C m c t h0 h1, hp]
  frame_out
  try unfold sout0_A_0
  try unfold sout0_B_0
  try frame_out
  simp only [read_unread_whole]

/-- One point's step: the running sum and 512 further terms. -/
theorem step (c : Dev nD) (t : Fin cfg0.N) (xb : FVec Ideal S512x2048 .bf16) (acc : FVec Ideal S512x2048 .f32) (r : Fin 512) (C : Fin 2048)
    (hx : ∀ q, xb (ix2 r q) = (m ((c : Thread nD τ).loc main_arg0) : FVec Ideal S512x2048 .f32) (ix2 r q)) :
    k0_pay3 xb (iblk m c 1 t) (iblk m c 2 t) acc (iblk m c 3 t) (ix2 r C) = acc (ix2 r C)
      + ∑ k : Fin 512, cellN (fun q => (m ((c : Thread nD τ).loc main_arg0) : FVec Ideal S512x2048 .f32) (ix2 r q)) (m ((c : Thread nD τ).loc main_arg1)) (m ((c : Thread nD τ).loc main_arg2))
          (m ((c : Thread nD τ).loc main_arg3)) C (t.val % 11 * 512 + k.val) := by
  exact pay3_cells xb _ _ acc _ (fun q => (m ((c : Thread nD τ).loc main_arg0) : FVec Ideal S512x2048 .f32) (ix2 r q)) _ _ _ (t.val % 11 * 512)
    (fun k => (col t k).isLt) r C hx (read1 m c t) (read2 m c t) fun k => read3 m c t k C

/-- The held block: the rows of the input, at every point of a run but the last; and the running sum of the terms so far. -/
theorem held (c : Dev nD) : ∀ (j : ℕ) (t : Fin cfg0.N), t.val % 11 = j → j < 10 →
    (∀ r q, (outsAt0 m c t.val t.isLt).2 (ix2 r q) = (m ((c : Thread nD τ).loc main_arg0) : FVec Ideal S512x2048 .f32) (ix2 r q))
    ∧ ∀ r C, (outsAt0 m c t.val t.isLt).1 (ix2 r C) = ∑ s ∈ Finset.range (j + 1), ∑ k : Fin 512,
        cellN (fun q => (m ((c : Thread nD τ).loc main_arg0) : FVec Ideal S512x2048 .f32) (ix2 r q)) (m ((c : Thread nD τ).loc main_arg1)) (m ((c : Thread nD τ).loc main_arg2))
          (m ((c : Thread nD τ).loc main_arg3)) C (s * 512 + k.val)
  | 0, t, h0, _ => by
    have hx : ∀ r q, k0_pay1 (F := Ideal) (iblk m c 0 t) (ix2 r q)
        = (m ((c : Thread nD τ).loc main_arg0) : FVec Ideal S512x2048 .f32) (ix2 r q) := fun r q => by
      pointwise [k0_pay1]; exact read0 m c t r q
    rw [outA m c t h0 (by omega)]
    refine ⟨hx, fun r C => ?_⟩
    dsimp only
    rw [step m c t _ _ r C (hx r), h0, Finset.sum_range_one]
    pointwise [k0_pay2]
  | j + 1, t, hj, hl => by
    have ht : t.val - 1 < cfg0.N := Nat.lt_of_le_of_lt (Nat.sub_le _ _) t.isLt
    obtain ⟨hx, hs⟩ := held c j ⟨t.val - 1, ht⟩ (by dsimp only; omega) (by omega)
    rw [outB m c t (by omega) (by omega) _ _ rfl]
    refine ⟨hx, fun r C => ?_⟩
    dsimp only
    rw [step m c t _ _ r C (hx r), hs, hj, Finset.sum_range_succ _ (j + 1)]

/-- What the last point of a run leaves at `y` is the reference's entry at the array index where `y` lies. -/
theorem point (c : Dev nD) (t : Fin cfg0.N) (hf : t.val % 11 = 10) (r : Fin 512) (C : Fin 2048) :
    (outsAt0 m c t.val t.isLt).1 (ix2 r C)
      = refNorm (refSum (m ((c : Thread nD τ).loc main_arg0)) (m ((c : Thread nD τ).loc main_arg1)) (m ((c : Thread nD τ).loc main_arg2))
          (m ((c : Thread nD τ).loc main_arg3))) (m ((c : Thread nD τ).loc main_arg4)) (m ((c : Thread nD τ).loc main_arg5)) (ix2 r C) := by
  have ht : t.val - 1 < cfg0.N := Nat.lt_of_le_of_lt (Nat.sub_le _ _) t.isLt
  obtain ⟨hx, hs⟩ := held m c 9 ⟨t.val - 1, ht⟩ (by dsimp only; omega) (by omega)
  rw [outC m c t (by omega) hf _ _ rfl, refNorm_apply]
  refine (pay4_apply _ _ _ _ r C).trans ?_
  simp only [refSum_apply, read0, read4, read5]
  congr 1
  funext q
  rw [step m c t _ _ r q (hx r), hs, hf, ← Finset.sum_range_succ, sum_cells]

/-- The result array is the reference's term. -/
theorem final (c : Dev nD) : (dats m 0 c).arrAt 6 (cfgs 0).N
    = refNorm (refSum (m ((c : Thread nD τ).loc main_arg0)) (m ((c : Thread nD τ).loc main_arg1)) (m ((c : Thread nD τ).loc main_arg2))
          (m ((c : Thread nD τ).loc main_arg3))) (m ((c : Thread nD τ).loc main_arg4)) (m ((c : Thread nD τ).loc main_arg5)) := by
  refine (dats m 0 c).arrAt_eq_of_covers 6 _ (by decide +kernel) fun t hf y => ?_
  have hm : t.val % 11 = 10 := (flush0_6 t).mp hf
  obtain ⟨r, C, rfl⟩ : ∃ (r : Fin 512) (C : Fin 2048), y = ix2 r C := ⟨y 0, y 1, eq_ix2 y⟩
  have he : (((cfg0.win 6).blk t).view.emb (ix2 r C)) = ix2 r C := by
    blk_ext [(idx t).2.2.2.2.2.2]
  rw [he, ← point m c t hm]
  blk_simp
  rw [after0_6]

end Cert.FfnSampleIdeal.Hand

namespace Cert.Proof

/-- The kernel and the reference end with the same array. -/
theorem ffnsample_algebraic : Cert.algebraic_FfnSampleIdeal_FfnSampleRefIdeal
    (hFfnSampleIdeal := Cert.FfnSampleIdeal.Gen.facts) (hFfnSampleRefIdeal := Cert.FfnSampleRefIdeal.Gen.facts) := by
  pair_intro
  · run_from Cert.FfnSampleIdeal.Value.run_blocks m g
  · run_from Cert.FfnSampleRefIdeal.Value.run m' g'
    obtain ⟨a0, a1, a2, a3, a4, a5⟩ := hagree c
    refine ((Cert.FfnSampleIdeal.Hand.ref_eq c m').trans ?_).trans (Cert.FfnSampleIdeal.Hand.final m c).symm
    rw [a0, a1, a2, a3, a4, a5]

end Cert.Proof

end
-- ==== Proof.GlaRunRef.lean ====
/-
  Hand-written, untrusted. The gated recurrence over a whole prompt. The state after `n` frames is one decayed start and one sum over the frames; a chunk
  of 64 frames takes the state after `n` frames to the state after `n + 64`. The reference takes the whole prompt as one chunk, with running sums of the
  log gates over all its frames, and so ends with the state after the last frame.
-/
module

public import proofs.«01_k».proof.Proof.GlaValue
public import proofs.«01_k».proof.Proof.Gen.GlaPromptRefIdeal.Run
public import proofs.«01_k».proof.Proof.Gen.GlaPromptRefIdeal.Read
public import proofs.«01_k».proof.Proof.Gen.Pre_finite_gate_prompt

@[expose] public section

set_option maxRecDepth 16384

noncomputable section

open Idealize.ShloMosaic Idealize.ShloMosaic.TcCoe Idealize.SL.Sem
open Cert.GlaIdeal.Hand (cumR nextState lane wide coe_sum foldl_sum dite_same real_of_abs_lt top_word)

namespace Cert.GlaPromptIdeal.Hand

/-! The recurrence over the frames. -/

/-- The sum of the log gates of the first `n` frames. -/
def total (F : ℕ → Fin 128 → ℝ) (n : ℕ) (d : Fin 128) : ℝ := ∑ i ∈ Finset.range n, F i d

/-- The state after `n` frames. -/
def runState (F : ℕ → Fin 128 → ℝ) (k : ℕ → Fin 128 → EReal) (v : ℕ → Fin 256 → EReal) (s : Fin 128 → Fin 256 → EReal) (n : ℕ) (d : Fin 128)
    (e : Fin 256) : EReal :=
  ((Real.exp (total F n d) : ℝ) : EReal) * s d e
    + ∑ j ∈ Finset.range n, k j d * ((Real.exp (total F n d - total F (j + 1) d) : ℝ) : EReal) * v j e

theorem runState_zero (F : ℕ → Fin 128 → ℝ) (k : ℕ → Fin 128 → EReal) (v : ℕ → Fin 256 → EReal) (s : Fin 128 → Fin 256 → EReal) :
    runState F k v s 0 = s := by
  funext d e
  simp [runState, total]

/-- A running sum inside a chunk, from the sums over all frames. -/
theorem cumR_total (F : ℕ → Fin 128 → ℝ) (n : ℕ) (i : Fin 64) (d : Fin 128) :
    cumR (fun j => F (n + j.val)) i d = total F (n + (i.val + 1)) d - total F n d := by
  unfold total cumR
  rw [Finset.sum_range_add, add_sub_cancel_left]
  have h := Fin.sum_univ_eq_sum_range (fun j => if j ≤ i.val then F (n + j) d else 0) 64
  have h2 : (∑ j : Fin 64, if j ≤ i then F (n + j.val) d else 0) = ∑ j : Fin 64, (fun j : ℕ => if j ≤ i.val then F (n + j) d else 0) j.val :=
    Finset.sum_congr rfl fun j _ => rfl
  rw [h2, h, ← Finset.sum_filter]
  refine Finset.sum_congr (Finset.ext fun j => ?_) fun _ _ => rfl
  rw [Finset.mem_filter, Finset.mem_range, Finset.mem_range]
  have hi := i.isLt
  omega

/-- A real factor that is not negative goes into a sum. -/
theorem real_mul_sum {ι : Type} (r : ℝ) (hr : 0 ≤ r) (S : Finset ι) (g : ι → EReal) :
    ((r : ℝ) : EReal) * ∑ j ∈ S, g j = ∑ j ∈ S, ((r : ℝ) : EReal) * g j := by
  classical
  induction S using Finset.induction_on with
  | empty => simp
  | insert a S ha ih =>
    rw [Finset.sum_insert ha, Finset.sum_insert ha, EReal.left_distrib_of_nonneg_of_ne_top (EReal.coe_nonneg.mpr hr) (EReal.coe_ne_top r), ih]

/-- A chunk takes the state 64 frames on. -/
theorem next_run (F : ℕ → Fin 128 → ℝ) (k : ℕ → Fin 128 → EReal) (v : ℕ → Fin 256 → EReal) (s : Fin 128 → Fin 256 → EReal) (n : ℕ) :
    nextState (fun j => F (n + j.val)) (fun j => k (n + j.val)) (fun j => v (n + j.val)) (runState F k v s n) = runState F k v s (n + 64) := by
  funext d e
  unfold nextState
  simp only [cumR_total]
  refine (congrArg (((Real.exp (total F (n + 64) d - total F n d) : ℝ) : EReal) * runState F k v s n d e + ·)
    (Fin.sum_univ_eq_sum_range (fun j : ℕ => k (n + j) d
      * ((Real.exp (total F (n + 64) d - total F n d - (total F (n + (j + 1)) d - total F n d)) : ℝ) : EReal) * v (n + j) e) 64)).trans ?_
  unfold runState
  rw [EReal.left_distrib_of_nonneg_of_ne_top (EReal.coe_nonneg.mpr (Real.exp_pos _).le) (EReal.coe_ne_top _), ← mul_assoc, ← EReal.coe_mul,
    ← Real.exp_add, sub_add_cancel, add_assoc, real_mul_sum _ (Real.exp_pos _).le, Finset.sum_range_add]
  refine congrArg₂ (· + ·) rfl (congrArg₂ (· + ·) (Finset.sum_congr rfl fun j _ => ?_) (Finset.sum_congr rfl fun j _ => ?_))
  · rw [← mul_assoc, mul_left_comm, ← EReal.coe_mul, ← Real.exp_add, sub_add_sub_cancel]
  · rw [sub_sub_sub_cancel_right]
    rfl

/-! The reference at an entry. -/

section
open Cert.GlaPromptRefIdeal Cert.GlaPromptRefIdeal.Read

theorem split_key (b : Fin 2) (j : Fin 16384) (h : Fin 4) (d : Fin 128) : idx_main_v0 (ix4 b j h d) = ix3 b j (lane h d) := by
  funext a
  apply Fin.ext
  match a with
  | ⟨0, _⟩ => show (((b.val * 16384 + j.val) * 4 + h.val) * 128 + d.val) / 8388608 = b.val; omega
  | ⟨1, _⟩ => show (((b.val * 16384 + j.val) * 4 + h.val) * 128 + d.val) / 512 % 16384 = j.val; omega
  | ⟨2, _⟩ => show (((b.val * 16384 + j.val) * 4 + h.val) * 128 + d.val) % 512 = h.val * 128 + d.val; omega

theorem split_value (b : Fin 2) (j : Fin 16384) (h : Fin 4) (e : Fin 256) : idx_main_v1 (ix4 b j h e) = ix3 b j (wide h e) := by
  funext a
  apply Fin.ext
  match a with
  | ⟨0, _⟩ => show (((b.val * 16384 + j.val) * 4 + h.val) * 256 + e.val) / 16777216 = b.val; omega
  | ⟨1, _⟩ => show (((b.val * 16384 + j.val) * 4 + h.val) * 256 + e.val) / 1024 % 16384 = j.val; omega
  | ⟨2, _⟩ => show (((b.val * 16384 + j.val) * 4 + h.val) * 256 + e.val) % 1024 = h.val * 256 + e.val; omega

abbrev Win : Shape := ⟨4, ![1, 16384, 1, 1]⟩

/-- The window's positions are the frames. -/
def winEquiv : Fin 16384 ≃ Win.Idx where
  toFun n := ix4 0 n 0 0
  invFun w := w 1
  left_inv n := rfl
  right_inv w := by
    obtain ⟨a, n, p, q, rfl⟩ : ∃ (a : Fin 1) (n : Fin 16384) (p q : Fin 1), w = ix4 a n p q := ⟨w 0, w 1, w 2, w 3, eq_ix4 w⟩
    obtain rfl : a = 0 := Subsingleton.elim _ _
    obtain rfl : p = 0 := Subsingleton.elim _ _
    obtain rfl : q = 0 := Subsingleton.elim _ _
    rfl

/-- A window of `N` frames reaching back from frame `i` sums the frames up to it. -/
theorem back_sum {N : ℕ} (M : ℕ) (hM : M + 1 = N) (y : ℕ → EReal) (i : Fin N) :
    (∑ n : Fin N, if hn : M ≤ i.val + n.val ∧ i.val + n.val - M < N then y (i.val + n.val - M) else 0) = ∑ j ∈ Finset.range (i.val + 1), y j := by
  have hi := i.isLt
  have hl : (∑ n : Fin N, if hn : M ≤ i.val + n.val ∧ i.val + n.val - M < N then y (i.val + n.val - M) else 0)
      = ∑ n : Fin N, if M ≤ i.val + n.val then y (i.val + n.val - M) else 0 :=
    Finset.sum_congr rfl fun n _ => by
      have hn' := n.isLt
      by_cases hn : M ≤ i.val + n.val
      · rw [dif_pos ⟨hn, by omega⟩, if_pos hn]
      · rw [dif_neg (fun h => hn h.1), if_neg hn]
  rw [hl, ← Finset.sum_filter]
  refine Finset.sum_bij' (fun n _ => i.val + n.val - M)
    (fun j hj => (⟨j + M - i.val, by have h := Finset.mem_range.mp hj; omega⟩ : Fin N)) ?_ ?_ ?_ ?_ ?_
  · intro n hn
    have h := (Finset.mem_filter.mp hn).2
    have hn' := n.isLt
    exact Finset.mem_range.mpr (by omega)
  · intro j hj
    have h := Finset.mem_range.mp hj
    exact Finset.mem_filter.mpr ⟨Finset.mem_univ _, (by show M ≤ i.val + (j + M - i.val); omega)⟩
  · intro n hn
    have h := (Finset.mem_filter.mp hn).2
    apply Fin.ext
    show i.val + n.val - M + M - i.val = n.val
    omega
  · intro j hj
    have h := Finset.mem_range.mp hj
    show i.val + (j + M - i.val) - M = j
    omega
  · intro n hn
    rfl

theorem coe_sum_range (g : ℕ → ℝ) (S : Finset ℕ) : ∑ j ∈ S, ((g j : ℝ) : EReal) = ((∑ j ∈ S, g j : ℝ) : EReal) := by
  induction S using Finset.induction_on with
  | empty => simp
  | insert a S ha ih => rw [Finset.sum_insert ha, Finset.sum_insert ha, ih, EReal.coe_add]

/-- The running sums of the log gates. -/
theorem cum_ref (x3 : FVec Ideal S2x16384x512 .f32) (F : Fin 2 → Fin 4 → ℕ → Fin 128 → ℝ)
    (hf : ∀ b h (j : Fin 16384) d, x3 (ix3 b j (lane h d)) = ((F b h j.val d : ℝ) : EReal)) (b : Fin 2) (i : Fin 16384) (h : Fin 4) (d : Fin 128) :
    val_main_v3 (F := Ideal) x3 (ix4 b i h d) = ((total (F b h) (i.val + 1) d : ℝ) : EReal) := by
  have hy (j : Fin 16384) : val_main_v2 (F := Ideal) x3 (ix4 b j h d) = ((F b h j.val d : ℝ) : EReal) := by
    rw [val_main_v2_apply]
    exact (congrArg x3 (split_key b j h d)).trans (hf b h j d)
  have hv : val_main_call0_call0_v0 (F := Ideal) (Shape.Idx.first Gen.h_S_) = 0 := by
    rw [val_main_call0_call0_v0_apply, val_main_call0_call0_cst_apply]
    exact Ideal.ofBits_zero .f32
  unfold val_main_v3
  generalize val_main_v2 (F := Ideal) x3 = y at hy
  simp only [Host.reduceWindowAdd, Ideal.hostReduceWindowAdd_def]
  rw [hv]
  unfold Ideal.hostReduceWindowAdd Host.reduceWindow
  refine (foldl_sum _ _ _).trans ?_
  rw [zero_add, ← Fin.sum_univ_def]
  refine (Equiv.sum_comp (winEquiv.trans Win.rowMajor) _).symm.trans ?_
  trans ∑ n : Fin 16384, if hn : 16383 ≤ i.val + n.val ∧ i.val + n.val - 16383 < 16384 then ((F b h (i.val + n.val - 16383) d : ℝ) : EReal) else 0
  · refine Finset.sum_congr rfl fun n _ => ?_
    have hw (a : Fin 4) : (Win.rowMajor.symm ((winEquiv.trans Win.rowMajor) n) a).val = (ix4 (0 : Fin 1) n (0 : Fin 1) (0 : Fin 1) a).val :=
      congrArg (fun w : Win.Idx => (w a).val) (Equiv.symm_apply_apply Win.rowMajor (winEquiv n))
    refine dite_same ⟨fun hin => ?_, fun hn a => ?_⟩ _ _ fun hin hn => ?_
    · have h1 : 16383 ≤ i.val * 1 + (Win.rowMajor.symm ((winEquiv.trans Win.rowMajor) n) (1 : Fin 4)).val
          ∧ i.val * 1 + (Win.rowMajor.symm ((winEquiv.trans Win.rowMajor) n) (1 : Fin 4)).val - 16383 < 16384 := hin (1 : Fin 4)
      have e1 : (Win.rowMajor.symm ((winEquiv.trans Win.rowMajor) n) (1 : Fin 4)).val = n.val := hw 1
      omega
    · show (![0, 16383, 0, 0] : Fin 4 → ℕ) a ≤ (ix4 b i h d a).val * (![1, 1, 1, 1] : Fin 4 → ℕ) a + (Win.rowMajor.symm ((winEquiv.trans Win.rowMajor) n) a).val
        ∧ (ix4 b i h d a).val * (![1, 1, 1, 1] : Fin 4 → ℕ) a + (Win.rowMajor.symm ((winEquiv.trans Win.rowMajor) n) a).val - (![0, 16383, 0, 0] : Fin 4 → ℕ) a < S2x16384x4x128.size a
      rw [hw a]
      match a with
      | ⟨0, _⟩ => show 0 ≤ b.val * 1 + 0 ∧ b.val * 1 + 0 - 0 < 2; omega
      | ⟨1, _⟩ => show 16383 ≤ i.val * 1 + n.val ∧ i.val * 1 + n.val - 16383 < 16384; omega
      | ⟨2, _⟩ => show 0 ≤ h.val * 1 + 0 ∧ h.val * 1 + 0 - 0 < 4; omega
      | ⟨3, _⟩ => show 0 ≤ d.val * 1 + 0 ∧ d.val * 1 + 0 - 0 < 128; omega
    · refine Eq.trans (congrArg y (funext fun a => Fin.ext ?_)) (hy ⟨i.val + n.val - 16383, hn.2⟩)
      show (ix4 b i h d a).val * (![1, 1, 1, 1] : Fin 4 → ℕ) a + (Win.rowMajor.symm ((winEquiv.trans Win.rowMajor) n) a).val - (![0, 16383, 0, 0] : Fin 4 → ℕ) a = _
      rw [hw a]
      match a with
      | ⟨0, _⟩ => show b.val * 1 + 0 - 0 = b.val; omega
      | ⟨1, _⟩ => show i.val * 1 + n.val - 16383 = i.val + n.val - 16383; omega
      | ⟨2, _⟩ => show h.val * 1 + 0 - 0 = h.val; omega
      | ⟨3, _⟩ => show d.val * 1 + 0 - 0 = d.val; omega
  · exact (back_sum 16383 rfl (fun j => ((F b h j d : ℝ) : EReal)) i).trans (coe_sum_range (fun j => F b h j d) _)

/-- The keys or the gates of a head, by frame; nothing after the last frame. -/
def keys (x : FVec Ideal S2x16384x512 .f32) (b : Fin 2) (h : Fin 4) (j : ℕ) (d : Fin 128) : EReal :=
  if hj : j < 16384 then x (ix3 b ⟨j, hj⟩ (lane h d)) else 0

/-- The values of a head, by frame. -/
def values (x : FVec Ideal S2x16384x1024 .f32) (b : Fin 2) (h : Fin 4) (j : ℕ) (e : Fin 256) : EReal :=
  if hj : j < 16384 then x (ix3 b ⟨j, hj⟩ (wide h e)) else 0

/-- The state before of a head. -/
def before (x : FVec Ideal S2x4x128x256 .f32) (b : Fin 2) (h : Fin 4) (d : Fin 128) (e : Fin 256) : EReal := x (ix4 b h d e)

section
variable (x1 x3 : FVec Ideal S2x16384x512 .f32) (x2 : FVec Ideal S2x16384x1024 .f32) (x6 : FVec Ideal S2x4x128x256 .f32)
variable (F : Fin 2 → Fin 4 → ℕ → Fin 128 → ℝ)
variable (hf : ∀ b h (j : Fin 16384) d, x3 (ix3 b j (lane h d)) = ((F b h j.val d : ℝ) : EReal))
include hf

/-- The last running sum. -/
theorem last_ref (b : Fin 2) (h : Fin 4) (d : Fin 128) : val_main_v5 (F := Ideal) x3 (ix3 b h d) = ((total (F b h) 16384 d : ℝ) : EReal) := by
  have hi : idx_main_v4 (idx_main_v5 (ix3 b h d)) = ix4 b (⟨16383, by decide⟩ : Fin 16384) h d := by
    funext a
    apply Fin.ext
    match a with
    | ⟨0, _⟩ => show ((b.val * 4 + h.val) * 128 + d.val) / 512 = b.val; omega
    | ⟨1, _⟩ => rfl
    | ⟨2, _⟩ => show ((b.val * 4 + h.val) * 128 + d.val) / 128 % 4 = h.val; omega
    | ⟨3, _⟩ => show ((b.val * 4 + h.val) * 128 + d.val) % 128 = d.val; omega
  rw [val_main_v5_apply, val_main_v4_apply, hi, cum_ref x3 F hf]

/-- The reference's state is the state after the last frame. -/
theorem state_ref (b : Fin 2) (h : Fin 4) (d : Fin 128) (e : Fin 256) :
    val_main_v16 (F := Ideal) x1 x2 x3 x6 (ix4 b h d e) = runState (F b h) (keys x1 b h) (values x2 b h) (before x6 b h) 16384 d e := by
  rw [val_main_v16_apply, val_main_v9_apply, val_main_v15_apply, val_main_v8_apply, val_main_v7_apply,
    show idx_main_v7 (idx_main_v8 (ix4 b h d e)) = ix3 b h d from eq_ix3 _, val_main_v6_apply, last_ref x3 F hf]
  unfold runState
  rw [← Fin.sum_univ_eq_sum_range]
  refine congrArg₂ (· + ·) (congrArg₂ (· * ·) (Ideal.exp_coe _) rfl) (Finset.sum_congr rfl fun j _ => ?_)
  rw [show lidx_main_v15 (ix4 b h d e) j = ix4 b j h d from eq_ix4 _, show ridx_main_v15 (ix4 b h d e) j = ix4 b j h e from eq_ix4 _, val_main_v1_apply,
    val_main_v14_apply, val_main_v13_apply, val_main_v12_apply, val_main_v11_apply, val_main_v10_apply, cum_ref x3 F hf, val_main_v0_apply,
    show idx_main_v10 (idx_main_v11 (ix4 b j h d)) = ix3 b h d from eq_ix3 _, last_ref x3 F hf]
  refine congrArg₂ (· * ·) (congrArg₂ (· * ·) ?_ ?_) ?_
  · rw [keys, dif_pos j.isLt]
    exact congrArg x1 (split_key b j h d)
  · show Ideal.exp (((total (F b h) 16384 d : ℝ) : EReal) - ((total (F b h) (j.val + 1) d : ℝ) : EReal)) = _
    rw [← EReal.coe_sub, Ideal.exp_coe]
  · rw [values, dif_pos j.isLt]
    exact congrArg x2 (split_value b j h e)

end

end

/-! The claim's precondition: every log gate is a real number. -/

section
open Cert.Pre_finite_gate_prompt

theorem gates_real (x0 x1 : FVec Ideal S2x16384x512 .f32) (x2 : FVec Ideal S2x16384x1024 .f32) (x3 : FVec Ideal S2x16384x512 .f32)
    (x4 : FVec Ideal S2x16384x1024 .f32) (x5 : FVec Ideal S1024 .f32) (x6 : FVec Ideal S2x4x128x256 .f32)
    (h : Cert.Pre_finite_gate_prompt.fn (F := Ideal) x0 x1 x2 x3 x4 x5 x6 = (fun _ => 1#1)) :
    ∃ F : Fin 2 → Fin 4 → ℕ → Fin 128 → ℝ, ∀ b h (j : Fin 16384) d, x3 (ix3 b j (lane h d)) = ((F b h j.val d : ℝ) : EReal) := by
  have hx (i : S2x16384x512.Idx) : ∃ r : ℝ, x3 i = (r : EReal) := by
    have h1 := Host.reduce_andi_all _ _ _ _ ix0 (congrFun h ix0) i
    have h2 : Ideal.cmp .olt (max (x3 i : EReal) (-(x3 i : EReal))) (Ideal.ofBits .f32 0x7F800000#32) = 1#1 := h1
    rw [top_word] at h2
    refine real_of_abs_lt _ ?_
    by_contra hn
    simp [Ideal.cmp, hn] at h2
  choose f hf using hx
  refine ⟨fun b h j d => if hj : j < 16384 then f (ix3 b ⟨j, hj⟩ (lane h d)) else 0, fun b h j d => ?_⟩
  have e : (if hj : j.val < 16384 then f (ix3 b ⟨j.val, hj⟩ (lane h d)) else 0) = f (ix3 b j (lane h d)) := dif_pos j.isLt
  rw [hf]
  exact congrArg (fun r : ℝ => (r : EReal)) e.symm

end

end Cert.GlaPromptIdeal.Hand

end
-- ==== Proof.GlaPromptValue.lean ====
/-
  Hand-written, untrusted. The recurrence over a prompt (`GlaPromptIdeal`): a point takes 256 frames of one stream as four chunks of 64, each head's state
  carried from chunk to chunk and from point to point in the scratch; the last point of a stream writes the state out. A chunk's step is the function
  of `GlaValue`; the scratch after a point is the state after its last frame, by induction over the points.
-/
module

public import proofs.«01_k».proof.Defs
public import proofs.«01_k».proof.Proof.GlaRunRef
public import proofs.«01_k».proof.Proof.Gen.GlaPromptIdeal.Value

@[expose] public section

set_option maxRecDepth 16384

noncomputable section

open Idealize.ShloMosaic Idealize.ShloMosaic.TcCoe Idealize.SL.Sem
open Idealize.ShloMosaic.Pipeline (Dat)
open Cert.GlaIdeal.Hand (cumR nextState lane wide statev statev_apply gate_apply)

namespace Cert.GlaPromptIdeal.Hand

section
open Cert.GlaPromptIdeal Cert.GlaPromptIdeal.Gen

/-! A chunk of a head. -/

theorem in_keys (a l : ℕ) (ha : a ≤ 192) (hl : l ≤ 384) : ∀ p : Fin 3, ![0, a, l] p + ![1, 64, 128] p ≤ S1x256x512.size p := fun p => by
  match p with
  | ⟨0, _⟩ => show 0 + 1 ≤ 1; omega
  | ⟨1, _⟩ => show a + 64 ≤ 256; omega
  | ⟨2, _⟩ => show l + 128 ≤ 512; omega

theorem in_values (a o : ℕ) (ha : a ≤ 192) (ho : o ≤ 768) : ∀ p : Fin 3, ![0, a, o] p + ![1, 64, 256] p ≤ S1x256x1024.size p := fun p => by
  match p with
  | ⟨0, _⟩ => show 0 + 1 ≤ 1; omega
  | ⟨1, _⟩ => show a + 64 ≤ 256; omega
  | ⟨2, _⟩ => show o + 256 ≤ 1024; omega

theorem in_states (n : ℕ) (hn : n ≤ 3) : ∀ p : Fin 3, ![n, 0, 0] p + ![1, 128, 256] p ≤ S4x128x256.size p := fun p => by
  match p with
  | ⟨0, _⟩ => show n + 1 ≤ 4; omega
  | ⟨1, _⟩ => show 0 + 128 ≤ 128; omega
  | ⟨2, _⟩ => show 0 + 256 ≤ 256; omega

/-- A head's state after the chunk of a point that begins at row `a`. -/
def chunkv (x1 : Vec Ideal S1x256x512 .f32) (x2 : Vec Ideal S1x256x1024 .f32) (x3 : Vec Ideal S1x256x512 .f32) (l o : ℕ) (hl : l ≤ 384) (ho : o ≤ 768)
    (a : ℕ) (ha : a ≤ 192) (s : FVec Ideal S1x128x256 .f32) : FVec Ideal S1x128x256 .f32 :=
  statev (Cert.GlaIdeal.Gen.k0_pay8 (View.ld x3 (Rect.unit (s := S1x256x512) ![0, a, l] ![1, 64, 128] (in_keys a l ha hl))))
    (View.ld x1 (Rect.unit (s := S1x256x512) ![0, a, l] ![1, 64, 128] (in_keys a l ha hl)))
    (View.ld x2 (Rect.unit (s := S1x256x1024) ![0, a, o] ![1, 64, 256] (in_values a o ha ho))) s

/-- A head's state after the four chunks of a point. -/
def pointv (x1 : Vec Ideal S1x256x512 .f32) (x2 : Vec Ideal S1x256x1024 .f32) (x3 : Vec Ideal S1x256x512 .f32) (l o n : ℕ) (hl : l ≤ 384) (ho : o ≤ 768)
    (hn : n ≤ 3) (s : Vec Ideal S4x128x256 .f32) : FVec Ideal S1x128x256 .f32 :=
  chunkv x1 x2 x3 l o hl ho 192 (by decide) (chunkv x1 x2 x3 l o hl ho 128 (by decide) (chunkv x1 x2 x3 l o hl ho 64 (by decide)
    (chunkv x1 x2 x3 l o hl ho 0 (by decide) (View.ld s (Rect.unit (s := S4x128x256) ![n, 0, 0] ![1, 128, 256] (in_states n hn))))))

theorem ld_rows {R N r p : ℕ} {e : EltTy} (X : Vec Ideal ⟨3, ![1, R, N]⟩ e) (a o : ℕ)
    (inb : ∀ q, ![0, a, o] q + ![1, r, p] q ≤ (⟨3, ![1, R, N]⟩ : Shape).size q) (j : Fin r) (q : Fin p) (j' : Fin R) (i : Fin N) (hj : j'.val = a + j.val)
    (hi : i.val = o + q.val) :
    View.ld X (Rect.unit (s := ⟨3, ![1, R, N]⟩) ![0, a, o] ![1, r, p] inb) (ix3 0 j q) = X (ix3 0 j' i) :=
  View.ld_unit_apply_of X _ _ _ _ _ (fun x => by
    match x with
    | ⟨0, _⟩ => rfl
    | ⟨1, _⟩ => exact hj
    | ⟨2, _⟩ => exact hi)

section
variable (x1 : Vec Ideal S1x256x512 .f32) (x2 : Vec Ideal S1x256x1024 .f32) (x3 : Vec Ideal S1x256x512 .f32)
variable (F : Fin 4 → ℕ → Fin 128 → ℝ) (K : Fin 4 → ℕ → Fin 128 → EReal) (V : Fin 4 → ℕ → Fin 256 → EReal) (S : Fin 4 → Fin 128 → Fin 256 → EReal) (n : ℕ)
variable (r1 : ∀ h (r : Fin 256) d, x1 (ix3 0 r (lane h d)) = K h (n + r.val) d) (r2 : ∀ h (r : Fin 256) e, x2 (ix3 0 r (wide h e)) = V h (n + r.val) e)
variable (r3 : ∀ h (r : Fin 256) d, x3 (ix3 0 r (lane h d)) = ((F h (n + r.val) d : ℝ) : EReal))
include r1 r2 r3

theorem chunk_run (h : Fin 4) (l o : ℕ) (hl : l ≤ 384) (ho : o ≤ 768) (el : l = h.val * 128) (eo : o = h.val * 256) (a : ℕ) (ha : a ≤ 192)
    (s : FVec Ideal S1x128x256 .f32) (hs : ∀ d e, s (ix3 0 d e) = runState (F h) (K h) (V h) (S h) (n + a) d e) (d : Fin 128) (e : Fin 256) :
    chunkv x1 x2 x3 l o hl ho a ha s (ix3 0 d e) = runState (F h) (K h) (V h) (S h) (n + a + 64) d e := by
  have lk {e : EltTy} (X : Vec Ideal S1x256x512 e) (j : Fin 64) (d : Fin 128) :
      View.ld X (Rect.unit (s := S1x256x512) ![0, a, l] ![1, 64, 128] (in_keys a l ha hl)) (ix3 0 j d) = X (ix3 0 (⟨a + j.val, by omega⟩ : Fin 256) (lane h d)) :=
    ld_rows X a l _ j d _ _ rfl (by rw [el])
  have lv {e : EltTy} (X : Vec Ideal S1x256x1024 e) (j : Fin 64) (d : Fin 256) :
      View.ld X (Rect.unit (s := S1x256x1024) ![0, a, o] ![1, 64, 256] (in_values a o ha ho)) (ix3 0 j d)
        = X (ix3 0 (⟨a + j.val, by omega⟩ : Fin 256) (wide h d)) :=
    ld_rows X a o _ j d _ _ rfl (by rw [eo])
  refine (statev_apply _ _ _ _ (fun j => F h (n + a + j.val)) (fun j d => ?_) d e).trans ?_
  · refine (gate_apply _ j d).trans ((lk x3 j d).trans ((r3 h _ d).trans ?_))
    rw [Nat.add_assoc]
  · rw [← next_run (F h) (K h) (V h) (S h) (n + a)]
    refine congrFun (congrFun ?_ d) e
    congr 1
    · funext j d
      refine (lk x1 j d).trans ((r1 h _ d).trans ?_)
      rw [Nat.add_assoc]
    · funext j e
      refine (lv x2 j e).trans ((r2 h _ e).trans ?_)
      rw [Nat.add_assoc]
    · funext d e
      exact hs d e

theorem point_run (h : Fin 4) (l o i : ℕ) (hl : l ≤ 384) (ho : o ≤ 768) (hi : i ≤ 3) (el : l = h.val * 128) (eo : o = h.val * 256) (ei : i = h.val)
    (s : Vec Ideal S4x128x256 .f32) (hs : ∀ h d e, s (ix3 h d e) = runState (F h) (K h) (V h) (S h) n d e) (d : Fin 128) (e : Fin 256) :
    pointv x1 x2 x3 l o i hl ho hi s (ix3 0 d e) = runState (F h) (K h) (V h) (S h) (n + 256) d e := by
  have hc := chunk_run x1 x2 x3 F K V S n r1 r2 r3 h l o hl ho el eo
  refine hc 192 _ _ (hc 128 _ _ (hc 64 _ _ (hc 0 _ _ fun d e => ?_))) d e
  refine Eq.trans (View.ld_unit_apply_of s _ _ _ _ (ix3 h d e) (fun x => ?_)) (hs h d e)
  match x with
  | ⟨0, _⟩ => show h.val = i + 0; omega
  | ⟨1, _⟩ => show d.val = 0 + d.val; omega
  | ⟨2, _⟩ => show e.val = 0 + e.val; omega

end

/-- Four heads written last, one above another, make the state, whatever lay below them. -/
theorem states_canon (R : Fin 4 → Fin 128 → Fin 256 → EReal) (P0 P1 P2 P3 : FVec Ideal S1x128x256 .f32) (L : List (View.Piece (Elt Ideal) S4x128x256 .f32))
    (h0 : ∀ i e, P0 (ix3 0 i e) = R 0 i e) (h1 : ∀ i e, P1 (ix3 0 i e) = R 1 i e) (h2 : ∀ i e, P2 (ix3 0 i e) = R 2 i e)
    (h3 : ∀ i e, P3 (ix3 0 i e) = R 3 i e) (h : Fin 4) (i : Fin 128) (e : Fin 256) :
    View.canon (Val := Elt Ideal) (s := S4x128x256) (e := .f32)
      (⟨Rect.unit ![3, 0, 0] ![1, 128, 256] inb_S4x128x256_S1x128x256_3_0_0, P3⟩ ::
       ⟨Rect.unit ![2, 0, 0] ![1, 128, 256] inb_S4x128x256_S1x128x256_2_0_0, P2⟩ ::
       ⟨Rect.unit ![1, 0, 0] ![1, 128, 256] inb_S4x128x256_S1x128x256_1_0_0, P1⟩ ::
       ⟨Rect.unit ![0, 0, 0] ![1, 128, 256] inb_S4x128x256_S1x128x256_0_0_0, P0⟩ :: L) (ix3 h i e) = R h i e := by
  have hp (h : Fin 4) (o : ℕ) (ho : o = h.val) (inb : ∀ a, ![o, 0, 0] a + ![1, 128, 256] a ≤ S4x128x256.size a) (P : FVec Ideal S1x128x256 .f32)
      (hP : ∀ i e, P (ix3 0 i e) = R h i e) (x : S1x128x256.Idx) :
      P x = (fun y : S4x128x256.Idx => R (y 0) (y 1) (y 2)) ((Rect.unit (s := S4x128x256) ![o, 0, 0] ![1, 128, 256] inb).emb x) := by
    obtain ⟨z, i, e, rfl⟩ : ∃ (z : Fin 1) (i : Fin 128) (e : Fin 256), x = ix3 z i e := ⟨x 0, x 1, x 2, eq_ix3 x⟩
    obtain rfl : z = 0 := Subsingleton.elim _ _
    have he : (Rect.unit (s := S4x128x256) ![o, 0, 0] ![1, 128, 256] inb).emb (ix3 0 i e) = ix3 h i e := by
      funext a
      match a with
      | ⟨0, _⟩ => exact Fin.ext ho
      | ⟨1, _⟩ => apply Fin.ext; show 0 + 1 * i.val = i.val; omega
      | ⟨2, _⟩ => apply Fin.ext; show 0 + 1 * e.val = e.val; omega
    rw [he]
    exact hP i e
  refine View.canon_append_of_piecesOf (Val := Elt Ideal) (s := S4x128x256) (e := .f32) (fun y : S4x128x256.Idx => R (y 0) (y 1) (y 2)) L
    [⟨Rect.unit ![3, 0, 0] ![1, 128, 256] inb_S4x128x256_S1x128x256_3_0_0, P3⟩,
       ⟨Rect.unit ![2, 0, 0] ![1, 128, 256] inb_S4x128x256_S1x128x256_2_0_0, P2⟩,
       ⟨Rect.unit ![1, 0, 0] ![1, 128, 256] inb_S4x128x256_S1x128x256_1_0_0, P1⟩,
       ⟨Rect.unit ![0, 0, 0] ![1, 128, 256] inb_S4x128x256_S1x128x256_0_0_0, P0⟩]
    ?_ _ ?_
  · exact ⟨hp 3 3 rfl inb_S4x128x256_S1x128x256_3_0_0 P3 h3, hp 2 2 rfl inb_S4x128x256_S1x128x256_2_0_0 P2 h2,
      hp 1 1 rfl inb_S4x128x256_S1x128x256_1_0_0 P1 h1, hp 0 0 rfl inb_S4x128x256_S1x128x256_0_0_0 P0 h0, trivial⟩
  exact View.cover_of_tiled ([⟨Rect.unit ![3, 0, 0] ![1, 128, 256] inb_S4x128x256_S1x128x256_3_0_0, P3⟩,
       ⟨Rect.unit ![2, 0, 0] ![1, 128, 256] inb_S4x128x256_S1x128x256_2_0_0, P2⟩,
       ⟨Rect.unit ![1, 0, 0] ![1, 128, 256] inb_S4x128x256_S1x128x256_1_0_0, P1⟩,
       ⟨Rect.unit ![0, 0, 0] ![1, 128, 256] inb_S4x128x256_S1x128x256_0_0_0, P0⟩] : List (View.Piece (Elt Ideal) S4x128x256 .f32)) S1x128x256.size (by rfl) _

/-! What a point leaves. -/

section
variable (m : (ℓ : Loc nD τ sig) → Buf (Elt Ideal) ℓ) (c : Dev nD) (t : Fin cfg0.N)
variable (x1 : Vec Ideal S1x256x512 .f32) (x2 : Vec Ideal S1x256x1024 .f32) (x3 : Vec Ideal S1x256x512 .f32)
variable (e1 : iblk m c 1 t = x1) (e2 : iblk m c 2 t = x2) (e3 : iblk m c 3 t = x3)
variable (F : Fin 4 → ℕ → Fin 128 → ℝ) (K : Fin 4 → ℕ → Fin 128 → EReal) (V : Fin 4 → ℕ → Fin 256 → EReal) (S : Fin 4 → Fin 128 → Fin 256 → EReal) (n : ℕ)
variable (r1 : ∀ h (r : Fin 256) d, x1 (ix3 0 r (lane h d)) = K h (n + r.val) d) (r2 : ∀ h (r : Fin 256) e, x2 (ix3 0 r (wide h e)) = V h (n + r.val) e)
variable (r3 : ∀ h (r : Fin 256) d, x3 (ix3 0 r (lane h d)) = ((F h (n + r.val) d : ℝ) : EReal))
include e1 e2 e3 r1 r2 r3

/-- A point in the middle of a stream. -/
theorem step_B (h0 : ¬t.val % 64 = 0) (h1 : ¬t.val % 64 = 63) (s : Vec Ideal S4x128x256 .f32)
    (es : (outsAt0 m c (t.val - 1) (Nat.lt_of_le_of_lt (Nat.sub_le _ _) t.isLt)).2.2 = s)
    (hs : ∀ h d e, s (ix3 h d e) = runState (F h) (K h) (V h) (S h) n d e) (h : Fin 4) (d : Fin 128) (e : Fin 256) :
    (outsAt0 m c t.val t.isLt).2.2 (ix3 h d e) = runState (F h) (K h) (V h) (S h) (n + 256) d e := by
  have hp := fun s hs h l o i hl ho hi el eo ei => point_run x1 x2 x3 F K V S n r1 r2 r3 h l o i hl ho hi el eo ei s hs
  rw [outsAt0_B m c t h0 h1]
  dsimp only
  rw [e1, e2, e3, es]
  generalize iblk m c 0 t = x0
  generalize iblk m c 4 t = x4
  generalize iblk m c 5 t = x5
  generalize iblk m c 6 t = x6
  clear e1 e2 e3 es
  frame_out
  have hr (hw : (Memref.whole cc0_scratch0).IsWhole) : View.read (Elt Ideal) (View.whole cc0_scratch0) (hw.unread s) = s := Memref.IsWhole.read_unread hw s
  simp (disch := decide) only [View.readCov_cons_toLoadRect, View.readCov_skip, hr]
  exact states_canon (fun h => runState (F h) (K h) (V h) (S h) (n + 256)) _ _ _ _ _
    (hp s hs 0 0 0 0 (by decide) (by decide) (by decide) rfl rfl rfl) (hp s hs 1 128 256 1 (by decide) (by decide) (by decide) rfl rfl rfl)
    (hp s hs 2 256 512 2 (by decide) (by decide) (by decide) rfl rfl rfl) (hp s hs 3 384 768 3 (by decide) (by decide) (by decide) rfl rfl rfl) h d e

/-- The first point of a stream. -/
theorem step_A (h0 : t.val % 64 = 0) (h1 : ¬t.val % 64 = 63) (x6 : Vec Ideal S1x4x128x256 .f32) (e6 : iblk m c 6 t = x6)
    (hs : ∀ h d e, x6 (ix4 0 h d e) = runState (F h) (K h) (V h) (S h) n d e) (h : Fin 4) (d : Fin 128) (e : Fin 256) :
    (outsAt0 m c t.val t.isLt).2.2 (ix3 h d e) = runState (F h) (K h) (V h) (S h) (n + 256) d e := by
  have hp := fun s hs h l o i hl ho hi el eo ei => point_run x1 x2 x3 F K V S n r1 r2 r3 h l o i hl ho hi el eo ei s hs
  have hk (h : Fin 4) (d : Fin 128) (e : Fin 256) : k0_pay3 x6 (ix3 h d e) = runState (F h) (K h) (V h) (S h) n d e := by
    rw [← hs]
    pointwise [k0_pay3]
  rw [outsAt0_A m c t h0 h1]
  dsimp only
  rw [e1, e2, e3, e6]
  generalize iblk m c 0 t = x0
  generalize iblk m c 4 t = x4
  generalize iblk m c 5 t = x5
  clear e1 e2 e3 e6
  frame_out
  simp (disch := decide) only [View.readCov_cons_toLoadRect, View.readCov_skip, View.readCov_fill]
  exact states_canon (fun h => runState (F h) (K h) (V h) (S h) (n + 256)) _ _ _ _ _
    (hp _ hk 0 0 0 0 (by decide) (by decide) (by decide) rfl rfl rfl) (hp _ hk 1 128 256 1 (by decide) (by decide) (by decide) rfl rfl rfl)
    (hp _ hk 2 256 512 2 (by decide) (by decide) (by decide) rfl rfl rfl) (hp _ hk 3 384 768 3 (by decide) (by decide) (by decide) rfl rfl rfl) h d e

/-- The last point of a stream writes the state out. -/
theorem step_C (h0 : ¬t.val % 64 = 0) (h1 : t.val % 64 = 63) (s : Vec Ideal S4x128x256 .f32)
    (es : (outsAt0 m c (t.val - 1) (Nat.lt_of_le_of_lt (Nat.sub_le _ _) t.isLt)).2.2 = s)
    (hs : ∀ h d e, s (ix3 h d e) = runState (F h) (K h) (V h) (S h) n d e) (h : Fin 4) (d : Fin 128) (e : Fin 256) :
    (outsAt0 m c t.val t.isLt).2.1 (ix4 0 h d e) = runState (F h) (K h) (V h) (S h) (n + 256) d e := by
  have hp := fun s hs h l o i hl ho hi el eo ei => point_run x1 x2 x3 F K V S n r1 r2 r3 h l o i hl ho hi el eo ei s hs
  have hk (A : FVec Ideal S4x128x256 .f32) : k0_pay2 (F := Ideal) A (ix4 0 h d e) = A (ix3 h d e) := by
    pointwise [k0_pay2]
  have hi : (Rect.unit (s := S4x128x256) ![0, 0, 0] ![4, 128, 256] inb_S4x128x256_S4x128x256_0_0_0).idx (ix3 h d e) = ix3 h d e := by
    funext a
    match a with
    | ⟨0, _⟩ => apply Fin.ext; show 0 + 1 * h.val = h.val; omega
    | ⟨1, _⟩ => apply Fin.ext; show 0 + 1 * d.val = d.val; omega
    | ⟨2, _⟩ => apply Fin.ext; show 0 + 1 * e.val = e.val; omega
  rw [outsAt0_C m c t h0 h1]
  dsimp only
  rw [e1, e2, e3, es]
  generalize iblk m c 0 t = x0
  generalize iblk m c 4 t = x4
  generalize iblk m c 5 t = x5
  generalize iblk m c 6 t = x6
  clear e1 e2 e3 es
  frame_out
  have hr (hw : (Memref.whole cc0_scratch0).IsWhole) : View.read (Elt Ideal) (View.whole cc0_scratch0) (hw.unread s) = s := Memref.IsWhole.read_unread hw s
  simp (disch := decide) only [View.readCov_cons_toLoadRect, View.readCov_skip, hr]
  simp (disch := decide) only [View.readCov_eq_canon', View.canon_cons_unit_lit']
  refine (hk _).trans ((congrArg _ hi).trans ?_)
  exact states_canon (fun h => runState (F h) (K h) (V h) (S h) (n + 256)) _ _ _ _ _
    (hp s hs 0 0 0 0 (by decide) (by decide) (by decide) rfl rfl rfl) (hp s hs 1 128 256 1 (by decide) (by decide) (by decide) rfl rfl rfl)
    (hp s hs 2 256 512 2 (by decide) (by decide) (by decide) rfl rfl rfl) (hp s hs 3 384 768 3 (by decide) (by decide) (by decide) rfl rfl rfl) h d e

end

/-! The arrays the blocks come from. -/

theorem idx : ∀ t : Fin cfg0.N, win0_1.index t = ![t.val / 64, t.val % 64, 0] ∧ win0_2.index t = ![t.val / 64, t.val % 64, 0]
    ∧ win0_3.index t = ![t.val / 64, t.val % 64, 0] ∧ win0_6.index t = ![t.val / 64, 0, 0, 0] ∧ win0_8.index t = ![t.val / 64, 0, 0, 0] ∧ t.val < 128 :=
  (by decide +kernel : ∀ t : Fin grid0.N, _)

theorem lt (t : Fin cfg0.N) : t.val < 128 := (idx t).2.2.2.2.2

/-- The stream of a point. -/
abbrev bat (t : Fin cfg0.N) : Fin 2 := ⟨t.val / 64, by have h := lt t; omega⟩

/-- The frame of a row of a point. -/
abbrev frame (t : Fin cfg0.N) (r : Fin 256) : Fin 16384 := ⟨t.val % 64 * 256 + r.val, by omega⟩

variable (m : (ℓ : Loc nD τ sig) → Buf (Elt Ideal) ℓ)

theorem read1 (c : Dev nD) (t : Fin cfg0.N) (r : Fin 256) (x : Fin 512) : (iblk m c 1 t : FVec Ideal S1x256x512 .f32) (ix3 0 r x)
    = (m ((c : Thread nD τ).loc main_arg1) : FVec Ideal S2x16384x512 .f32) (ix3 (bat t) (frame t r) x) := by
  blk_ext [iblk, V, (idx t).1]

theorem read2 (c : Dev nD) (t : Fin cfg0.N) (r : Fin 256) (x : Fin 1024) : (iblk m c 2 t : FVec Ideal S1x256x1024 .f32) (ix3 0 r x)
    = (m ((c : Thread nD τ).loc main_arg2) : FVec Ideal S2x16384x1024 .f32) (ix3 (bat t) (frame t r) x) := by
  blk_ext [iblk, V, (idx t).2.1]

theorem read3 (c : Dev nD) (t : Fin cfg0.N) (r : Fin 256) (x : Fin 512) : (iblk m c 3 t : FVec Ideal S1x256x512 .f32) (ix3 0 r x)
    = (m ((c : Thread nD τ).loc main_arg3) : FVec Ideal S2x16384x512 .f32) (ix3 (bat t) (frame t r) x) := by
  blk_ext [iblk, V, (idx t).2.2.1]

theorem read6 (c : Dev nD) (t : Fin cfg0.N) (h : Fin 4) (d : Fin 128) (e : Fin 256) : (iblk m c 6 t : FVec Ideal S1x4x128x256 .f32) (ix4 0 h d e)
    = (m ((c : Thread nD τ).loc main_arg6) : FVec Ideal S2x4x128x256 .f32) (ix4 (bat t) h d e) := by
  blk_ext [iblk, V, (idx t).2.2.2.1]

/-! From the first point to the last. -/

variable (c : Dev nD) (F : Fin 2 → Fin 4 → ℕ → Fin 128 → ℝ)
variable (hf : ∀ b h (j : Fin 16384) d, (m ((c : Thread nD τ).loc main_arg3) : FVec Ideal S2x16384x512 .f32) (ix3 b j (lane h d)) = ((F b h j.val d : ℝ) : EReal))

/-- The state of stream `b` and head `h` after `n` frames of the kernel's arguments. -/
abbrev stateOf (b : Fin 2) (h : Fin 4) (n : ℕ) : Fin 128 → Fin 256 → EReal :=
  runState (F b h) (keys (m ((c : Thread nD τ).loc main_arg1)) b h) (values (m ((c : Thread nD τ).loc main_arg2)) b h)
    (before (m ((c : Thread nD τ).loc main_arg6)) b h) n

theorem rows1 (t : Fin cfg0.N) (h : Fin 4) (r : Fin 256) (d : Fin 128) : (iblk m c 1 t : FVec Ideal S1x256x512 .f32) (ix3 0 r (lane h d))
    = keys (m ((c : Thread nD τ).loc main_arg1)) (bat t) h (t.val % 64 * 256 + r.val) d := by
  rw [read1, keys, dif_pos (frame t r).isLt]

theorem rows2 (t : Fin cfg0.N) (h : Fin 4) (r : Fin 256) (e : Fin 256) : (iblk m c 2 t : FVec Ideal S1x256x1024 .f32) (ix3 0 r (wide h e))
    = values (m ((c : Thread nD τ).loc main_arg2)) (bat t) h (t.val % 64 * 256 + r.val) e := by
  rw [read2, values, dif_pos (frame t r).isLt]

include hf

theorem rows3 (t : Fin cfg0.N) (h : Fin 4) (r : Fin 256) (d : Fin 128) : (iblk m c 3 t : FVec Ideal S1x256x512 .f32) (ix3 0 r (lane h d))
    = ((F (bat t) h (t.val % 64 * 256 + r.val) d : ℝ) : EReal) := by
  rw [read3, hf]

/-- The scratch after a point of a stream, before its last: the state after the point's frames. -/
theorem scratch_run (k : ℕ) (hk : k < 63) (t : Fin cfg0.N) (ht : t.val % 64 = k) (h : Fin 4) (d : Fin 128) (e : Fin 256) :
    (outsAt0 m c t.val t.isLt).2.2 (ix3 h d e) = stateOf m c F (bat t) h (k * 256 + 256) d e := by
  induction k generalizing t h d e with
  | zero =>
    refine step_A m c t _ _ _ rfl rfl rfl (F (bat t)) (keys _ (bat t)) (values _ (bat t)) (before _ (bat t)) (0 * 256) ?_ ?_ ?_ ht (by omega) _ rfl ?_ h d e
    · intro h r d; rw [rows1, ht]
    · intro h r d; rw [rows2, ht]
    · intro h r d; rw [rows3 m c F hf, ht]
    · intro h d e
      rw [Nat.zero_mul, runState_zero]
      exact read6 m c t h d e
  | succ k ih =>
    have hlt := lt t
    have hl : t.val - 1 < cfg0.N := Nat.lt_of_le_of_lt (Nat.sub_le _ _) t.isLt
    have hb : bat (⟨t.val - 1, hl⟩ : Fin cfg0.N) = bat t := Fin.ext (by show (t.val - 1) / 64 = t.val / 64; omega)
    refine step_B m c t _ _ _ rfl rfl rfl (F (bat t)) (keys _ (bat t)) (values _ (bat t)) (before _ (bat t)) ((k + 1) * 256) ?_ ?_ ?_ (by omega) (by omega) _ rfl ?_ h d e
    · intro h r d; rw [rows1, ht]
    · intro h r d; rw [rows2, ht]
    · intro h r d; rw [rows3 m c F hf, ht]
    · intro h d e
      refine (ih (by omega) ⟨t.val - 1, hl⟩ (by show (t.val - 1) % 64 = k; omega) h d e).trans ?_
      rw [hb, Nat.succ_mul]

/-- The block of a stream's last point is the state after its last frame. -/
theorem last_run (t : Fin cfg0.N) (ht : t.val % 64 = 63) (h : Fin 4) (d : Fin 128) (e : Fin 256) :
    (outsAt0 m c t.val t.isLt).2.1 (ix4 0 h d e) = stateOf m c F (bat t) h 16384 d e := by
  have hlt := lt t
  have hl : t.val - 1 < cfg0.N := Nat.lt_of_le_of_lt (Nat.sub_le _ _) t.isLt
  have hb : bat (⟨t.val - 1, hl⟩ : Fin cfg0.N) = bat t := Fin.ext (by show (t.val - 1) / 64 = t.val / 64; omega)
  refine step_C m c t _ _ _ rfl rfl rfl (F (bat t)) (keys _ (bat t)) (values _ (bat t)) (before _ (bat t)) (63 * 256) ?_ ?_ ?_ (by omega) ht _ rfl ?_ h d e
  · intro h r d; rw [rows1, ht]
  · intro h r d; rw [rows2, ht]
  · intro h r d; rw [rows3 m c F hf, ht]
  · intro h d e
    refine (scratch_run m c F hf 62 (by decide) ⟨t.val - 1, hl⟩ (by show (t.val - 1) % 64 = 62; omega) h d e).trans ?_
    rw [hb]

/-- The reference's state of the kernel's arguments. -/
def goalState : FVec Ideal S2x4x128x256 .f32 :=
  Cert.GlaPromptRefIdeal.Read.val_main_v16 (F := Ideal) (m ((c : Thread nD τ).loc main_arg1)) (m ((c : Thread nD τ).loc main_arg2))
    (m ((c : Thread nD τ).loc main_arg3)) (m ((c : Thread nD τ).loc main_arg6))

omit hf in
theorem flushes : ∀ t : Fin cfg0.N, (cfg0.win 8).flush t = true → t.val % 64 = 63 := by
  decide +kernel

/-- The state array is the reference's. -/
theorem finalState : (dats m 0 c).arrAt 8 (cfgs 0).N = goalState m c := by
  refine (dats m 0 c).arrAt_eq_of_covers 8 _ (by decide +kernel) fun t hfl y => ?_
  obtain ⟨b, h, d, e, rfl⟩ : ∃ (b : Fin 1) (h : Fin 4) (d : Fin 128) (e : Fin 256), y = ix4 b h d e := ⟨y 0, y 1, y 2, y 3, eq_ix4 y⟩
  obtain rfl : b = 0 := Subsingleton.elim _ _
  have he : (((cfg0.win 8).blk t).view.emb (ix4 (0 : Fin 1) h d e)) = ix4 (bat t) h d e := by
    blk_ext [(idx t).2.2.2.2.1]
  have hl := last_run m c F hf t (flushes t hfl) h d e
  rw [he]
  refine Eq.trans ?_ (hl.trans (state_ref _ _ _ _ F hf (bat t) h d e).symm)
  blk_simp
  rw [after0_8]

end

end Cert.GlaPromptIdeal.Hand

namespace Cert.Proof

/-- Under real log gates the kernel and the reference end with the same state. -/
theorem glaprompt_algebraic : Cert.algebraic_GlaPromptIdeal_GlaPromptRefIdeal_pre_finite_gate_prompt
    (hGlaPromptIdeal := Cert.GlaPromptIdeal.Gen.facts) (hGlaPromptRefIdeal := Cert.GlaPromptRefIdeal.Gen.facts)
    (hPre_finite_gate_prompt := Cert.Pre_finite_gate_prompt.Gen.facts) := by
  pair_intro
  · run_from Cert.GlaPromptIdeal.Value.run_blocks m g
  · refine (θ_run _ _ _).mono (fun r h c => ?_) (Cert.GlaPromptRefIdeal.Value.run m' g')
    obtain ⟨a0, a1, a2, a3, a4, a5, a6⟩ := hagree c
    obtain ⟨F, hf⟩ := Cert.GlaPromptIdeal.Hand.gates_real _ _ _ _ _ _ _ (hpre c)
    refine ⟨(h c).1.trans ?_, (h c).2⟩
    refine Eq.trans ?_ (Cert.GlaPromptIdeal.Hand.finalState m c F hf).symm
    rw [a1, a2, a3, a6]
    unfold Cert.GlaPromptIdeal.Hand.goalState
    exact Cert.GlaPromptRefIdeal.Read.val_main_v16_eq _ _ _ _

end Cert.Proof

end
-- ==== Proof.lean ====
/- The claims of this certificate, each proved in the module named for its program. -/
module

public import proofs.«01_k».proof.Defs
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaRefIdeal
public import proofs.«01_k».proof.Proof.Gen.GlaRefIdeal.Run
public import proofs.«01_k».proof.Proof.GlaValue
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.FfnValue
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.MemKvRefIdeal.Run
public import proofs.«01_k».proof.Proof.MemKvValue
public import proofs.«01_k».proof.Proof.Gen.ProjAttn
public import proofs.«01_k».proof.Proof.Gen.ProjAttn.Skeleton
public import proofs.«01_k».proof.Proof.Gen.ProjAttn.Launch
public import proofs.«01_k».proof.Proof.Gen.ProjAttn.Points
public import proofs.«01_k».proof.Proof.Gen.ProjAttn.Frame
public import proofs.«01_k».proof.Proof.Gen.ProjAttnIdeal
public import proofs.«01_k».proof.Proof.Gen.ProjAttnIdeal.Skeleton
public import proofs.«01_k».proof.Proof.Gen.ProjAttnIdeal.Launch
public import proofs.«01_k».proof.Proof.Gen.ProjAttnIdeal.Points
public import proofs.«01_k».proof.Proof.Gen.ProjAttnIdeal.Frame
public import proofs.«01_k».proof.Proof.Gen.ProjAttnRefIdeal
public import proofs.«01_k».proof.Proof.Gen.ProjAttnRefIdeal.Run
public import proofs.«01_k».proof.Proof.ProjAttnValue
public import proofs.«01_k».proof.Proof.Gen.ProjGla
public import proofs.«01_k».proof.Proof.Gen.ProjGla.Skeleton
public import proofs.«01_k».proof.Proof.Gen.ProjGla.Launch
public import proofs.«01_k».proof.Proof.Gen.ProjGla.Points
public import proofs.«01_k».proof.Proof.Gen.ProjGla.Frame
public import proofs.«01_k».proof.Proof.Gen.ProjGlaIdeal
public import proofs.«01_k».proof.Proof.Gen.ProjGlaIdeal.Skeleton
public import proofs.«01_k».proof.Proof.Gen.ProjGlaIdeal.Launch
public import proofs.«01_k».proof.Proof.Gen.ProjGlaIdeal.Points
public import proofs.«01_k».proof.Proof.Gen.ProjGlaIdeal.Frame
public import proofs.«01_k».proof.Proof.Gen.ProjGlaRefIdeal
public import proofs.«01_k».proof.Proof.Gen.ProjGlaRefIdeal.Run
public import proofs.«01_k».proof.Proof.ProjGlaValue
public import proofs.«01_k».proof.Proof.Gen.MixMem
public import proofs.«01_k».proof.Proof.Gen.MixMem.Skeleton
public import proofs.«01_k».proof.Proof.Gen.MixMem.Launch
public import proofs.«01_k».proof.Proof.Gen.MixMem.Points
public import proofs.«01_k».proof.Proof.Gen.MixMem.Frame
public import proofs.«01_k».proof.Proof.Gen.MixMemIdeal
public import proofs.«01_k».proof.Proof.Gen.MixMemIdeal.Skeleton
public import proofs.«01_k».proof.Proof.Gen.MixMemIdeal.Launch
public import proofs.«01_k».proof.Proof.Gen.MixMemIdeal.Points
public import proofs.«01_k».proof.Proof.Gen.MixMemIdeal.Frame
public import proofs.«01_k».proof.Proof.Gen.MixMemRefIdeal
public import proofs.«01_k».proof.Proof.Gen.MixMemRefIdeal.Run
public import proofs.«01_k».proof.Proof.MixMemValue
public import proofs.«01_k».proof.Proof.Gen.ProjAttnSample
public import proofs.«01_k».proof.Proof.Gen.ProjAttnSample.Skeleton
public import proofs.«01_k».proof.Proof.Gen.ProjAttnSample.Launch
public import proofs.«01_k».proof.Proof.Gen.ProjAttnSample.Points
public import proofs.«01_k».proof.Proof.Gen.ProjAttnSample.Frame
public import proofs.«01_k».proof.Proof.Gen.ProjAttnSampleIdeal
public import proofs.«01_k».proof.Proof.Gen.ProjAttnSampleIdeal.Skeleton
public import proofs.«01_k».proof.Proof.Gen.ProjAttnSampleIdeal.Launch
public import proofs.«01_k».proof.Proof.Gen.ProjAttnSampleIdeal.Points
public import proofs.«01_k».proof.Proof.Gen.ProjAttnSampleIdeal.Frame
public import proofs.«01_k».proof.Proof.Gen.ProjAttnSampleRefIdeal
public import proofs.«01_k».proof.Proof.Gen.ProjAttnSampleRefIdeal.Run
public import proofs.«01_k».proof.Proof.ProjAttnSampleValue
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleRefIdeal
public import proofs.«01_k».proof.Proof.Gen.FfnSampleRefIdeal.Run
public import proofs.«01_k».proof.Proof.FfnSampleValue
public import proofs.«01_k».proof.Proof.Gen.GlaPrompt
public import proofs.«01_k».proof.Proof.Gen.GlaPrompt.Skeleton
public import proofs.«01_k».proof.Proof.Gen.GlaPrompt.Launch
public import proofs.«01_k».proof.Proof.Gen.GlaPrompt.Points
public import proofs.«01_k».proof.Proof.Gen.GlaPrompt.Frame
public import proofs.«01_k».proof.Proof.Gen.GlaPromptIdeal
public import proofs.«01_k».proof.Proof.Gen.GlaPromptIdeal.Skeleton
public import proofs.«01_k».proof.Proof.Gen.GlaPromptIdeal.Launch
public import proofs.«01_k».proof.Proof.Gen.GlaPromptIdeal.Points
public import proofs.«01_k».proof.Proof.Gen.GlaPromptIdeal.Frame
public import proofs.«01_k».proof.Proof.Gen.GlaPromptRefIdeal
public import proofs.«01_k».proof.Proof.Gen.GlaPromptRefIdeal.Run
public import proofs.«01_k».proof.Proof.GlaPromptValue
public import proofs.«01_k».proof.Proof.Gen.Pre_finite_gate
public import proofs.«01_k».proof.Proof.Gen.Pre_finite_gate_prompt
public import Idealize.ShloMosaic.Adequacy
public import Idealize.ShloMosaic.Init

@[expose] public section

noncomputable section

namespace Cert.Proof

open Idealize.ShloMosaic Idealize.SL.Sem

/-- Every program ends, drains and writes only its result; the kernels keep their meaning over the reals; and each kernel's result is
its reference's. -/
theorem claim : Cert.Claim := ⟨Cert.Gla.Gen.facts, Cert.GlaIdeal.Gen.facts, Cert.GlaRefIdeal.Gen.facts, Cert.Ffn.Gen.facts, Cert.FfnIdeal.Gen.facts, Cert.FfnRefIdeal.Gen.facts, Cert.MemKv.Gen.facts, Cert.MemKvIdeal.Gen.facts, Cert.MemKvRefIdeal.Gen.facts, Cert.ProjAttn.Gen.facts, Cert.ProjAttnIdeal.Gen.facts, Cert.ProjAttnRefIdeal.Gen.facts, Cert.ProjGla.Gen.facts, Cert.ProjGlaIdeal.Gen.facts, Cert.ProjGlaRefIdeal.Gen.facts, Cert.MixMem.Gen.facts, Cert.MixMemIdeal.Gen.facts, Cert.MixMemRefIdeal.Gen.facts, Cert.ProjAttnSample.Gen.facts, Cert.ProjAttnSampleIdeal.Gen.facts, Cert.ProjAttnSampleRefIdeal.Gen.facts, Cert.FfnSample.Gen.facts, Cert.FfnSampleIdeal.Gen.facts, Cert.FfnSampleRefIdeal.Gen.facts, Cert.GlaPrompt.Gen.facts, Cert.GlaPromptIdeal.Gen.facts, Cert.GlaPromptRefIdeal.Gen.facts, Cert.Pre_finite_gate.Gen.facts, Cert.Pre_finite_gate_prompt.Gen.facts,
  fun m g _ => Cert.Gla.Gen.frame m g,
  fun m g _ => Cert.GlaIdeal.Gen.frame m g,
  fun m g _ => Cert.GlaIdeal.Gen.frame m g,
  fun m g _ => (θ_run Cert.GlaRefIdeal.defs _ _).mono (fun r h => ⟨fun c => (h c).2.2, sem_eq_zero_of_no_sems (by decide) r.2⟩) (Cert.GlaRefIdeal.Value.run m g),
  fun m g _ => (θ_run Cert.GlaRefIdeal.defs _ _).mono (fun r h => ⟨fun c => (h c).2.2, sem_eq_zero_of_no_sems (by decide) r.2⟩) (Cert.GlaRefIdeal.Value.run m g),
  fun m g _ => Cert.Ffn.Gen.frame m g,
  fun m g _ => Cert.FfnIdeal.Gen.frame m g,
  fun m g _ => (θ_run Cert.FfnRefIdeal.defs _ _).mono (fun r h => ⟨fun c => (h c).2, sem_eq_zero_of_no_sems (by decide) r.2⟩) (Cert.FfnRefIdeal.Value.run m g),
  fun m g _ => Cert.MemKv.Gen.frame m g,
  fun m g _ => Cert.MemKvIdeal.Gen.frame m g,
  fun m g _ => (θ_run Cert.MemKvRefIdeal.defs _ _).mono (fun r h => ⟨fun c => (h c).2, sem_eq_zero_of_no_sems (by decide) r.2⟩) (Cert.MemKvRefIdeal.Value.run m g),
  fun m g _ => Cert.ProjAttn.Gen.frame m g,
  fun m g _ => Cert.ProjAttnIdeal.Gen.frame m g,
  fun m g _ => (θ_run Cert.ProjAttnRefIdeal.defs _ _).mono (fun r h => ⟨fun c => (h c).2.2.2.2.2.2, sem_eq_zero_of_no_sems (by decide) r.2⟩) (Cert.ProjAttnRefIdeal.Value.run m g),
  fun m g _ => Cert.ProjGla.Gen.frame m g,
  fun m g _ => Cert.ProjGlaIdeal.Gen.frame m g,
  fun m g _ => (θ_run Cert.ProjGlaRefIdeal.defs _ _).mono (fun r h => ⟨fun c => (h c).2.2.2.2, sem_eq_zero_of_no_sems (by decide) r.2⟩) (Cert.ProjGlaRefIdeal.Value.run m g),
  fun m g _ => Cert.MixMem.Gen.frame m g,
  fun m g _ => Cert.MixMemIdeal.Gen.frame m g,
  fun m g _ => (θ_run Cert.MixMemRefIdeal.defs _ _).mono (fun r h => ⟨fun c => (h c).2, sem_eq_zero_of_no_sems (by decide) r.2⟩) (Cert.MixMemRefIdeal.Value.run m g),
  fun m g _ => Cert.ProjAttnSample.Gen.frame m g,
  fun m g _ => Cert.ProjAttnSampleIdeal.Gen.frame m g,
  fun m g _ => (θ_run Cert.ProjAttnSampleRefIdeal.defs _ _).mono (fun r h => ⟨fun c => (h c).2.2.2, sem_eq_zero_of_no_sems (by decide) r.2⟩) (Cert.ProjAttnSampleRefIdeal.Value.run m g),
  fun m g _ => Cert.FfnSample.Gen.frame m g,
  fun m g _ => Cert.FfnSampleIdeal.Gen.frame m g,
  fun m g _ => (θ_run Cert.FfnSampleRefIdeal.defs _ _).mono (fun r h => ⟨fun c => (h c).2, sem_eq_zero_of_no_sems (by decide) r.2⟩) (Cert.FfnSampleRefIdeal.Value.run m g),
  fun m g _ => Cert.GlaPrompt.Gen.frame m g,
  fun m g _ => Cert.GlaPromptIdeal.Gen.frame m g,
  fun m g _ => Cert.GlaPromptIdeal.Gen.frame m g,
  fun m g _ => (θ_run Cert.GlaPromptRefIdeal.defs _ _).mono (fun r h => ⟨fun c => (h c).2, sem_eq_zero_of_no_sems (by decide) r.2⟩) (Cert.GlaPromptRefIdeal.Value.run m g),
  fun m g _ => (θ_run Cert.GlaPromptRefIdeal.defs _ _).mono (fun r h => ⟨fun c => (h c).2, sem_eq_zero_of_no_sems (by decide) r.2⟩) (Cert.GlaPromptRefIdeal.Value.run m g),
  trivial,
  gla_algebraic,
  trivial,
  ffn_algebraic,
  trivial,
  memkv_algebraic,
  trivial,
  projattn_algebraic,
  trivial,
  projgla_algebraic,
  trivial,
  mixmem_algebraic,
  trivial,
  projattnsample_algebraic,
  trivial,
  ffnsample_algebraic,
  trivial,
  glaprompt_algebraic⟩

end Cert.Proof

end
